-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_rank [hPre_full_rank : Cert.Pre_full_rank.Facts] (m : (ℓ : Loc Cert.KernelIdeal.nD Cert.KernelIdeal.τ Cert.KernelIdeal.sig) → Buf (Elt Ideal) ℓ) : Prop :=
  ∀ c : Dev Cert.KernelIdeal.nD,
    (Cert.Pre_full_rank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_full_rank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_full_rank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_full_rank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_full_rank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_full_rank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_rank [hPre_full_rank : Cert.Pre_full_rank.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_rank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_full_rank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_full_rank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_full_rank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_full_rank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_full_rank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def Pre_Requant (m : (ℓ : Loc Cert.Requant.nD Cert.Requant.τ Cert.Requant.sig) → Buf (Elt Bits) ℓ) : Prop :=
  True

def Pre_RequantIdeal (m : (ℓ : Loc Cert.RequantIdeal.nD Cert.RequantIdeal.τ Cert.RequantIdeal.sig) → Buf (Elt Ideal) ℓ) : Prop :=
  True

def Pre_RequantIdeal_finite_factors [hPre_finite_factors : Cert.Pre_finite_factors.Facts] (m : (ℓ : Loc Cert.RequantIdeal.nD Cert.RequantIdeal.τ Cert.RequantIdeal.sig) → Buf (Elt Ideal) ℓ) : Prop :=
  ∀ c : Dev Cert.RequantIdeal.nD,
    (Cert.Pre_finite_factors.fn (F := Ideal) (m ((c.tc : Thread Cert.RequantIdeal.nD Cert.RequantIdeal.τ).loc Cert.RequantIdeal.main_arg0)) (m ((c.tc : Thread Cert.RequantIdeal.nD Cert.RequantIdeal.τ).loc Cert.RequantIdeal.main_arg1)) (m ((c.tc : Thread Cert.RequantIdeal.nD Cert.RequantIdeal.τ).loc Cert.RequantIdeal.main_arg2)) (m ((c.tc : Thread Cert.RequantIdeal.nD Cert.RequantIdeal.τ).loc Cert.RequantIdeal.main_arg3)) (m ((c.tc : Thread Cert.RequantIdeal.nD Cert.RequantIdeal.τ).loc Cert.RequantIdeal.main_arg4)) (m ((c.tc : Thread Cert.RequantIdeal.nD Cert.RequantIdeal.τ).loc Cert.RequantIdeal.main_arg5))).1 = (fun _ => 1#1)
    ∧ (Cert.Pre_finite_factors.fn (F := Ideal) (m ((c.tc : Thread Cert.RequantIdeal.nD Cert.RequantIdeal.τ).loc Cert.RequantIdeal.main_arg0)) (m ((c.tc : Thread Cert.RequantIdeal.nD Cert.RequantIdeal.τ).loc Cert.RequantIdeal.main_arg1)) (m ((c.tc : Thread Cert.RequantIdeal.nD Cert.RequantIdeal.τ).loc Cert.RequantIdeal.main_arg2)) (m ((c.tc : Thread Cert.RequantIdeal.nD Cert.RequantIdeal.τ).loc Cert.RequantIdeal.main_arg3)) (m ((c.tc : Thread Cert.RequantIdeal.nD Cert.RequantIdeal.τ).loc Cert.RequantIdeal.main_arg4)) (m ((c.tc : Thread Cert.RequantIdeal.nD Cert.RequantIdeal.τ).loc Cert.RequantIdeal.main_arg5))).2 = (fun _ => 1#1)

def Pre_RequantReferenceIdeal (m : (ℓ : Loc Cert.RequantReferenceIdeal.nD Cert.RequantReferenceIdeal.τ Cert.RequantReferenceIdeal.sig) → Buf (Elt Ideal) ℓ) : Prop :=
  True

def Pre_RequantReferenceIdeal_finite_factors [hPre_finite_factors : Cert.Pre_finite_factors.Facts] (m : (ℓ : Loc Cert.RequantReferenceIdeal.nD Cert.RequantReferenceIdeal.τ Cert.RequantReferenceIdeal.sig) → Buf (Elt Ideal) ℓ) : Prop :=
  ∀ c : Dev Cert.RequantReferenceIdeal.nD,
    (Cert.Pre_finite_factors.fn (F := Ideal) (m ((c.tc : Thread Cert.RequantReferenceIdeal.nD Cert.RequantReferenceIdeal.τ).loc Cert.RequantReferenceIdeal.main_arg0)) (m ((c.tc : Thread Cert.RequantReferenceIdeal.nD Cert.RequantReferenceIdeal.τ).loc Cert.RequantReferenceIdeal.main_arg1)) (m ((c.tc : Thread Cert.RequantReferenceIdeal.nD Cert.RequantReferenceIdeal.τ).loc Cert.RequantReferenceIdeal.main_arg2)) (m ((c.tc : Thread Cert.RequantReferenceIdeal.nD Cert.RequantReferenceIdeal.τ).loc Cert.RequantReferenceIdeal.main_arg3)) (m ((c.tc : Thread Cert.RequantReferenceIdeal.nD Cert.RequantReferenceIdeal.τ).loc Cert.RequantReferenceIdeal.main_arg4)) (m ((c.tc : Thread Cert.RequantReferenceIdeal.nD Cert.RequantReferenceIdeal.τ).loc Cert.RequantReferenceIdeal.main_arg5))).1 = (fun _ => 1#1)
    ∧ (Cert.Pre_finite_factors.fn (F := Ideal) (m ((c.tc : Thread Cert.RequantReferenceIdeal.nD Cert.RequantReferenceIdeal.τ).loc Cert.RequantReferenceIdeal.main_arg0)) (m ((c.tc : Thread Cert.RequantReferenceIdeal.nD Cert.RequantReferenceIdeal.τ).loc Cert.RequantReferenceIdeal.main_arg1)) (m ((c.tc : Thread Cert.RequantReferenceIdeal.nD Cert.RequantReferenceIdeal.τ).loc Cert.RequantReferenceIdeal.main_arg2)) (m ((c.tc : Thread Cert.RequantReferenceIdeal.nD Cert.RequantReferenceIdeal.τ).loc Cert.RequantReferenceIdeal.main_arg3)) (m ((c.tc : Thread Cert.RequantReferenceIdeal.nD Cert.RequantReferenceIdeal.τ).loc Cert.RequantReferenceIdeal.main_arg4)) (m ((c.tc : Thread Cert.RequantReferenceIdeal.nD Cert.RequantReferenceIdeal.τ).loc Cert.RequantReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_full_rank [hKernelIdeal : Cert.KernelIdeal.Facts] [hPre_full_rank : Cert.Pre_full_rank.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_rank m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_full_rank [hReferenceIdeal : Cert.ReferenceIdeal.Facts] [hPre_full_rank : Cert.Pre_full_rank.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_rank m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Requant [hRequant : Cert.Requant.Facts] : Prop :=
  ∀ (m : (ℓ : Loc Cert.Requant.nD Cert.Requant.τ Cert.Requant.sig) → Buf (Elt Bits) ℓ) (g : Dev Cert.Requant.nD → PrngReg), Pre_Requant m →
    θ_run (Cert.Requant.defs (F := Bits)) (onTc (τ := Cert.Requant.τ) (Cert.Requant.main (F := Bits))) ⟨m, fun _ => 0, g⟩ (fun r => (∀ c : Dev Cert.Requant.nD,
      r.2.mem ((c.tc : Thread Cert.Requant.nD Cert.Requant.τ).loc Cert.Requant.main_arg0) = m ((c.tc : Thread Cert.Requant.nD Cert.Requant.τ).loc Cert.Requant.main_arg0)
      ∧ r.2.mem ((c.tc : Thread Cert.Requant.nD Cert.Requant.τ).loc Cert.Requant.main_arg1) = m ((c.tc : Thread Cert.Requant.nD Cert.Requant.τ).loc Cert.Requant.main_arg1)
      ∧ r.2.mem ((c.tc : Thread Cert.Requant.nD Cert.Requant.τ).loc Cert.Requant.main_arg2) = m ((c.tc : Thread Cert.Requant.nD Cert.Requant.τ).loc Cert.Requant.main_arg2)
      ∧ r.2.mem ((c.tc : Thread Cert.Requant.nD Cert.Requant.τ).loc Cert.Requant.main_arg3) = m ((c.tc : Thread Cert.Requant.nD Cert.Requant.τ).loc Cert.Requant.main_arg3)
      ∧ r.2.mem ((c.tc : Thread Cert.Requant.nD Cert.Requant.τ).loc Cert.Requant.main_arg4) = m ((c.tc : Thread Cert.Requant.nD Cert.Requant.τ).loc Cert.Requant.main_arg4)
      ∧ r.2.mem ((c.tc : Thread Cert.Requant.nD Cert.Requant.τ).loc Cert.Requant.main_arg5) = m ((c.tc : Thread Cert.Requant.nD Cert.Requant.τ).loc Cert.Requant.main_arg5))
      ∧ r.2.sem = fun _ => 0)

def quiescent_RequantIdeal [hRequantIdeal : Cert.RequantIdeal.Facts] : Prop :=
  ∀ (m : (ℓ : Loc Cert.RequantIdeal.nD Cert.RequantIdeal.τ Cert.RequantIdeal.sig) → Buf (Elt Ideal) ℓ) (g : Dev Cert.RequantIdeal.nD → PrngReg), Pre_RequantIdeal m →
    θ_run (Cert.RequantIdeal.defs (F := Ideal)) (onTc (τ := Cert.RequantIdeal.τ) (Cert.RequantIdeal.main (F := Ideal))) ⟨m, fun _ => 0, g⟩ (fun r => (∀ c : Dev Cert.RequantIdeal.nD,
      r.2.mem ((c.tc : Thread Cert.RequantIdeal.nD Cert.RequantIdeal.τ).loc Cert.RequantIdeal.main_arg0) = m ((c.tc : Thread Cert.RequantIdeal.nD Cert.RequantIdeal.τ).loc Cert.RequantIdeal.main_arg0)
      ∧ r.2.mem ((c.tc : Thread Cert.RequantIdeal.nD Cert.RequantIdeal.τ).loc Cert.RequantIdeal.main_arg1) = m ((c.tc : Thread Cert.RequantIdeal.nD Cert.RequantIdeal.τ).loc Cert.RequantIdeal.main_arg1)
      ∧ r.2.mem ((c.tc : Thread Cert.RequantIdeal.nD Cert.RequantIdeal.τ).loc Cert.RequantIdeal.main_arg2) = m ((c.tc : Thread Cert.RequantIdeal.nD Cert.RequantIdeal.τ).loc Cert.RequantIdeal.main_arg2)
      ∧ r.2.mem ((c.tc : Thread Cert.RequantIdeal.nD Cert.RequantIdeal.τ).loc Cert.RequantIdeal.main_arg3) = m ((c.tc : Thread Cert.RequantIdeal.nD Cert.RequantIdeal.τ).loc Cert.RequantIdeal.main_arg3)
      ∧ r.2.mem ((c.tc : Thread Cert.RequantIdeal.nD Cert.RequantIdeal.τ).loc Cert.RequantIdeal.main_arg4) = m ((c.tc : Thread Cert.RequantIdeal.nD Cert.RequantIdeal.τ).loc Cert.RequantIdeal.main_arg4)
      ∧ r.2.mem ((c.tc : Thread Cert.RequantIdeal.nD Cert.RequantIdeal.τ).loc Cert.RequantIdeal.main_arg5) = m ((c.tc : Thread Cert.RequantIdeal.nD Cert.RequantIdeal.τ).loc Cert.RequantIdeal.main_arg5))
      ∧ r.2.sem = fun _ => 0)

def quiescent_RequantIdeal_pre_finite_factors [hRequantIdeal : Cert.RequantIdeal.Facts] [hPre_finite_factors : Cert.Pre_finite_factors.Facts] : Prop :=
  ∀ (m : (ℓ : Loc Cert.RequantIdeal.nD Cert.RequantIdeal.τ Cert.RequantIdeal.sig) → Buf (Elt Ideal) ℓ) (g : Dev Cert.RequantIdeal.nD → PrngReg), Pre_RequantIdeal_finite_factors m →
    θ_run (Cert.RequantIdeal.defs (F := Ideal)) (onTc (τ := Cert.RequantIdeal.τ) (Cert.RequantIdeal.main (F := Ideal))) ⟨m, fun _ => 0, g⟩ (fun r => (∀ c : Dev Cert.RequantIdeal.nD,
      r.2.mem ((c.tc : Thread Cert.RequantIdeal.nD Cert.RequantIdeal.τ).loc Cert.RequantIdeal.main_arg0) = m ((c.tc : Thread Cert.RequantIdeal.nD Cert.RequantIdeal.τ).loc Cert.RequantIdeal.main_arg0)
      ∧ r.2.mem ((c.tc : Thread Cert.RequantIdeal.nD Cert.RequantIdeal.τ).loc Cert.RequantIdeal.main_arg1) = m ((c.tc : Thread Cert.RequantIdeal.nD Cert.RequantIdeal.τ).loc Cert.RequantIdeal.main_arg1)
      ∧ r.2.mem ((c.tc : Thread Cert.RequantIdeal.nD Cert.RequantIdeal.τ).loc Cert.RequantIdeal.main_arg2) = m ((c.tc : Thread Cert.RequantIdeal.nD Cert.RequantIdeal.τ).loc Cert.RequantIdeal.main_arg2)
      ∧ r.2.mem ((c.tc : Thread Cert.RequantIdeal.nD Cert.RequantIdeal.τ).loc Cert.RequantIdeal.main_arg3) = m ((c.tc : Thread Cert.RequantIdeal.nD Cert.RequantIdeal.τ).loc Cert.RequantIdeal.main_arg3)
      ∧ r.2.mem ((c.tc : Thread Cert.RequantIdeal.nD Cert.RequantIdeal.τ).loc Cert.RequantIdeal.main_arg4) = m ((c.tc : Thread Cert.RequantIdeal.nD Cert.RequantIdeal.τ).loc Cert.RequantIdeal.main_arg4)
      ∧ r.2.mem ((c.tc : Thread Cert.RequantIdeal.nD Cert.RequantIdeal.τ).loc Cert.RequantIdeal.main_arg5) = m ((c.tc : Thread Cert.RequantIdeal.nD Cert.RequantIdeal.τ).loc Cert.RequantIdeal.main_arg5))
      ∧ r.2.sem = fun _ => 0)

def quiescent_RequantReferenceIdeal [hRequantReferenceIdeal : Cert.RequantReferenceIdeal.Facts] : Prop :=
  ∀ (m : (ℓ : Loc Cert.RequantReferenceIdeal.nD Cert.RequantReferenceIdeal.τ Cert.RequantReferenceIdeal.sig) → Buf (Elt Ideal) ℓ) (g : Dev Cert.RequantReferenceIdeal.nD → PrngReg), Pre_RequantReferenceIdeal m →
    θ_run (Cert.RequantReferenceIdeal.defs (F := Ideal)) (onTc (τ := Cert.RequantReferenceIdeal.τ) (Cert.RequantReferenceIdeal.main (F := Ideal))) ⟨m, fun _ => 0, g⟩ (fun r => (∀ c : Dev Cert.RequantReferenceIdeal.nD,
      r.2.mem ((c.tc : Thread Cert.RequantReferenceIdeal.nD Cert.RequantReferenceIdeal.τ).loc Cert.RequantReferenceIdeal.main_arg0) = m ((c.tc : Thread Cert.RequantReferenceIdeal.nD Cert.RequantReferenceIdeal.τ).loc Cert.RequantReferenceIdeal.main_arg0)
      ∧ r.2.mem ((c.tc : Thread Cert.RequantReferenceIdeal.nD Cert.RequantReferenceIdeal.τ).loc Cert.RequantReferenceIdeal.main_arg1) = m ((c.tc : Thread Cert.RequantReferenceIdeal.nD Cert.RequantReferenceIdeal.τ).loc Cert.RequantReferenceIdeal.main_arg1)
      ∧ r.2.mem ((c.tc : Thread Cert.RequantReferenceIdeal.nD Cert.RequantReferenceIdeal.τ).loc Cert.RequantReferenceIdeal.main_arg2) = m ((c.tc : Thread Cert.RequantReferenceIdeal.nD Cert.RequantReferenceIdeal.τ).loc Cert.RequantReferenceIdeal.main_arg2)
      ∧ r.2.mem ((c.tc : Thread Cert.RequantReferenceIdeal.nD Cert.RequantReferenceIdeal.τ).loc Cert.RequantReferenceIdeal.main_arg3) = m ((c.tc : Thread Cert.RequantReferenceIdeal.nD Cert.RequantReferenceIdeal.τ).loc Cert.RequantReferenceIdeal.main_arg3)
      ∧ r.2.mem ((c.tc : Thread Cert.RequantReferenceIdeal.nD Cert.RequantReferenceIdeal.τ).loc Cert.RequantReferenceIdeal.main_arg4) = m ((c.tc : Thread Cert.RequantReferenceIdeal.nD Cert.RequantReferenceIdeal.τ).loc Cert.RequantReferenceIdeal.main_arg4)
      ∧ r.2.mem ((c.tc : Thread Cert.RequantReferenceIdeal.nD Cert.RequantReferenceIdeal.τ).loc Cert.RequantReferenceIdeal.main_arg5) = m ((c.tc : Thread Cert.RequantReferenceIdeal.nD Cert.RequantReferenceIdeal.τ).loc Cert.RequantReferenceIdeal.main_arg5))
      ∧ r.2.sem = fun _ => 0)

def quiescent_RequantReferenceIdeal_pre_finite_factors [hRequantReferenceIdeal : Cert.RequantReferenceIdeal.Facts] [hPre_finite_factors : Cert.Pre_finite_factors.Facts] : Prop :=
  ∀ (m : (ℓ : Loc Cert.RequantReferenceIdeal.nD Cert.RequantReferenceIdeal.τ Cert.RequantReferenceIdeal.sig) → Buf (Elt Ideal) ℓ) (g : Dev Cert.RequantReferenceIdeal.nD → PrngReg), Pre_RequantReferenceIdeal_finite_factors m →
    θ_run (Cert.RequantReferenceIdeal.defs (F := Ideal)) (onTc (τ := Cert.RequantReferenceIdeal.τ) (Cert.RequantReferenceIdeal.main (F := Ideal))) ⟨m, fun _ => 0, g⟩ (fun r => (∀ c : Dev Cert.RequantReferenceIdeal.nD,
      r.2.mem ((c.tc : Thread Cert.RequantReferenceIdeal.nD Cert.RequantReferenceIdeal.τ).loc Cert.RequantReferenceIdeal.main_arg0) = m ((c.tc : Thread Cert.RequantReferenceIdeal.nD Cert.RequantReferenceIdeal.τ).loc Cert.RequantReferenceIdeal.main_arg0)
      ∧ r.2.mem ((c.tc : Thread Cert.RequantReferenceIdeal.nD Cert.RequantReferenceIdeal.τ).loc Cert.RequantReferenceIdeal.main_arg1) = m ((c.tc : Thread Cert.RequantReferenceIdeal.nD Cert.RequantReferenceIdeal.τ).loc Cert.RequantReferenceIdeal.main_arg1)
      ∧ r.2.mem ((c.tc : Thread Cert.RequantReferenceIdeal.nD Cert.RequantReferenceIdeal.τ).loc Cert.RequantReferenceIdeal.main_arg2) = m ((c.tc : Thread Cert.RequantReferenceIdeal.nD Cert.RequantReferenceIdeal.τ).loc Cert.RequantReferenceIdeal.main_arg2)
      ∧ r.2.mem ((c.tc : Thread Cert.RequantReferenceIdeal.nD Cert.RequantReferenceIdeal.τ).loc Cert.RequantReferenceIdeal.main_arg3) = m ((c.tc : Thread Cert.RequantReferenceIdeal.nD Cert.RequantReferenceIdeal.τ).loc Cert.RequantReferenceIdeal.main_arg3)
      ∧ r.2.mem ((c.tc : Thread Cert.RequantReferenceIdeal.nD Cert.RequantReferenceIdeal.τ).loc Cert.RequantReferenceIdeal.main_arg4) = m ((c.tc : Thread Cert.RequantReferenceIdeal.nD Cert.RequantReferenceIdeal.τ).loc Cert.RequantReferenceIdeal.main_arg4)
      ∧ r.2.mem ((c.tc : Thread Cert.RequantReferenceIdeal.nD Cert.RequantReferenceIdeal.τ).loc Cert.RequantReferenceIdeal.main_arg5) = m ((c.tc : Thread Cert.RequantReferenceIdeal.nD Cert.RequantReferenceIdeal.τ).loc Cert.RequantReferenceIdeal.main_arg5))
      ∧ r.2.sem = fun _ => 0)

def preserves_Kernel_KernelIdeal : Prop :=
  True

def algebraic_KernelIdeal_ReferenceIdeal_pre_full_rank [hKernelIdeal : Cert.KernelIdeal.Facts] [hReferenceIdeal : Cert.ReferenceIdeal.Facts] [hPre_full_rank : Cert.Pre_full_rank.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_rank m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Requant_RequantIdeal : Prop :=
  True

def algebraic_RequantIdeal_RequantReferenceIdeal_pre_finite_factors [hRequantIdeal : Cert.RequantIdeal.Facts] [hRequantReferenceIdeal : Cert.RequantReferenceIdeal.Facts] [hPre_finite_factors : Cert.Pre_finite_factors.Facts] : Prop :=
  ∀ (m : (ℓ : Loc Cert.RequantIdeal.nD Cert.RequantIdeal.τ Cert.RequantIdeal.sig) → Buf (Elt Ideal) ℓ) (g : Dev Cert.RequantIdeal.nD → PrngReg)
    (m' : (ℓ : Loc Cert.RequantReferenceIdeal.nD Cert.RequantReferenceIdeal.τ Cert.RequantReferenceIdeal.sig) → Buf (Elt Ideal) ℓ) (g' : Dev Cert.RequantReferenceIdeal.nD → PrngReg), Pre_RequantIdeal_finite_factors m →
    (∀ c : Dev Cert.RequantIdeal.nD,
      m' ((c.tc : Thread Cert.RequantReferenceIdeal.nD Cert.RequantReferenceIdeal.τ).loc Cert.RequantReferenceIdeal.main_arg0) = m ((c.tc : Thread Cert.RequantIdeal.nD Cert.RequantIdeal.τ).loc Cert.RequantIdeal.main_arg0)
      ∧ m' ((c.tc : Thread Cert.RequantReferenceIdeal.nD Cert.RequantReferenceIdeal.τ).loc Cert.RequantReferenceIdeal.main_arg1) = m ((c.tc : Thread Cert.RequantIdeal.nD Cert.RequantIdeal.τ).loc Cert.RequantIdeal.main_arg1)
      ∧ m' ((c.tc : Thread Cert.RequantReferenceIdeal.nD Cert.RequantReferenceIdeal.τ).loc Cert.RequantReferenceIdeal.main_arg2) = m ((c.tc : Thread Cert.RequantIdeal.nD Cert.RequantIdeal.τ).loc Cert.RequantIdeal.main_arg2)
      ∧ m' ((c.tc : Thread Cert.RequantReferenceIdeal.nD Cert.RequantReferenceIdeal.τ).loc Cert.RequantReferenceIdeal.main_arg3) = m ((c.tc : Thread Cert.RequantIdeal.nD Cert.RequantIdeal.τ).loc Cert.RequantIdeal.main_arg3)
      ∧ m' ((c.tc : Thread Cert.RequantReferenceIdeal.nD Cert.RequantReferenceIdeal.τ).loc Cert.RequantReferenceIdeal.main_arg4) = m ((c.tc : Thread Cert.RequantIdeal.nD Cert.RequantIdeal.τ).loc Cert.RequantIdeal.main_arg4)
      ∧ m' ((c.tc : Thread Cert.RequantReferenceIdeal.nD Cert.RequantReferenceIdeal.τ).loc Cert.RequantReferenceIdeal.main_arg5) = m ((c.tc : Thread Cert.RequantIdeal.nD Cert.RequantIdeal.τ).loc Cert.RequantIdeal.main_arg5)) →
    ∃ (v0 : (c : Dev Cert.RequantIdeal.nD) → Buf (Elt Ideal) ((c.tc : Thread Cert.RequantIdeal.nD Cert.RequantIdeal.τ).loc Cert.RequantIdeal.main_v2_0)) (v1 : (c : Dev Cert.RequantIdeal.nD) → Buf (Elt Ideal) ((c.tc : Thread Cert.RequantIdeal.nD Cert.RequantIdeal.τ).loc Cert.RequantIdeal.main_v2_1)),
      θ_run (Cert.RequantIdeal.defs (F := Ideal)) (onTc (τ := Cert.RequantIdeal.τ) (Cert.RequantIdeal.main (F := Ideal))) ⟨m, fun _ => 0, g⟩ (fun r => ∀ c : Dev Cert.RequantIdeal.nD,
          r.2.mem ((c.tc : Thread Cert.RequantIdeal.nD Cert.RequantIdeal.τ).loc Cert.RequantIdeal.main_v2_0) = v0 c
          ∧ r.2.mem ((c.tc : Thread Cert.RequantIdeal.nD Cert.RequantIdeal.τ).loc Cert.RequantIdeal.main_v2_1) = v1 c
          ∧ r.2.mem ((c.tc : Thread Cert.RequantIdeal.nD Cert.RequantIdeal.τ).loc Cert.RequantIdeal.main_arg0) = m ((c.tc : Thread Cert.RequantIdeal.nD Cert.RequantIdeal.τ).loc Cert.RequantIdeal.main_arg0)
          ∧ r.2.mem ((c.tc : Thread Cert.RequantIdeal.nD Cert.RequantIdeal.τ).loc Cert.RequantIdeal.main_arg1) = m ((c.tc : Thread Cert.RequantIdeal.nD Cert.RequantIdeal.τ).loc Cert.RequantIdeal.main_arg1)
          ∧ r.2.mem ((c.tc : Thread Cert.RequantIdeal.nD Cert.RequantIdeal.τ).loc Cert.RequantIdeal.main_arg2) = m ((c.tc : Thread Cert.RequantIdeal.nD Cert.RequantIdeal.τ).loc Cert.RequantIdeal.main_arg2)
          ∧ r.2.mem ((c.tc : Thread Cert.RequantIdeal.nD Cert.RequantIdeal.τ).loc Cert.RequantIdeal.main_arg3) = m ((c.tc : Thread Cert.RequantIdeal.nD Cert.RequantIdeal.τ).loc Cert.RequantIdeal.main_arg3)
          ∧ r.2.mem ((c.tc : Thread Cert.RequantIdeal.nD Cert.RequantIdeal.τ).loc Cert.RequantIdeal.main_arg4) = m ((c.tc : Thread Cert.RequantIdeal.nD Cert.RequantIdeal.τ).loc Cert.RequantIdeal.main_arg4)
          ∧ r.2.mem ((c.tc : Thread Cert.RequantIdeal.nD Cert.RequantIdeal.τ).loc Cert.RequantIdeal.main_arg5) = m ((c.tc : Thread Cert.RequantIdeal.nD Cert.RequantIdeal.τ).loc Cert.RequantIdeal.main_arg5))
      ∧ θ_run (Cert.RequantReferenceIdeal.defs (F := Ideal)) (onTc (τ := Cert.RequantReferenceIdeal.τ) (Cert.RequantReferenceIdeal.main (F := Ideal))) ⟨m', fun _ => 0, g'⟩ (fun r => ∀ c : Dev Cert.RequantReferenceIdeal.nD,
          r.2.mem ((c.tc : Thread Cert.RequantReferenceIdeal.nD Cert.RequantReferenceIdeal.τ).loc Cert.RequantReferenceIdeal.main_v2_0) = v0 c
          ∧ r.2.mem ((c.tc : Thread Cert.RequantReferenceIdeal.nD Cert.RequantReferenceIdeal.τ).loc Cert.RequantReferenceIdeal.main_v2_1) = v1 c
          ∧ r.2.mem ((c.tc : Thread Cert.RequantReferenceIdeal.nD Cert.RequantReferenceIdeal.τ).loc Cert.RequantReferenceIdeal.main_arg0) = m' ((c.tc : Thread Cert.RequantReferenceIdeal.nD Cert.RequantReferenceIdeal.τ).loc Cert.RequantReferenceIdeal.main_arg0)
          ∧ r.2.mem ((c.tc : Thread Cert.RequantReferenceIdeal.nD Cert.RequantReferenceIdeal.τ).loc Cert.RequantReferenceIdeal.main_arg1) = m' ((c.tc : Thread Cert.RequantReferenceIdeal.nD Cert.RequantReferenceIdeal.τ).loc Cert.RequantReferenceIdeal.main_arg1)
          ∧ r.2.mem ((c.tc : Thread Cert.RequantReferenceIdeal.nD Cert.RequantReferenceIdeal.τ).loc Cert.RequantReferenceIdeal.main_arg2) = m' ((c.tc : Thread Cert.RequantReferenceIdeal.nD Cert.RequantReferenceIdeal.τ).loc Cert.RequantReferenceIdeal.main_arg2)
          ∧ r.2.mem ((c.tc : Thread Cert.RequantReferenceIdeal.nD Cert.RequantReferenceIdeal.τ).loc Cert.RequantReferenceIdeal.main_arg3) = m' ((c.tc : Thread Cert.RequantReferenceIdeal.nD Cert.RequantReferenceIdeal.τ).loc Cert.RequantReferenceIdeal.main_arg3)
          ∧ r.2.mem ((c.tc : Thread Cert.RequantReferenceIdeal.nD Cert.RequantReferenceIdeal.τ).loc Cert.RequantReferenceIdeal.main_arg4) = m' ((c.tc : Thread Cert.RequantReferenceIdeal.nD Cert.RequantReferenceIdeal.τ).loc Cert.RequantReferenceIdeal.main_arg4)
          ∧ r.2.mem ((c.tc : Thread Cert.RequantReferenceIdeal.nD Cert.RequantReferenceIdeal.τ).loc Cert.RequantReferenceIdeal.main_arg5) = m' ((c.tc : Thread Cert.RequantReferenceIdeal.nD Cert.RequantReferenceIdeal.τ).loc Cert.RequantReferenceIdeal.main_arg5))

def Claim : Prop :=
  ∃ (hKernel : Cert.Kernel.Facts) (hKernelIdeal : Cert.KernelIdeal.Facts) (hReferenceIdeal : Cert.ReferenceIdeal.Facts) (hRequant : Cert.Requant.Facts) (hRequantIdeal : Cert.RequantIdeal.Facts) (hRequantReferenceIdeal : Cert.RequantReferenceIdeal.Facts) (hPre_full_rank : Cert.Pre_full_rank.Facts) (hPre_finite_factors : Cert.Pre_finite_factors.Facts),
    quiescent_Kernel (hKernel := hKernel)
    ∧ quiescent_KernelIdeal (hKernelIdeal := hKernelIdeal)
    ∧ quiescent_KernelIdeal_pre_full_rank (hKernelIdeal := hKernelIdeal) (hPre_full_rank := hPre_full_rank)
    ∧ quiescent_ReferenceIdeal (hReferenceIdeal := hReferenceIdeal)
    ∧ quiescent_ReferenceIdeal_pre_full_rank (hReferenceIdeal := hReferenceIdeal) (hPre_full_rank := hPre_full_rank)
    ∧ quiescent_Requant (hRequant := hRequant)
    ∧ quiescent_RequantIdeal (hRequantIdeal := hRequantIdeal)
    ∧ quiescent_RequantIdeal_pre_finite_factors (hRequantIdeal := hRequantIdeal) (hPre_finite_factors := hPre_finite_factors)
    ∧ quiescent_RequantReferenceIdeal (hRequantReferenceIdeal := hRequantReferenceIdeal)
    ∧ quiescent_RequantReferenceIdeal_pre_finite_factors (hRequantReferenceIdeal := hRequantReferenceIdeal) (hPre_finite_factors := hPre_finite_factors)
    ∧ preserves_Kernel_KernelIdeal
    ∧ algebraic_KernelIdeal_ReferenceIdeal_pre_full_rank (hKernelIdeal := hKernelIdeal) (hReferenceIdeal := hReferenceIdeal) (hPre_full_rank := hPre_full_rank)
    ∧ preserves_Requant_RequantIdeal
    ∧ algebraic_RequantIdeal_RequantReferenceIdeal_pre_finite_factors (hRequantIdeal := hRequantIdeal) (hRequantReferenceIdeal := hRequantReferenceIdeal) (hPre_finite_factors := hPre_finite_factors)
-- ==== Pre_finite_factors.lean ====
abbrev S2x14336x8192 : Shape := ⟨3, ![2, 14336, 8192]⟩
abbrev S2x112x64 : Shape := ⟨3, ![2, 112, 64]⟩
abbrev S2x4x14336 : Shape := ⟨3, ![2, 4, 14336]⟩
abbrev S2x4x8192 : Shape := ⟨3, ![2, 4, 8192]⟩
abbrev S_ : Shape := ⟨0, ![]⟩

class Facts : Prop where
  bcast_S_S2x4x14336 : S_.BroadcastsInDim S2x4x14336 (![] : Fin 0 → Fin S2x4x14336.rank)
  reducesTo_S2x4x14336_S_d0_1_2 : S2x4x14336.ReducesTo [0, 1, 2] S_
  h_S_ : 0 < S_.numel
  bcast_S_S2x4x8192 : S_.BroadcastsInDim S2x4x8192 (![] : Fin 0 → Fin S2x4x8192.rank)
  reducesTo_S2x4x8192_S_d0_1_2 : S2x4x8192.ReducesTo [0, 1, 2] S_

variable [Facts]

def fn {F : FTy → Type} [FloatOps F] (main_arg0 : IVec S2x14336x8192 8) (main_arg1 : FVec F S2x112x64 .f32) (main_arg2 : IVec S2x14336x8192 8) (main_arg3 : FVec F S2x112x64 .f32) (main_arg4 : FVec F S2x4x14336 .f32) (main_arg5 : FVec F S2x4x8192 .f32) : IVec S_ 1 × IVec S_ 1 :=
  let main_v0 : FVec F S2x4x14336 .f32 := Host.absf main_arg4
  let main_cst : FVec F S_ .f32 := constant S_ .f32 0x7F800000#32
  let main_v1 : FVec F S2x4x14336 .f32 := broadcastInDim S2x4x14336 ![] bcast_S_S2x4x14336 main_cst
  let main_v2 : IVec S2x4x14336 1 := cmpf .olt main_v0 main_v1
  let main_c : IVec S_ 1 := constantI S_ 1 1#1
  let main_v3 : IVec S_ 1 := (fun x v => Host.reduce IntOp.andi x v reducesTo_S2x4x14336_S_d0_1_2 h_S_) main_v2 main_c
  let main_v4 : FVec F S2x4x8192 .f32 := Host.absf main_arg5
  let main_cst_0 : FVec F S_ .f32 := constant S_ .f32 0x7F800000#32
  let main_v5 : FVec F S2x4x8192 .f32 := broadcastInDim S2x4x8192 ![] bcast_S_S2x4x8192 main_cst_0
  let main_v6 : IVec S2x4x8192 1 := cmpf .olt main_v4 main_v5
  let main_c_1 : IVec S_ 1 := constantI S_ 1 1#1
  let main_v7 : IVec S_ 1 := (fun x v => Host.reduce IntOp.andi x v reducesTo_S2x4x8192_S_d0_1_2 h_S_) main_v6 main_c_1
  (main_v3, main_v7)
-- ==== Pre_full_rank.lean ====
abbrev S2x14336x8192 : Shape := ⟨3, ![2, 14336, 8192]⟩
abbrev S2x112x64 : Shape := ⟨3, ![2, 112, 64]⟩
abbrev S2x8192x4 : Shape := ⟨3, ![2, 8192, 4]⟩
abbrev S_ : Shape := ⟨0, ![]⟩
abbrev S2x112x128x64x128 : Shape := ⟨5, ![2, 112, 128, 64, 128]⟩
abbrev S2x112x1x64x1 : Shape := ⟨5, ![2, 112, 1, 64, 1]⟩
abbrev S2x14336x4 : Shape := ⟨3, ![2, 14336, 4]⟩
abbrev S2x14336x1 : Shape := ⟨3, ![2, 14336, 1]⟩
abbrev S2x14336 : Shape := ⟨2, ![2, 14336]⟩
abbrev S2 : Shape := ⟨1, ![2]⟩
abbrev S2x1 : Shape := ⟨2, ![2, 1]⟩
abbrev S2x1x14336 : Shape := ⟨3, ![2, 1, 14336]⟩
abbrev S2x4x14336 : Shape := ⟨3, ![2, 4, 14336]⟩

class Facts : Prop where
  natLt_8_32 : 8 < 32
  bcast_S_S2x14336x8192 : S_.BroadcastsInDim S2x14336x8192 (![] : Fin 0 → Fin S2x14336x8192.rank)
  shapeCasts_S2x14336x8192_S2x112x128x64x128 : S2x14336x8192.ShapeCasts S2x112x128x64x128
  bcast_S2x112x64_S2x112x1x64x1_0_1_3 : S2x112x64.BroadcastsInDim S2x112x1x64x1 (![0, 1, 3] : Fin 3 → Fin S2x112x1x64x1.rank)
  bcast_S2x112x1x64x1_S2x112x128x64x128_0_1_2_3_4 : S2x112x1x64x1.BroadcastsInDim S2x112x128x64x128 (![0, 1, 2, 3, 4] : Fin 5 → Fin S2x112x128x64x128.rank)
  shapeCasts_S2x112x128x64x128_S2x14336x8192 : S2x112x128x64x128.ShapeCasts S2x14336x8192
  slices_S2x14336x4_S2x14336x1_0_0_0 : S2x14336x4.Slices ![0, 0, 0] S2x14336x1
  shapeCasts_S2x14336x1_S2x14336 : S2x14336x1.ShapeCasts S2x14336
  slices_S2x14336x4_S2x14336x1_0_0_1 : S2x14336x4.Slices ![0, 0, 1] S2x14336x1
  slices_S2x14336x4_S2x14336x1_0_0_2 : S2x14336x4.Slices ![0, 0, 2] S2x14336x1
  slices_S2x14336x4_S2x14336x1_0_0_3 : S2x14336x4.Slices ![0, 0, 3] S2x14336x1
  reducesTo_S2x14336_S2_d1 : S2x14336.ReducesTo [1] S2
  h_S_ : 0 < S_.numel
  bcast_S2_S2x1_0 : S2.BroadcastsInDim S2x1 (![0] : Fin 1 → Fin S2x1.rank)
  bcast_S2x1_S2x14336_0_1 : S2x1.BroadcastsInDim S2x14336 (![0, 1] : Fin 2 → Fin S2x14336.rank)
  bcast_S2x14336_S2x1x14336_0_2 : S2x14336.BroadcastsInDim S2x1x14336 (![0, 2] : Fin 2 → Fin S2x1x14336.rank)
  concatenates_S2x1x14336_S2x1x14336_S2x1x14336_S2x1x14336_S2x4x14336_d1 : Shape.Concatenates [S2x1x14336, S2x1x14336, S2x1x14336, S2x1x14336] S2x4x14336 1
  reducesTo_S2x14336x8192_S_d0_1_2 : S2x14336x8192.ReducesTo [0, 1, 2] S_
  bcast_S_S2x112x64 : S_.BroadcastsInDim S2x112x64 (![] : Fin 0 → Fin S2x112x64.rank)
  reducesTo_S2x112x64_S_d0_1_2 : S2x112x64.ReducesTo [0, 1, 2] S_
  bcast_S_S2x8192x4 : S_.BroadcastsInDim S2x8192x4 (![] : Fin 0 → Fin S2x8192x4.rank)
  reducesTo_S2x8192x4_S_d0_1_2 : S2x8192x4.ReducesTo [0, 1, 2] S_
  bcast_S_S2x4x14336 : S_.BroadcastsInDim S2x4x14336 (![] : Fin 0 → Fin S2x4x14336.rank)
  reducesTo_S2x4x14336_S_d0_1_2 : S2x4x14336.ReducesTo [0, 1, 2] S_
  dot_S2x14336x8192_S2x8192x4_S2x14336x4_2_1_1_2_0_0_wf : DotDims.WF S2x14336x8192 S2x8192x4 S2x14336x4 [2] [1] [1] [2] [0] [0]

variable [Facts]

def dot_S2x14336x8192_S2x8192x4_S2x14336x4_2_1_1_2_0_0 : DotDims S2x14336x8192 S2x8192x4 S2x14336x4 where
  lhsContracting := [2]
  rhsContracting := [1]
  lhsNonContracting := [1]
  rhsNonContracting := [2]
  lhsBatch := [0]
  rhsBatch := [0]
  wf := dot_S2x14336x8192_S2x8192x4_S2x14336x4_2_1_1_2_0_0_wf
def fn_where {F : FTy → Type} [FloatOps F] (arg0 : IVec S2x14336x8192 1) (arg1 : FVec F S_ .f32) (arg2 : FVec F S_ .f32) : FVec F S2x14336x8192 .f32 :=
  let v0 : FVec F S2x14336x8192 .f32 := broadcastInDim S2x14336x8192 ![] bcast_S_S2x14336x8192 arg1
  let v1 : FVec F S2x14336x8192 .f32 := broadcastInDim S2x14336x8192 ![] bcast_S_S2x14336x8192 arg2
  let v2 : FVec F S2x14336x8192 .f32 := select arg0 v0 v1
  v2

def fn_part6 {F : FTy → Type} [FloatOps F] (main_arg1 : FVec F S2x112x64 .f32) (main_arg3 : FVec F S2x112x64 .f32) (main_arg4 : FVec F S2x8192x4 .f32) (main_v105 : FVec F S2x4x14336 .f32) (main_v111 : IVec S_ 1) (main_v117 : IVec S_ 1) : IVec S_ 1 × IVec S_ 1 × IVec S_ 1 × IVec S_ 1 × IVec S_ 1 × IVec S_ 1 :=
  let main_v118 : FVec F S2x112x64 .f32 := Host.absf main_arg1
  let main_cst_24 : FVec F S_ .f32 := constant S_ .f32 0x7F800000#32
  let main_v119 : FVec F S2x112x64 .f32 := broadcastInDim S2x112x64 ![] bcast_S_S2x112x64 main_cst_24
  let main_v120 : IVec S2x112x64 1 := cmpf .olt main_v118 main_v119
  let main_c_25 : IVec S_ 1 := constantI S_ 1 1#1
  let main_v121 : IVec S_ 1 := (fun x v => Host.reduce IntOp.andi x v reducesTo_S2x112x64_S_d0_1_2 h_S_) main_v120 main_c_25
  let main_v122 : FVec F S2x112x64 .f32 := Host.absf main_arg3
  let main_cst_26 : FVec F S_ .f32 := constant S_ .f32 0x7F800000#32
  let main_v123 : FVec F S2x112x64 .f32 := broadcastInDim S2x112x64 ![] bcast_S_S2x112x64 main_cst_26
  let main_v124 : IVec S2x112x64 1 := cmpf .olt main_v122 main_v123
  let main_c_27 : IVec S_ 1 := constantI S_ 1 1#1
  let main_v125 : IVec S_ 1 := (fun x v => Host.reduce IntOp.andi x v reducesTo_S2x112x64_S_d0_1_2 h_S_) main_v124 main_c_27
  let main_v126 : FVec F S2x8192x4 .f32 := Host.absf main_arg4
  let main_cst_28 : FVec F S_ .f32 := constant S_ .f32 0x7F800000#32
  let main_v127 : FVec F S2x8192x4 .f32 := broadcastInDim S2x8192x4 ![] bcast_S_S2x8192x4 main_cst_28
  let main_v128 : IVec S2x8192x4 1 := cmpf .olt main_v126 main_v127
  let main_c_29 : IVec S_ 1 := constantI S_ 1 1#1
  let main_v129 : IVec S_ 1 := (fun x v => Host.reduce IntOp.andi x v reducesTo_S2x8192x4_S_d0_1_2 h_S_) main_v128 main_c_29
  let main_v130 : FVec F S2x4x14336 .f32 := Host.absf main_v105
  let main_cst_30 : FVec F S_ .f32 := constant S_ .f32 0x7F800000#32
  let main_v131 : FVec F S2x4x14336 .f32 := broadcastInDim S2x4x14336 ![] bcast_S_S2x4x14336 main_cst_30
  let main_v132 : IVec S2x4x14336 1 := cmpf .olt main_v130 main_v131
  let main_c_31 : IVec S_ 1 := constantI S_ 1 1#1
  let main_v133 : IVec S_ 1 := (fun x v => Host.reduce IntOp.andi x v reducesTo_S2x4x14336_S_d0_1_2 h_S_) main_v132 main_c_31
  (main_v111, main_v117, main_v121, main_v125, main_v129, main_v133)

def fn_part5 {F : FTy → Type} [FloatOps F] (main_arg0 : IVec S2x14336x8192 8) (main_arg1 : FVec F S2x112x64 .f32) (main_arg2 : IVec S2x14336x8192 8) (main_arg3 : FVec F S2x112x64 .f32) (main_arg4 : FVec F S2x8192x4 .f32) (main_v46 : FVec F S2x14336 .f32) (main_v70 : FVec F S2x14336 .f32) (main_v88 : FVec F S2x14336 .f32) (main_v94 : FVec F S2x14336 .f32) (main_v99 : FVec F S2x14336 .f32) : IVec S_ 1 × IVec S_ 1 × IVec S_ 1 × IVec S_ 1 × IVec S_ 1 × IVec S_ 1 :=
  let main_v100 : FVec F S2x14336 .f32 := Host.divf main_v94 main_v99
  let main_v101 : FVec F S2x1x14336 .f32 := broadcastInDim S2x1x14336 ![0, 2] bcast_S2x14336_S2x1x14336_0_2 main_v46
  let main_v102 : FVec F S2x1x14336 .f32 := broadcastInDim S2x1x14336 ![0, 2] bcast_S2x14336_S2x1x14336_0_2 main_v70
  let main_v103 : FVec F S2x1x14336 .f32 := broadcastInDim S2x1x14336 ![0, 2] bcast_S2x14336_S2x1x14336_0_2 main_v88
  let main_v104 : FVec F S2x1x14336 .f32 := broadcastInDim S2x1x14336 ![0, 2] bcast_S2x14336_S2x1x14336_0_2 main_v100
  let main_v105 : FVec F S2x4x14336 .f32 := concatenate S2x4x14336 1 [⟨S2x1x14336, main_v101⟩, ⟨S2x1x14336, main_v102⟩, ⟨S2x1x14336, main_v103⟩, ⟨S2x1x14336, main_v104⟩] concatenates_S2x1x14336_S2x1x14336_S2x1x14336_S2x1x14336_S2x4x14336_d1
  let main_v106 : IVec S2x14336x8192 32 := (extsi 32 · natLt_8_32) main_arg0
  let main_c_18 : IVec S_ 32 := constantI S_ 32 124#32
  let main_v107 : IVec S2x14336x8192 32 := broadcastInDim S2x14336x8192 ![] bcast_S_S2x14336x8192 main_c_18
  let main_v108 : IVec S2x14336x8192 32 := andi main_v106 main_v107
  let main_c_19 : IVec S_ 32 := constantI S_ 32 124#32
  let main_v109 : IVec S2x14336x8192 32 := broadcastInDim S2x14336x8192 ![] bcast_S_S2x14336x8192 main_c_19
  let main_v110 : IVec S2x14336x8192 1 := cmpi .ne main_v108 main_v109
  let main_c_20 : IVec S_ 1 := constantI S_ 1 1#1
  let main_v111 : IVec S_ 1 := (fun x v => Host.reduce IntOp.andi x v reducesTo_S2x14336x8192_S_d0_1_2 h_S_) main_v110 main_c_20
  let main_v112 : IVec S2x14336x8192 32 := (extsi 32 · natLt_8_32) main_arg2
  let main_c_21 : IVec S_ 32 := constantI S_ 32 127#32
  let main_v113 : IVec S2x14336x8192 32 := broadcastInDim S2x14336x8192 ![] bcast_S_S2x14336x8192 main_c_21
  let main_v114 : IVec S2x14336x8192 32 := andi main_v112 main_v113
  let main_c_22 : IVec S_ 32 := constantI S_ 32 127#32
  let main_v115 : IVec S2x14336x8192 32 := broadcastInDim S2x14336x8192 ![] bcast_S_S2x14336x8192 main_c_22
  let main_v116 : IVec S2x14336x8192 1 := cmpi .ne main_v114 main_v115
  let main_c_23 : IVec S_ 1 := constantI S_ 1 1#1
  let main_v117 : IVec S_ 1 := (fun x v => Host.reduce IntOp.andi x v reducesTo_S2x14336x8192_S_d0_1_2 h_S_) main_v116 main_c_23
  fn_part6 (F := F) main_arg1 main_arg3 main_arg4 main_v105 main_v111 main_v117

def fn_part4 {F : FTy → Type} [FloatOps F] (main_arg0 : IVec S2x14336x8192 8) (main_arg1 : FVec F S2x112x64 .f32) (main_arg2 : IVec S2x14336x8192 8) (main_arg3 : FVec F S2x112x64 .f32) (main_arg4 : FVec F S2x8192x4 .f32) (main_v46 : FVec F S2x14336 .f32) (main_v64 : FVec F S2x14336 .f32) (main_v70 : FVec F S2x14336 .f32) (main_v76 : FVec F S2x14336 .f32) (main_v78 : FVec F S2 .f32) : IVec S_ 1 × IVec S_ 1 × IVec S_ 1 × IVec S_ 1 × IVec S_ 1 × IVec S_ 1 :=
  let main_v79 : FVec F S2x1 .f32 := broadcastInDim S2x1 ![0] bcast_S2_S2x1_0 main_v78
  let main_v80 : FVec F S2x14336 .f32 := broadcastInDim S2x14336 ![0, 1] bcast_S2x1_S2x14336_0_1 main_v79
  let main_v81 : FVec F S2x14336 .f32 := mulf main_v80 main_v70
  let main_v82 : FVec F S2x14336 .f32 := subf main_v64 main_v81
  let main_v83 : FVec F S2x14336 .f32 := mulf main_v76 main_v76
  let main_cst_15 : FVec F S_ .f32 := constant S_ .f32 0x00000000#32
  let main_v84 : FVec F S2 .f32 := (fun x v => Host.reduceAdd x v reducesTo_S2x14336_S2_d1 h_S_) main_v83 main_cst_15
  let main_v85 : FVec F S2x1 .f32 := broadcastInDim S2x1 ![0] bcast_S2_S2x1_0 main_v84
  let main_v86 : FVec F S2x1 .f32 := Host.sqrt main_v85
  let main_v87 : FVec F S2x14336 .f32 := broadcastInDim S2x14336 ![0, 1] bcast_S2x1_S2x14336_0_1 main_v86
  let main_v88 : FVec F S2x14336 .f32 := Host.divf main_v76 main_v87
  let main_v89 : FVec F S2x14336 .f32 := mulf main_v88 main_v82
  let main_cst_16 : FVec F S_ .f32 := constant S_ .f32 0x00000000#32
  let main_v90 : FVec F S2 .f32 := (fun x v => Host.reduceAdd x v reducesTo_S2x14336_S2_d1 h_S_) main_v89 main_cst_16
  let main_v91 : FVec F S2x1 .f32 := broadcastInDim S2x1 ![0] bcast_S2_S2x1_0 main_v90
  let main_v92 : FVec F S2x14336 .f32 := broadcastInDim S2x14336 ![0, 1] bcast_S2x1_S2x14336_0_1 main_v91
  let main_v93 : FVec F S2x14336 .f32 := mulf main_v92 main_v88
  let main_v94 : FVec F S2x14336 .f32 := subf main_v82 main_v93
  let main_v95 : FVec F S2x14336 .f32 := mulf main_v94 main_v94
  let main_cst_17 : FVec F S_ .f32 := constant S_ .f32 0x00000000#32
  let main_v96 : FVec F S2 .f32 := (fun x v => Host.reduceAdd x v reducesTo_S2x14336_S2_d1 h_S_) main_v95 main_cst_17
  let main_v97 : FVec F S2x1 .f32 := broadcastInDim S2x1 ![0] bcast_S2_S2x1_0 main_v96
  let main_v98 : FVec F S2x1 .f32 := Host.sqrt main_v97
  let main_v99 : FVec F S2x14336 .f32 := broadcastInDim S2x14336 ![0, 1] bcast_S2x1_S2x14336_0_1 main_v98
  fn_part5 (F := F) main_arg0 main_arg1 main_arg2 main_arg3 main_arg4 main_v46 main_v70 main_v88 main_v94 main_v99

def fn_part3 {F : FTy → Type} [FloatOps F] (main_arg0 : IVec S2x14336x8192 8) (main_arg1 : FVec F S2x112x64 .f32) (main_arg2 : IVec S2x14336x8192 8) (main_arg3 : FVec F S2x112x64 .f32) (main_arg4 : FVec F S2x8192x4 .f32) (main_v40 : FVec F S2x14336 .f32) (main_v46 : FVec F S2x14336 .f32) (main_v52 : FVec F S2x14336 .f32) (main_v58 : FVec F S2x14336 .f32) : IVec S_ 1 × IVec S_ 1 × IVec S_ 1 × IVec S_ 1 × IVec S_ 1 × IVec S_ 1 :=
  let main_v59 : FVec F S2x14336 .f32 := mulf main_v46 main_v40
  let main_cst_11 : FVec F S_ .f32 := constant S_ .f32 0x00000000#32
  let main_v60 : FVec F S2 .f32 := (fun x v => Host.reduceAdd x v reducesTo_S2x14336_S2_d1 h_S_) main_v59 main_cst_11
  let main_v61 : FVec F S2x1 .f32 := broadcastInDim S2x1 ![0] bcast_S2_S2x1_0 main_v60
  let main_v62 : FVec F S2x14336 .f32 := broadcastInDim S2x14336 ![0, 1] bcast_S2x1_S2x14336_0_1 main_v61
  let main_v63 : FVec F S2x14336 .f32 := mulf main_v62 main_v46
  let main_v64 : FVec F S2x14336 .f32 := subf main_v40 main_v63
  let main_v65 : FVec F S2x14336 .f32 := mulf main_v52 main_v52
  let main_cst_12 : FVec F S_ .f32 := constant S_ .f32 0x00000000#32
  let main_v66 : FVec F S2 .f32 := (fun x v => Host.reduceAdd x v reducesTo_S2x14336_S2_d1 h_S_) main_v65 main_cst_12
  let main_v67 : FVec F S2x1 .f32 := broadcastInDim S2x1 ![0] bcast_S2_S2x1_0 main_v66
  let main_v68 : FVec F S2x1 .f32 := Host.sqrt main_v67
  let main_v69 : FVec F S2x14336 .f32 := broadcastInDim S2x14336 ![0, 1] bcast_S2x1_S2x14336_0_1 main_v68
  let main_v70 : FVec F S2x14336 .f32 := Host.divf main_v52 main_v69
  let main_v71 : FVec F S2x14336 .f32 := mulf main_v70 main_v58
  let main_cst_13 : FVec F S_ .f32 := constant S_ .f32 0x00000000#32
  let main_v72 : FVec F S2 .f32 := (fun x v => Host.reduceAdd x v reducesTo_S2x14336_S2_d1 h_S_) main_v71 main_cst_13
  let main_v73 : FVec F S2x1 .f32 := broadcastInDim S2x1 ![0] bcast_S2_S2x1_0 main_v72
  let main_v74 : FVec F S2x14336 .f32 := broadcastInDim S2x14336 ![0, 1] bcast_S2x1_S2x14336_0_1 main_v73
  let main_v75 : FVec F S2x14336 .f32 := mulf main_v74 main_v70
  let main_v76 : FVec F S2x14336 .f32 := subf main_v58 main_v75
  let main_v77 : FVec F S2x14336 .f32 := mulf main_v70 main_v64
  let main_cst_14 : FVec F S_ .f32 := constant S_ .f32 0x00000000#32
  let main_v78 : FVec F S2 .f32 := (fun x v => Host.reduceAdd x v reducesTo_S2x14336_S2_d1 h_S_) main_v77 main_cst_14
  fn_part4 (F := F) main_arg0 main_arg1 main_arg2 main_arg3 main_arg4 main_v46 main_v64 main_v70 main_v76 main_v78

def fn_part2 {F : FTy → Type} [FloatOps F] (main_arg0 : IVec S2x14336x8192 8) (main_arg1 : FVec F S2x112x64 .f32) (main_arg2 : IVec S2x14336x8192 8) (main_arg3 : FVec F S2x112x64 .f32) (main_arg4 : FVec F S2x8192x4 .f32) (main_v32 : FVec F S2x14336x4 .f32) (main_v34 : FVec F S2x14336 .f32) (main_v36 : FVec F S2x14336 .f32) (main_v37 : FVec F S2x14336x1 .f32) : IVec S_ 1 × IVec S_ 1 × IVec S_ 1 × IVec S_ 1 × IVec S_ 1 × IVec S_ 1 :=
  let main_v38 : FVec F S2x14336 .f32 := shapeCast S2x14336 main_v37 shapeCasts_S2x14336x1_S2x14336
  let main_v39 : FVec F S2x14336x1 .f32 := (extractStridedSlice S2x14336x1 ![0, 0, 3] · slices_S2x14336x4_S2x14336x1_0_0_3) main_v32
  let main_v40 : FVec F S2x14336 .f32 := shapeCast S2x14336 main_v39 shapeCasts_S2x14336x1_S2x14336
  let main_v41 : FVec F S2x14336 .f32 := mulf main_v34 main_v34
  let main_cst_8 : FVec F S_ .f32 := constant S_ .f32 0x00000000#32
  let main_v42 : FVec F S2 .f32 := (fun x v => Host.reduceAdd x v reducesTo_S2x14336_S2_d1 h_S_) main_v41 main_cst_8
  let main_v43 : FVec F S2x1 .f32 := broadcastInDim S2x1 ![0] bcast_S2_S2x1_0 main_v42
  let main_v44 : FVec F S2x1 .f32 := Host.sqrt main_v43
  let main_v45 : FVec F S2x14336 .f32 := broadcastInDim S2x14336 ![0, 1] bcast_S2x1_S2x14336_0_1 main_v44
  let main_v46 : FVec F S2x14336 .f32 := Host.divf main_v34 main_v45
  let main_v47 : FVec F S2x14336 .f32 := mulf main_v46 main_v36
  let main_cst_9 : FVec F S_ .f32 := constant S_ .f32 0x00000000#32
  let main_v48 : FVec F S2 .f32 := (fun x v => Host.reduceAdd x v reducesTo_S2x14336_S2_d1 h_S_) main_v47 main_cst_9
  let main_v49 : FVec F S2x1 .f32 := broadcastInDim S2x1 ![0] bcast_S2_S2x1_0 main_v48
  let main_v50 : FVec F S2x14336 .f32 := broadcastInDim S2x14336 ![0, 1] bcast_S2x1_S2x14336_0_1 main_v49
  let main_v51 : FVec F S2x14336 .f32 := mulf main_v50 main_v46
  let main_v52 : FVec F S2x14336 .f32 := subf main_v36 main_v51
  let main_v53 : FVec F S2x14336 .f32 := mulf main_v46 main_v38
  let main_cst_10 : FVec F S_ .f32 := constant S_ .f32 0x00000000#32
  let main_v54 : FVec F S2 .f32 := (fun x v => Host.reduceAdd x v reducesTo_S2x14336_S2_d1 h_S_) main_v53 main_cst_10
  let main_v55 : FVec F S2x1 .f32 := broadcastInDim S2x1 ![0] bcast_S2_S2x1_0 main_v54
  let main_v56 : FVec F S2x14336 .f32 := broadcastInDim S2x14336 ![0, 1] bcast_S2x1_S2x14336_0_1 main_v55
  let main_v57 : FVec F S2x14336 .f32 := mulf main_v56 main_v46
  let main_v58 : FVec F S2x14336 .f32 := subf main_v38 main_v57
  fn_part3 (F := F) main_arg0 main_arg1 main_arg2 main_arg3 main_arg4 main_v40 main_v46 main_v52 main_v58

def fn_part1 {F : FTy → Type} [FloatOps F] (main_arg0 : IVec S2x14336x8192 8) (main_arg1 : FVec F S2x112x64 .f32) (main_arg2 : IVec S2x14336x8192 8) (main_arg3 : FVec F S2x112x64 .f32) (main_arg4 : FVec F S2x8192x4 .f32) (main_v10 : FVec F S2x14336x8192 .f32) (main_v11 : IVec S2x14336x8192 32) (main_v16 : FVec F S2x14336x8192 .f32) : IVec S_ 1 × IVec S_ 1 × IVec S_ 1 × IVec S_ 1 × IVec S_ 1 × IVec S_ 1 :=
  let main_c_5 : IVec S_ 32 := constantI S_ 32 0#32
  let main_v17 : IVec S2x14336x8192 32 := broadcastInDim S2x14336x8192 ![] bcast_S_S2x14336x8192 main_c_5
  let main_v18 : IVec S2x14336x8192 1 := cmpi .slt main_v11 main_v17
  let main_cst_6 : FVec F S_ .f32 := constant S_ .f32 0x7B800000#32
  let main_v19 : FVec F S_ .f32 := Host.negf main_cst_6
  let main_cst_7 : FVec F S_ .f32 := constant S_ .f32 0x7B800000#32
  let main_v20 : FVec F S2x14336x8192 .f32 := fn_where (F := F) main_v18 main_v19 main_cst_7
  let main_v21 : FVec F S2x14336x8192 .f32 := mulf main_v16 main_v20
  let main_v22 : FVec F S2x112x128x64x128 .f32 := shapeCast S2x112x128x64x128 main_v10 shapeCasts_S2x14336x8192_S2x112x128x64x128
  let main_v23 : FVec F S2x112x1x64x1 .f32 := broadcastInDim S2x112x1x64x1 ![0, 1, 3] bcast_S2x112x64_S2x112x1x64x1_0_1_3 main_arg1
  let main_v24 : FVec F S2x112x128x64x128 .f32 := broadcastInDim S2x112x128x64x128 ![0, 1, 2, 3, 4] bcast_S2x112x1x64x1_S2x112x128x64x128_0_1_2_3_4 main_v23
  let main_v25 : FVec F S2x112x128x64x128 .f32 := mulf main_v22 main_v24
  let main_v26 : FVec F S2x112x128x64x128 .f32 := shapeCast S2x112x128x64x128 main_v21 shapeCasts_S2x14336x8192_S2x112x128x64x128
  let main_v27 : FVec F S2x112x1x64x1 .f32 := broadcastInDim S2x112x1x64x1 ![0, 1, 3] bcast_S2x112x64_S2x112x1x64x1_0_1_3 main_arg3
  let main_v28 : FVec F S2x112x128x64x128 .f32 := broadcastInDim S2x112x128x64x128 ![0, 1, 2, 3, 4] bcast_S2x112x1x64x1_S2x112x128x64x128_0_1_2_3_4 main_v27
  let main_v29 : FVec F S2x112x128x64x128 .f32 := mulf main_v26 main_v28
  let main_v30 : FVec F S2x112x128x64x128 .f32 := addf main_v25 main_v29
  let main_v31 : FVec F S2x14336x8192 .f32 := shapeCast S2x14336x8192 main_v30 shapeCasts_S2x112x128x64x128_S2x14336x8192
  let main_v32 : FVec F S2x14336x4 .f32 := (fun l r => Host.dotGeneral dot_S2x14336x8192_S2x8192x4_S2x14336x4_2_1_1_2_0_0 (some .fp32) l r) main_v31 main_arg4
  let main_v33 : FVec F S2x14336x1 .f32 := (extractStridedSlice S2x14336x1 ![0, 0, 0] · slices_S2x14336x4_S2x14336x1_0_0_0) main_v32
  let main_v34 : FVec F S2x14336 .f32 := shapeCast S2x14336 main_v33 shapeCasts_S2x14336x1_S2x14336
  let main_v35 : FVec F S2x14336x1 .f32 := (extractStridedSlice S2x14336x1 ![0, 0, 1] · slices_S2x14336x4_S2x14336x1_0_0_1) main_v32
  let main_v36 : FVec F S2x14336 .f32 := shapeCast S2x14336 main_v35 shapeCasts_S2x14336x1_S2x14336
  let main_v37 : FVec F S2x14336x1 .f32 := (extractStridedSlice S2x14336x1 ![0, 0, 2] · slices_S2x14336x4_S2x14336x1_0_0_2) main_v32
  fn_part2 (F := F) main_arg0 main_arg1 main_arg2 main_arg3 main_arg4 main_v32 main_v34 main_v36 main_v37

def fn {F : FTy → Type} [FloatOps F] (main_arg0 : IVec S2x14336x8192 8) (main_arg1 : FVec F S2x112x64 .f32) (main_arg2 : IVec S2x14336x8192 8) (main_arg3 : FVec F S2x112x64 .f32) (main_arg4 : FVec F S2x8192x4 .f32) : IVec S_ 1 × IVec S_ 1 × IVec S_ 1 × IVec S_ 1 × IVec S_ 1 × IVec S_ 1 :=
  let main_v0 : IVec S2x14336x8192 32 := (extsi 32 · natLt_8_32) main_arg0
  let main_c : IVec S_ 32 := constantI S_ 32 127#32
  let main_v1 : IVec S2x14336x8192 32 := broadcastInDim S2x14336x8192 ![] bcast_S_S2x14336x8192 main_c
  let main_v2 : IVec S2x14336x8192 32 := andi main_v0 main_v1
  let main_c_0 : IVec S_ 32 := constantI S_ 32 21#32
  let main_v3 : IVec S2x14336x8192 32 := broadcastInDim S2x14336x8192 ![] bcast_S_S2x14336x8192 main_c_0
  let main_v4 : IVec S2x14336x8192 32 := Host.shli main_v2 main_v3
  let main_v5 : FVec F S2x14336x8192 .f32 := bitcastToFloat .f32 main_v4
  let main_c_1 : IVec S_ 32 := constantI S_ 32 0#32
  let main_v6 : IVec S2x14336x8192 32 := broadcastInDim S2x14336x8192 ![] bcast_S_S2x14336x8192 main_c_1
  let main_v7 : IVec S2x14336x8192 1 := cmpi .slt main_v0 main_v6
  let main_cst : FVec F S_ .f32 := constant S_ .f32 0x77800000#32
  let main_v8 : FVec F S_ .f32 := Host.negf main_cst
  let main_cst_2 : FVec F S_ .f32 := constant S_ .f32 0x77800000#32
  let main_v9 : FVec F S2x14336x8192 .f32 := fn_where (F := F) main_v7 main_v8 main_cst_2
  let main_v10 : FVec F S2x14336x8192 .f32 := mulf main_v5 main_v9
  let main_v11 : IVec S2x14336x8192 32 := (extsi 32 · natLt_8_32) main_arg2
  let main_c_3 : IVec S_ 32 := constantI S_ 32 127#32
  let main_v12 : IVec S2x14336x8192 32 := broadcastInDim S2x14336x8192 ![] bcast_S_S2x14336x8192 main_c_3
  let main_v13 : IVec S2x14336x8192 32 := andi main_v11 main_v12
  let main_c_4 : IVec S_ 32 := constantI S_ 32 20#32
  let main_v14 : IVec S2x14336x8192 32 := broadcastInDim S2x14336x8192 ![] bcast_S_S2x14336x8192 main_c_4
  let main_v15 : IVec S2x14336x8192 32 := Host.shli main_v13 main_v14
  let main_v16 : FVec F S2x14336x8192 .f32 := bitcastToFloat .f32 main_v15
  fn_part1 (F := F) main_arg0 main_arg1 main_arg2 main_arg3 main_arg4 main_v10 main_v11 main_v16
-- ==== Kernel.lean ====
abbrev S2x14336x8192 : Shape := ⟨3, ![2, 14336, 8192]⟩
abbrev S2x112x64 : Shape := ⟨3, ![2, 112, 64]⟩
abbrev S2x8192x4 : Shape := ⟨3, ![2, 8192, 4]⟩
abbrev S2x4x8192 : Shape := ⟨3, ![2, 4, 8192]⟩
abbrev S2x4x14336 : Shape := ⟨3, ![2, 4, 14336]⟩
abbrev S1x256x8192 : Shape := ⟨3, ![1, 256, 8192]⟩
abbrev S1x4x8192 : Shape := ⟨3, ![1, 4, 8192]⟩
abbrev S1x4x14336 : Shape := ⟨3, ![1, 4, 14336]⟩
abbrev S16x8192 : Shape := ⟨2, ![16, 8192]⟩
abbrev S4x8192 : Shape := ⟨2, ![4, 8192]⟩
abbrev S32x256 : Shape := ⟨2, ![32, 256]⟩
abbrev S16x128 : Shape := ⟨2, ![16, 128]⟩
abbrev S1x1x1 : Shape := ⟨3, ![1, 1, 1]⟩
abbrev S16x256 : Shape := ⟨2, ![16, 256]⟩
abbrev S1x256x256 : Shape := ⟨3, ![1, 256, 256]⟩
abbrev S256x256 : Shape := ⟨2, ![256, 256]⟩
abbrev S4x128 : Shape := ⟨2, ![4, 128]⟩
abbrev S4x256 : Shape := ⟨2, ![4, 256]⟩
abbrev S1x4x256 : Shape := ⟨3, ![1, 4, 256]⟩
abbrev S1x1x14336 : Shape := ⟨3, ![1, 1, 14336]⟩
abbrev S1x14336 : Shape := ⟨2, ![1, 14336]⟩
abbrev S1x8192 : Shape := ⟨2, ![1, 8192]⟩
abbrev S1 : Shape := ⟨1, ![1]⟩
abbrev S1x1 : Shape := ⟨2, ![1, 1]⟩
abbrev S1x1x8192 : Shape := ⟨3, ![1, 1, 8192]⟩

abbrev nBuf : Space → Nat
  | .hbm => 10
  | .vmem => 12
  | .smem => 2
  | _ => 0

abbrev bufTy : (tb : Table) → Fin (tcTables nBuf tb) → BufTy
  | .hbm, ⟨0, _⟩ => ⟨S2x14336x8192, .i8⟩
  | .hbm, ⟨1, _⟩ => ⟨S2x112x64, .f32⟩
  | .hbm, ⟨2, _⟩ => ⟨S2x14336x8192, .i8⟩
  | .hbm, ⟨3, _⟩ => ⟨S2x112x64, .f32⟩
  | .hbm, ⟨4, _⟩ => ⟨S2x8192x4, .f32⟩
  | .hbm, ⟨5, _⟩ => ⟨S2x14336x8192, .fp8e5m2⟩
  | .hbm, ⟨6, _⟩ => ⟨S2x14336x8192, .fp8e4m3⟩
  | .hbm, ⟨7, _⟩ => ⟨S2x4x8192, .f32⟩
  | .hbm, ⟨8, _⟩ => ⟨S2x4x14336, .f32⟩
  | .hbm, ⟨9, _⟩ => ⟨S2x4x8192, .f32⟩
  | .local _ .vmem, ⟨0, _⟩ => ⟨S1x256x8192, .fp8e5m2⟩
  | .local _ .vmem, ⟨1, _⟩ => ⟨S1x256x8192, .fp8e5m2⟩
  | .local _ .vmem, ⟨2, _⟩ => ⟨S1x256x8192, .fp8e4m3⟩
  | .local _ .vmem, ⟨3, _⟩ => ⟨S1x256x8192, .fp8e4m3⟩
  | .local _ .vmem, ⟨4, _⟩ => ⟨S1x4x8192, .f32⟩
  | .local _ .vmem, ⟨5, _⟩ => ⟨S1x4x8192, .f32⟩
  | .local _ .vmem, ⟨6, _⟩ => ⟨S1x4x14336, .f32⟩
  | .local _ .vmem, ⟨7, _⟩ => ⟨S1x4x14336, .f32⟩
  | .local _ .vmem, ⟨8, _⟩ => ⟨S1x4x8192, .f32⟩
  | .local _ .vmem, ⟨9, _⟩ => ⟨S1x4x8192, .f32⟩
  | .local _ .vmem, ⟨10, _⟩ => ⟨S16x8192, .f32⟩
  | .local _ .vmem, ⟨11, _⟩ => ⟨S16x8192, .f32⟩
  | .local _ .smem, ⟨0, _⟩ => ⟨S2x112x64, .f32⟩
  | .local _ .smem, ⟨1, _⟩ => ⟨S2x112x64, .f32⟩
  | _, _ => ⟨S2x14336x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 56], ![false, false]⟩

def k0_off1 (i : grid0.Coords) (c0_i32_2 : BitVec 32) : Fin 3 → Nat :=
  let arg0 : BitVec 32 := BitVec.ofNat 32 (i 0).val
  let v7 : Index := Scalar.indexCast arg0
  let arg1 : BitVec 32 := BitVec.ofNat 32 (i 1).val
  let c2_i32 : BitVec 32 := 2#32
  let v5 : BitVec 32 := Scalar.muli arg1 c2_i32
  let v6 : BitVec 32 := Scalar.addi v5 c0_i32_2
  let v8 : Index := Scalar.indexCast v6
  let c0_3 : Index := 0#32
  ![v7.toNat, v8.toNat, 0]
def k0_off2 (i : grid0.Coords) (c0_i32_6 : BitVec 32) : Fin 3 → Nat :=
  let arg0 : BitVec 32 := BitVec.ofNat 32 (i 0).val
  let v16 : Index := Scalar.indexCast arg0
  let arg1 : BitVec 32 := BitVec.ofNat 32 (i 1).val
  let c2_i32_5 : BitVec 32 := 2#32
  let v14 : BitVec 32 := Scalar.muli arg1 c2_i32_5
  let v15 : BitVec 32 := Scalar.addi v14 c0_i32_6
  let v17 : Index := Scalar.indexCast v15
  let c1 : Index := 1#32
  ![v16.toNat, v17.toNat, 1]
def k0_off3 (i : grid0.Coords) (c0_i32_46 : BitVec 32) : Fin 3 → Nat :=
  let arg0 : BitVec 32 := BitVec.ofNat 32 (i 0).val
  let v93 : Index := Scalar.indexCast arg0
  let arg1 : BitVec 32 := BitVec.ofNat 32 (i 1).val
  let c2_i32_45 : BitVec 32 := 2#32
  let v91 : BitVec 32 := Scalar.muli arg1 c2_i32_45
  let v92 : BitVec 32 := Scalar.addi v91 c0_i32_46
  let v94 : Index := Scalar.indexCast v92
  let c2 : Index := 2#32
  ![v93.toNat, v94.toNat, 2]
def k0_off4 (i : grid0.Coords) (c0_i32_49 : BitVec 32) : Fin 3 → Nat :=
  let arg0 : BitVec 32 := BitVec.ofNat 32 (i 0).val
  let v102 : Index := Scalar.indexCast arg0
  let arg1 : BitVec 32 := BitVec.ofNat 32 (i 1).val
  let c2_i32_48 : BitVec 32 := 2#32
  let v100 : BitVec 32 := Scalar.muli arg1 c2_i32_48
  let v101 : BitVec 32 := Scalar.addi v100 c0_i32_49
  let v103 : Index := Scalar.indexCast v101
  let c3 : Index := 3#32
  ![v102.toNat, v103.toNat, 3]
def k0_off5 (i : grid0.Coords) (c0_i32_90 : BitVec 32) : Fin 3 → Nat :=
  let arg0 : BitVec 32 := BitVec.ofNat 32 (i 0).val
  let v179 : Index := Scalar.indexCast arg0
  let arg1 : BitVec 32 := BitVec.ofNat 32 (i 1).val
  let c2_i32_89 : BitVec 32 := 2#32
  let v177 : BitVec 32 := Scalar.muli arg1 c2_i32_89
  let v178 : BitVec 32 := Scalar.addi v177 c0_i32_90
  let v180 : Index := Scalar.indexCast v178
  let c4 : Index := 4#32
  ![v179.toNat, v180.toNat, 4]
def k0_off6 (i : grid0.Coords) (c0_i32_93 : BitVec 32) : Fin 3 → Nat :=
  let arg0 : BitVec 32 := BitVec.ofNat 32 (i 0).val
  let v188 : Index := Scalar.indexCast arg0
  let arg1 : BitVec 32 := BitVec.ofNat 32 (i 1).val
  let c2_i32_92 : BitVec 32 := 2#32
  let v186 : BitVec 32 := Scalar.muli arg1 c2_i32_92
  let v187 : BitVec 32 := Scalar.addi v186 c0_i32_93
  let v189 : Index := Scalar.indexCast v187
  let c5 : Index := 5#32
  ![v188.toNat, v189.toNat, 5]
def k0_off7 (i : grid0.Coords) (c0_i32_134 : BitVec 32) : Fin 3 → Nat :=
  let arg0 : BitVec 32 := BitVec.ofNat 32 (i 0).val
  let v265 : Index := Scalar.indexCast arg0
  let arg1 : BitVec 32 := BitVec.ofNat 32 (i 1).val
  let c2_i32_133 : BitVec 32 := 2#32
  let v263 : BitVec 32 := Scalar.muli arg1 c2_i32_133
  let v264 : BitVec 32 := Scalar.addi v263 c0_i32_134
  let v266 : Index := Scalar.indexCast v264
  let c6 : Index := 6#32
  ![v265.toNat, v266.toNat, 6]
def k0_off8 (i : grid0.Coords) (c0_i32_137 : BitVec 32) : Fin 3 → Nat :=
  let arg0 : BitVec 32 := BitVec.ofNat 32 (i 0).val
  let v274 : Index := Scalar.indexCast arg0
  let arg1 : BitVec 32 := BitVec.ofNat 32 (i 1).val
  let c2_i32_136 : BitVec 32 := 2#32
  let v272 : BitVec 32 := Scalar.muli arg1 c2_i32_136
  let v273 : BitVec 32 := Scalar.addi v272 c0_i32_137
  let v275 : Index := Scalar.indexCast v273
  let c7 : Index := 7#32
  ![v274.toNat, v275.toNat, 7]
def k0_off9 (i : grid0.Coords) (c0_i32_178 : BitVec 32) : Fin 3 → Nat :=
  let arg0 : BitVec 32 := BitVec.ofNat 32 (i 0).val
  let v351 : Index := Scalar.indexCast arg0
  let arg1 : BitVec 32 := BitVec.ofNat 32 (i 1).val
  let c2_i32_177 : BitVec 32 := 2#32
  let v349 : BitVec 32 := Scalar.muli arg1 c2_i32_177
  let v350 : BitVec 32 := Scalar.addi v349 c0_i32_178
  let v352 : Index := Scalar.indexCast v350
  let c8 : Index := 8#32
  ![v351.toNat, v352.toNat, 8]
def k0_off10 (i : grid0.Coords) (c0_i32_181 : BitVec 32) : Fin 3 → Nat :=
  let arg0 : BitVec 32 := BitVec.ofNat 32 (i 0).val
  let v360 : Index := Scalar.indexCast arg0
  let arg1 : BitVec 32 := BitVec.ofNat 32 (i 1).val
  let c2_i32_180 : BitVec 32 := 2#32
  let v358 : BitVec 32 := Scalar.muli arg1 c2_i32_180
  let v359 : BitVec 32 := Scalar.addi v358 c0_i32_181
  let v361 : Index := Scalar.indexCast v359
  let c9 : Index := 9#32
  ![v360.toNat, v361.toNat, 9]
def k0_off11 (i : grid0.Coords) (c0_i32_222 : BitVec 32) : Fin 3 → Nat :=
  let arg0 : BitVec 32 := BitVec.ofNat 32 (i 0).val
  let v437 : Index := Scalar.indexCast arg0
  let arg1 : BitVec 32 := BitVec.ofNat 32 (i 1).val
  let c2_i32_221 : BitVec 32 := 2#32
  let v435 : BitVec 32 := Scalar.muli arg1 c2_i32_221
  let v436 : BitVec 32 := Scalar.addi v435 c0_i32_222
  let v438 : Index := Scalar.indexCast v436
  let c10 : Index := 10#32
  ![v437.toNat, v438.toNat, 10]
def k0_off12 (i : grid0.Coords) (c0_i32_225 : BitVec 32) : Fin 3 → Nat :=
  let arg0 : BitVec 32 := BitVec.ofNat 32 (i 0).val
  let v446 : Index := Scalar.indexCast arg0
  let arg1 : BitVec 32 := BitVec.ofNat 32 (i 1).val
  let c2_i32_224 : BitVec 32 := 2#32
  let v444 : BitVec 32 := Scalar.muli arg1 c2_i32_224
  let v445 : BitVec 32 := Scalar.addi v444 c0_i32_225
  let v447 : Index := Scalar.indexCast v445
  let c11 : Index := 11#32
  ![v446.toNat, v447.toNat, 11]
def k0_off13 (i : grid0.Coords) (c0_i32_266 : BitVec 32) : Fin 3 → Nat :=
  let arg0 : BitVec 32 := BitVec.ofNat 32 (i 0).val
  let v523 : Index := Scalar.indexCast arg0
  let arg1 : BitVec 32 := BitVec.ofNat 32 (i 1).val
  let c2_i32_265 : BitVec 32 := 2#32
  let v521 : BitVec 32 := Scalar.muli arg1 c2_i32_265
  let v522 : BitVec 32 := Scalar.addi v521 c0_i32_266
  let v524 : Index := Scalar.indexCast v522
  let c12 : Index := 12#32
  ![v523.toNat, v524.toNat, 12]
def k0_off14 (i : grid0.Coords) (c0_i32_269 : BitVec 32) : Fin 3 → Nat :=
  let arg0 : BitVec 32 := BitVec.ofNat 32 (i 0).val
  let v532 : Index := Scalar.indexCast arg0
  let arg1 : BitVec 32 := BitVec.ofNat 32 (i 1).val
  let c2_i32_268 : BitVec 32 := 2#32
  let v530 : BitVec 32 := Scalar.muli arg1 c2_i32_268
  let v531 : BitVec 32 := Scalar.addi v530 c0_i32_269
  let v533 : Index := Scalar.indexCast v531
  let c13 : Index := 13#32
  ![v532.toNat, v533.toNat, 13]
def k0_off15 (i : grid0.Coords) (c0_i32_310 : BitVec 32) : Fin 3 → Nat :=
  let arg0 : BitVec 32 := BitVec.ofNat 32 (i 0).val
  let v609 : Index := Scalar.indexCast arg0
  let arg1 : BitVec 32 := BitVec.ofNat 32 (i 1).val
  let c2_i32_309 : BitVec 32 := 2#32
  let v607 : BitVec 32 := Scalar.muli arg1 c2_i32_309
  let v608 : BitVec 32 := Scalar.addi v607 c0_i32_310
  let v610 : Index := Scalar.indexCast v608
  let c14 : Index := 14#32
  ![v609.toNat, v610.toNat, 14]
def k0_off16 (i : grid0.Coords) (c0_i32_313 : BitVec 32) : Fin 3 → Nat :=
  let arg0 : BitVec 32 := BitVec.ofNat 32 (i 0).val
  let v618 : Index := Scalar.indexCast arg0
  let arg1 : BitVec 32 := BitVec.ofNat 32 (i 1).val
  let c2_i32_312 : BitVec 32 := 2#32
  let v616 : BitVec 32 := Scalar.muli arg1 c2_i32_312
  let v617 : BitVec 32 := Scalar.addi v616 c0_i32_313
  let v619 : Index := Scalar.indexCast v617
  let c15 : Index := 15#32
  ![v618.toNat, v619.toNat, 15]
def k0_off17 (i : grid0.Coords) (c0_i32_354 : BitVec 32) : Fin 3 → Nat :=
  let arg0 : BitVec 32 := BitVec.ofNat 32 (i 0).val
  let v695 : Index := Scalar.indexCast arg0
  let arg1 : BitVec 32 := BitVec.ofNat 32 (i 1).val
  let c2_i32_353 : BitVec 32 := 2#32
  let v693 : BitVec 32 := Scalar.muli arg1 c2_i32_353
  let v694 : BitVec 32 := Scalar.addi v693 c0_i32_354
  let v696 : Index := Scalar.indexCast v694
  let c16 : Index := 16#32
  ![v695.toNat, v696.toNat, 16]
def k0_off18 (i : grid0.Coords) (c0_i32_357 : BitVec 32) : Fin 3 → Nat :=
  let arg0 : BitVec 32 := BitVec.ofNat 32 (i 0).val
  let v704 : Index := Scalar.indexCast arg0
  let arg1 : BitVec 32 := BitVec.ofNat 32 (i 1).val
  let c2_i32_356 : BitVec 32 := 2#32
  let v702 : BitVec 32 := Scalar.muli arg1 c2_i32_356
  let v703 : BitVec 32 := Scalar.addi v702 c0_i32_357
  let v705 : Index := Scalar.indexCast v703
  let c17 : Index := 17#32
  ![v704.toNat, v705.toNat, 17]
def k0_off19 (i : grid0.Coords) (c0_i32_398 : BitVec 32) : Fin 3 → Nat :=
  let arg0 : BitVec 32 := BitVec.ofNat 32 (i 0).val
  let v781 : Index := Scalar.indexCast arg0
  let arg1 : BitVec 32 := BitVec.ofNat 32 (i 1).val
  let c2_i32_397 : BitVec 32 := 2#32
  let v779 : BitVec 32 := Scalar.muli arg1 c2_i32_397
  let v780 : BitVec 32 := Scalar.addi v779 c0_i32_398
  let v782 : Index := Scalar.indexCast v780
  let c18 : Index := 18#32
  ![v781.toNat, v782.toNat, 18]
def k0_off20 (i : grid0.Coords) (c0_i32_401 : BitVec 32) : Fin 3 → Nat :=
  let arg0 : BitVec 32 := BitVec.ofNat 32 (i 0).val
  let v790 : Index := Scalar.indexCast arg0
  let arg1 : BitVec 32 := BitVec.ofNat 32 (i 1).val
  let c2_i32_400 : BitVec 32 := 2#32
  let v788 : BitVec 32 := Scalar.muli arg1 c2_i32_400
  let v789 : BitVec 32 := Scalar.addi v788 c0_i32_401
  let v791 : Index := Scalar.indexCast v789
  let c19 : Index := 19#32
  ![v790.toNat, v791.toNat, 19]
def k0_off21 (i : grid0.Coords) (c0_i32_442 : BitVec 32) : Fin 3 → Nat :=
  let arg0 : BitVec 32 := BitVec.ofNat 32 (i 0).val
  let v867 : Index := Scalar.indexCast arg0
  let arg1 : BitVec 32 := BitVec.ofNat 32 (i 1).val
  let c2_i32_441 : BitVec 32 := 2#32
  let v865 : BitVec 32 := Scalar.muli arg1 c2_i32_441
  let v866 : BitVec 32 := Scalar.addi v865 c0_i32_442
  let v868 : Index := Scalar.indexCast v866
  let c20 : Index := 20#32
  ![v867.toNat, v868.toNat, 20]
def k0_off22 (i : grid0.Coords) (c0_i32_445 : BitVec 32) : Fin 3 → Nat :=
  let arg0 : BitVec 32 := BitVec.ofNat 32 (i 0).val
  let v876 : Index := Scalar.indexCast arg0
  let arg1 : BitVec 32 := BitVec.ofNat 32 (i 1).val
  let c2_i32_444 : BitVec 32 := 2#32
  let v874 : BitVec 32 := Scalar.muli arg1 c2_i32_444
  let v875 : BitVec 32 := Scalar.addi v874 c0_i32_445
  let v877 : Index := Scalar.indexCast v875
  let c21 : Index := 21#32
  ![v876.toNat, v877.toNat, 21]
def k0_off23 (i : grid0.Coords) (c0_i32_486 : BitVec 32) : Fin 3 → Nat :=
  let arg0 : BitVec 32 := BitVec.ofNat 32 (i 0).val
  let v953 : Index := Scalar.indexCast arg0
  let arg1 : BitVec 32 := BitVec.ofNat 32 (i 1).val
  let c2_i32_485 : BitVec 32 := 2#32
  let v951 : BitVec 32 := Scalar.muli arg1 c2_i32_485
  let v952 : BitVec 32 := Scalar.addi v951 c0_i32_486
  let v954 : Index := Scalar.indexCast v952
  let c22 : Index := 22#32
  ![v953.toNat, v954.toNat, 22]
def k0_off24 (i : grid0.Coords) (c0_i32_489 : BitVec 32) : Fin 3 → Nat :=
  let arg0 : BitVec 32 := BitVec.ofNat 32 (i 0).val
  let v962 : Index := Scalar.indexCast arg0
  let arg1 : BitVec 32 := BitVec.ofNat 32 (i 1).val
  let c2_i32_488 : BitVec 32 := 2#32
  let v960 : BitVec 32 := Scalar.muli arg1 c2_i32_488
  let v961 : BitVec 32 := Scalar.addi v960 c0_i32_489
  let v963 : Index := Scalar.indexCast v961
  let c23 : Index := 23#32
  ![v962.toNat, v963.toNat, 23]
def k0_off25 (i : grid0.Coords) (c0_i32_530 : BitVec 32) : Fin 3 → Nat :=
  let arg0 : BitVec 32 := BitVec.ofNat 32 (i 0).val
  let v1039 : Index := Scalar.indexCast arg0
  let arg1 : BitVec 32 := BitVec.ofNat 32 (i 1).val
  let c2_i32_529 : BitVec 32 := 2#32
  let v1037 : BitVec 32 := Scalar.muli arg1 c2_i32_529
  let v1038 : BitVec 32 := Scalar.addi v1037 c0_i32_530
  let v1040 : Index := Scalar.indexCast v1038
  let c24 : Index := 24#32
  ![v1039.toNat, v1040.toNat, 24]
def k0_off26 (i : grid0.Coords) (c0_i32_533 : BitVec 32) : Fin 3 → Nat :=
  let arg0 : BitVec 32 := BitVec.ofNat 32 (i 0).val
  let v1048 : Index := Scalar.indexCast arg0
  let arg1 : BitVec 32 := BitVec.ofNat 32 (i 1).val
  let c2_i32_532 : BitVec 32 := 2#32
  let v1046 : BitVec 32 := Scalar.muli arg1 c2_i32_532
  let v1047 : BitVec 32 := Scalar.addi v1046 c0_i32_533
  let v1049 : Index := Scalar.indexCast v1047
  let c25 : Index := 25#32
  ![v1048.toNat, v1049.toNat, 25]
def k0_off27 (i : grid0.Coords) (c0_i32_574 : BitVec 32) : Fin 3 → Nat :=
  let arg0 : BitVec 32 := BitVec.ofNat 32 (i 0).val
  let v1125 : Index := Scalar.indexCast arg0
  let arg1 : BitVec 32 := BitVec.ofNat 32 (i 1).val
  let c2_i32_573 : BitVec 32 := 2#32
  let v1123 : BitVec 32 := Scalar.muli arg1 c2_i32_573
  let v1124 : BitVec 32 := Scalar.addi v1123 c0_i32_574
  let v1126 : Index := Scalar.indexCast v1124
  let c26 : Index := 26#32
  ![v1125.toNat, v1126.toNat, 26]
def k0_off28 (i : grid0.Coords) (c0_i32_577 : BitVec 32) : Fin 3 → Nat :=
  let arg0 : BitVec 32 := BitVec.ofNat 32 (i 0).val
  let v1134 : Index := Scalar.indexCast arg0
  let arg1 : BitVec 32 := BitVec.ofNat 32 (i 1).val
  let c2_i32_576 : BitVec 32 := 2#32
  let v1132 : BitVec 32 := Scalar.muli arg1 c2_i32_576
  let v1133 : BitVec 32 := Scalar.addi v1132 c0_i32_577
  let v1135 : Index := Scalar.indexCast v1133
  let c27 : Index := 27#32
  ![v1134.toNat, v1135.toNat, 27]
def k0_off29 (i : grid0.Coords) (c0_i32_618 : BitVec 32) : Fin 3 → Nat :=
  let arg0 : BitVec 32 := BitVec.ofNat 32 (i 0).val
  let v1211 : Index := Scalar.indexCast arg0
  let arg1 : BitVec 32 := BitVec.ofNat 32 (i 1).val
  let c2_i32_617 : BitVec 32 := 2#32
  let v1209 : BitVec 32 := Scalar.muli arg1 c2_i32_617
  let v1210 : BitVec 32 := Scalar.addi v1209 c0_i32_618
  let v1212 : Index := Scalar.indexCast v1210
  let c28 : Index := 28#32
  ![v1211.toNat, v1212.toNat, 28]
def k0_off30 (i : grid0.Coords) (c0_i32_621 : BitVec 32) : Fin 3 → Nat :=
  let arg0 : BitVec 32 := BitVec.ofNat 32 (i 0).val
  let v1220 : Index := Scalar.indexCast arg0
  let arg1 : BitVec 32 := BitVec.ofNat 32 (i 1).val
  let c2_i32_620 : BitVec 32 := 2#32
  let v1218 : BitVec 32 := Scalar.muli arg1 c2_i32_620
  let v1219 : BitVec 32 := Scalar.addi v1218 c0_i32_621
  let v1221 : Index := Scalar.indexCast v1219
  let c29 : Index := 29#32
  ![v1220.toNat, v1221.toNat, 29]
def k0_off31 (i : grid0.Coords) (c0_i32_662 : BitVec 32) : Fin 3 → Nat :=
  let arg0 : BitVec 32 := BitVec.ofNat 32 (i 0).val
  let v1297 : Index := Scalar.indexCast arg0
  let arg1 : BitVec 32 := BitVec.ofNat 32 (i 1).val
  let c2_i32_661 : BitVec 32 := 2#32
  let v1295 : BitVec 32 := Scalar.muli arg1 c2_i32_661
  let v1296 : BitVec 32 := Scalar.addi v1295 c0_i32_662
  let v1298 : Index := Scalar.indexCast v1296
  let c30 : Index := 30#32
  ![v1297.toNat, v1298.toNat, 30]
def k0_off32 (i : grid0.Coords) (c0_i32_665 : BitVec 32) : Fin 3 → Nat :=
  let arg0 : BitVec 32 := BitVec.ofNat 32 (i 0).val
  let v1306 : Index := Scalar.indexCast arg0
  let arg1 : BitVec 32 := BitVec.ofNat 32 (i 1).val
  let c2_i32_664 : BitVec 32 := 2#32
  let v1304 : BitVec 32 := Scalar.muli arg1 c2_i32_664
  let v1305 : BitVec 32 := Scalar.addi v1304 c0_i32_665
  let v1307 : Index := Scalar.indexCast v1305
  let c31 : Index := 31#32
  ![v1306.toNat, v1307.toNat, 31]
def k0_off33 (i : grid0.Coords) (c0_i32_706 : BitVec 32) : Fin 3 → Nat :=
  let arg0 : BitVec 32 := BitVec.ofNat 32 (i 0).val
  let v1383 : Index := Scalar.indexCast arg0
  let arg1 : BitVec 32 := BitVec.ofNat 32 (i 1).val
  let c2_i32_705 : BitVec 32 := 2#32
  let v1381 : BitVec 32 := Scalar.muli arg1 c2_i32_705
  let v1382 : BitVec 32 := Scalar.addi v1381 c0_i32_706
  let v1384 : Index := Scalar.indexCast v1382
  let c32 : Index := 32#32
  ![v1383.toNat, v1384.toNat, 32]
def k0_off34 (i : grid0.Coords) (c0_i32_709 : BitVec 32) : Fin 3 → Nat :=
  let arg0 : BitVec 32 := BitVec.ofNat 32 (i 0).val
  let v1392 : Index := Scalar.indexCast arg0
  let arg1 : BitVec 32 := BitVec.ofNat 32 (i 1).val
  let c2_i32_708 : BitVec 32 := 2#32
  let v1390 : BitVec 32 := Scalar.muli arg1 c2_i32_708
  let v1391 : BitVec 32 := Scalar.addi v1390 c0_i32_709
  let v1393 : Index := Scalar.indexCast v1391
  let c33 : Index := 33#32
  ![v1392.toNat, v1393.toNat, 33]
def k0_off35 (i : grid0.Coords) (c0_i32_750 : BitVec 32) : Fin 3 → Nat :=
  let arg0 : BitVec 32 := BitVec.ofNat 32 (i 0).val
  let v1469 : Index := Scalar.indexCast arg0
  let arg1 : BitVec 32 := BitVec.ofNat 32 (i 1).val
  let c2_i32_749 : BitVec 32 := 2#32
  let v1467 : BitVec 32 := Scalar.muli arg1 c2_i32_749
  let v1468 : BitVec 32 := Scalar.addi v1467 c0_i32_750
  let v1470 : Index := Scalar.indexCast v1468
  let c34 : Index := 34#32
  ![v1469.toNat, v1470.toNat, 34]
def k0_off36 (i : grid0.Coords) (c0_i32_753 : BitVec 32) : Fin 3 → Nat :=
  let arg0 : BitVec 32 := BitVec.ofNat 32 (i 0).val
  let v1478 : Index := Scalar.indexCast arg0
  let arg1 : BitVec 32 := BitVec.ofNat 32 (i 1).val
  let c2_i32_752 : BitVec 32 := 2#32
  let v1476 : BitVec 32 := Scalar.muli arg1 c2_i32_752
  let v1477 : BitVec 32 := Scalar.addi v1476 c0_i32_753
  let v1479 : Index := Scalar.indexCast v1477
  let c35 : Index := 35#32
  ![v1478.toNat, v1479.toNat, 35]
def k0_off37 (i : grid0.Coords) (c0_i32_794 : BitVec 32) : Fin 3 → Nat :=
  let arg0 : BitVec 32 := BitVec.ofNat 32 (i 0).val
  let v1555 : Index := Scalar.indexCast arg0
  let arg1 : BitVec 32 := BitVec.ofNat 32 (i 1).val
  let c2_i32_793 : BitVec 32 := 2#32
  let v1553 : BitVec 32 := Scalar.muli arg1 c2_i32_793
  let v1554 : BitVec 32 := Scalar.addi v1553 c0_i32_794
  let v1556 : Index := Scalar.indexCast v1554
  let c36 : Index := 36#32
  ![v1555.toNat, v1556.toNat, 36]
def k0_off38 (i : grid0.Coords) (c0_i32_797 : BitVec 32) : Fin 3 → Nat :=
  let arg0 : BitVec 32 := BitVec.ofNat 32 (i 0).val
  let v1564 : Index := Scalar.indexCast arg0
  let arg1 : BitVec 32 := BitVec.ofNat 32 (i 1).val
  let c2_i32_796 : BitVec 32 := 2#32
  let v1562 : BitVec 32 := Scalar.muli arg1 c2_i32_796
  let v1563 : BitVec 32 := Scalar.addi v1562 c0_i32_797
  let v1565 : Index := Scalar.indexCast v1563
  let c37 : Index := 37#32
  ![v1564.toNat, v1565.toNat, 37]
def k0_off39 (i : grid0.Coords) (c0_i32_838 : BitVec 32) : Fin 3 → Nat :=
  let arg0 : BitVec 32 := BitVec.ofNat 32 (i 0).val
  let v1641 : Index := Scalar.indexCast arg0
  let arg1 : BitVec 32 := BitVec.ofNat 32 (i 1).val
  let c2_i32_837 : BitVec 32 := 2#32
  let v1639 : BitVec 32 := Scalar.muli arg1 c2_i32_837
  let v1640 : BitVec 32 := Scalar.addi v1639 c0_i32_838
  let v1642 : Index := Scalar.indexCast v1640
  let c38 : Index := 38#32
  ![v1641.toNat, v1642.toNat, 38]
def k0_off40 (i : grid0.Coords) (c0_i32_841 : BitVec 32) : Fin 3 → Nat :=
  let arg0 : BitVec 32 := BitVec.ofNat 32 (i 0).val
  let v1650 : Index := Scalar.indexCast arg0
  let arg1 : BitVec 32 := BitVec.ofNat 32 (i 1).val
  let c2_i32_840 : BitVec 32 := 2#32
  let v1648 : BitVec 32 := Scalar.muli arg1 c2_i32_840
  let v1649 : BitVec 32 := Scalar.addi v1648 c0_i32_841
  let v1651 : Index := Scalar.indexCast v1649
  let c39 : Index := 39#32
  ![v1650.toNat, v1651.toNat, 39]
def k0_off41 (i : grid0.Coords) (c0_i32_882 : BitVec 32) : Fin 3 → Nat :=
  let arg0 : BitVec 32 := BitVec.ofNat 32 (i 0).val
  let v1727 : Index := Scalar.indexCast arg0
  let arg1 : BitVec 32 := BitVec.ofNat 32 (i 1).val
  let c2_i32_881 : BitVec 32 := 2#32
  let v1725 : BitVec 32 := Scalar.muli arg1 c2_i32_881
  let v1726 : BitVec 32 := Scalar.addi v1725 c0_i32_882
  let v1728 : Index := Scalar.indexCast v1726
  let c40 : Index := 40#32
  ![v1727.toNat, v1728.toNat, 40]
def k0_off42 (i : grid0.Coords) (c0_i32_885 : BitVec 32) : Fin 3 → Nat :=
  let arg0 : BitVec 32 := BitVec.ofNat 32 (i 0).val
  let v1736 : Index := Scalar.indexCast arg0
  let arg1 : BitVec 32 := BitVec.ofNat 32 (i 1).val
  let c2_i32_884 : BitVec 32 := 2#32
  let v1734 : BitVec 32 := Scalar.muli arg1 c2_i32_884
  let v1735 : BitVec 32 := Scalar.addi v1734 c0_i32_885
  let v1737 : Index := Scalar.indexCast v1735
  let c41 : Index := 41#32
  ![v1736.toNat, v1737.toNat, 41]
def k0_off43 (i : grid0.Coords) (c0_i32_926 : BitVec 32) : Fin 3 → Nat :=
  let arg0 : BitVec 32 := BitVec.ofNat 32 (i 0).val
  let v1813 : Index := Scalar.indexCast arg0
  let arg1 : BitVec 32 := BitVec.ofNat 32 (i 1).val
  let c2_i32_925 : BitVec 32 := 2#32
  let v1811 : BitVec 32 := Scalar.muli arg1 c2_i32_925
  let v1812 : BitVec 32 := Scalar.addi v1811 c0_i32_926
  let v1814 : Index := Scalar.indexCast v1812
  let c42 : Index := 42#32
  ![v1813.toNat, v1814.toNat, 42]
def k0_off44 (i : grid0.Coords) (c0_i32_929 : BitVec 32) : Fin 3 → Nat :=
  let arg0 : BitVec 32 := BitVec.ofNat 32 (i 0).val
  let v1822 : Index := Scalar.indexCast arg0
  let arg1 : BitVec 32 := BitVec.ofNat 32 (i 1).val
  let c2_i32_928 : BitVec 32 := 2#32
  let v1820 : BitVec 32 := Scalar.muli arg1 c2_i32_928
  let v1821 : BitVec 32 := Scalar.addi v1820 c0_i32_929
  let v1823 : Index := Scalar.indexCast v1821
  let c43 : Index := 43#32
  ![v1822.toNat, v1823.toNat, 43]
def k0_off45 (i : grid0.Coords) (c0_i32_970 : BitVec 32) : Fin 3 → Nat :=
  let arg0 : BitVec 32 := BitVec.ofNat 32 (i 0).val
  let v1899 : Index := Scalar.indexCast arg0
  let arg1 : BitVec 32 := BitVec.ofNat 32 (i 1).val
  let c2_i32_969 : BitVec 32 := 2#32
  let v1897 : BitVec 32 := Scalar.muli arg1 c2_i32_969
  let v1898 : BitVec 32 := Scalar.addi v1897 c0_i32_970
  let v1900 : Index := Scalar.indexCast v1898
  let c44 : Index := 44#32
  ![v1899.toNat, v1900.toNat, 44]
def k0_off46 (i : grid0.Coords) (c0_i32_973 : BitVec 32) : Fin 3 → Nat :=
  let arg0 : BitVec 32 := BitVec.ofNat 32 (i 0).val
  let v1908 : Index := Scalar.indexCast arg0
  let arg1 : BitVec 32 := BitVec.ofNat 32 (i 1).val
  let c2_i32_972 : BitVec 32 := 2#32
  let v1906 : BitVec 32 := Scalar.muli arg1 c2_i32_972
  let v1907 : BitVec 32 := Scalar.addi v1906 c0_i32_973
  let v1909 : Index := Scalar.indexCast v1907
  let c45 : Index := 45#32
  ![v1908.toNat, v1909.toNat, 45]
def k0_off47 (i : grid0.Coords) (c0_i32_1014 : BitVec 32) : Fin 3 → Nat :=
  let arg0 : BitVec 32 := BitVec.ofNat 32 (i 0).val
  let v1985 : Index := Scalar.indexCast arg0
  let arg1 : BitVec 32 := BitVec.ofNat 32 (i 1).val
  let c2_i32_1013 : BitVec 32 := 2#32
  let v1983 : BitVec 32 := Scalar.muli arg1 c2_i32_1013
  let v1984 : BitVec 32 := Scalar.addi v1983 c0_i32_1014
  let v1986 : Index := Scalar.indexCast v1984
  let c46 : Index := 46#32
  ![v1985.toNat, v1986.toNat, 46]
def k0_off48 (i : grid0.Coords) (c0_i32_1017 : BitVec 32) : Fin 3 → Nat :=
  let arg0 : BitVec 32 := BitVec.ofNat 32 (i 0).val
  let v1994 : Index := Scalar.indexCast arg0
  let arg1 : BitVec 32 := BitVec.ofNat 32 (i 1).val
  let c2_i32_1016 : BitVec 32 := 2#32
  let v1992 : BitVec 32 := Scalar.muli arg1 c2_i32_1016
  let v1993 : BitVec 32 := Scalar.addi v1992 c0_i32_1017
  let v1995 : Index := Scalar.indexCast v1993
  let c47 : Index := 47#32
  ![v1994.toNat, v1995.toNat, 47]
def k0_off49 (i : grid0.Coords) (c0_i32_1058 : BitVec 32) : Fin 3 → Nat :=
  let arg0 : BitVec 32 := BitVec.ofNat 32 (i 0).val
  let v2071 : Index := Scalar.indexCast arg0
  let arg1 : BitVec 32 := BitVec.ofNat 32 (i 1).val
  let c2_i32_1057 : BitVec 32 := 2#32
  let v2069 : BitVec 32 := Scalar.muli arg1 c2_i32_1057
  let v2070 : BitVec 32 := Scalar.addi v2069 c0_i32_1058
  let v2072 : Index := Scalar.indexCast v2070
  let c48 : Index := 48#32
  ![v2071.toNat, v2072.toNat, 48]
def k0_off50 (i : grid0.Coords) (c0_i32_1061 : BitVec 32) : Fin 3 → Nat :=
  let arg0 : BitVec 32 := BitVec.ofNat 32 (i 0).val
  let v2080 : Index := Scalar.indexCast arg0
  let arg1 : BitVec 32 := BitVec.ofNat 32 (i 1).val
  let c2_i32_1060 : BitVec 32 := 2#32
  let v2078 : BitVec 32 := Scalar.muli arg1 c2_i32_1060
  let v2079 : BitVec 32 := Scalar.addi v2078 c0_i32_1061
  let v2081 : Index := Scalar.indexCast v2079
  let c49 : Index := 49#32
  ![v2080.toNat, v2081.toNat, 49]
def k0_off51 (i : grid0.Coords) (c0_i32_1102 : BitVec 32) : Fin 3 → Nat :=
  let arg0 : BitVec 32 := BitVec.ofNat 32 (i 0).val
  let v2157 : Index := Scalar.indexCast arg0
  let arg1 : BitVec 32 := BitVec.ofNat 32 (i 1).val
  let c2_i32_1101 : BitVec 32 := 2#32
  let v2155 : BitVec 32 := Scalar.muli arg1 c2_i32_1101
  let v2156 : BitVec 32 := Scalar.addi v2155 c0_i32_1102
  let v2158 : Index := Scalar.indexCast v2156
  let c50 : Index := 50#32
  ![v2157.toNat, v2158.toNat, 50]
def k0_off52 (i : grid0.Coords) (c0_i32_1105 : BitVec 32) : Fin 3 → Nat :=
  let arg0 : BitVec 32 := BitVec.ofNat 32 (i 0).val
  let v2166 : Index := Scalar.indexCast arg0
  let arg1 : BitVec 32 := BitVec.ofNat 32 (i 1).val
  let c2_i32_1104 : BitVec 32 := 2#32
  let v2164 : BitVec 32 := Scalar.muli arg1 c2_i32_1104
  let v2165 : BitVec 32 := Scalar.addi v2164 c0_i32_1105
  let v2167 : Index := Scalar.indexCast v2165
  let c51 : Index := 51#32
  ![v2166.toNat, v2167.toNat, 51]
def k0_off53 (i : grid0.Coords) (c0_i32_1146 : BitVec 32) : Fin 3 → Nat :=
  let arg0 : BitVec 32 := BitVec.ofNat 32 (i 0).val
  let v2243 : Index := Scalar.indexCast arg0
  let arg1 : BitVec 32 := BitVec.ofNat 32 (i 1).val
  let c2_i32_1145 : BitVec 32 := 2#32
  let v2241 : BitVec 32 := Scalar.muli arg1 c2_i32_1145
  let v2242 : BitVec 32 := Scalar.addi v2241 c0_i32_1146
  let v2244 : Index := Scalar.indexCast v2242
  let c52 : Index := 52#32
  ![v2243.toNat, v2244.toNat, 52]
def k0_off54 (i : grid0.Coords) (c0_i32_1149 : BitVec 32) : Fin 3 → Nat :=
  let arg0 : BitVec 32 := BitVec.ofNat 32 (i 0).val
  let v2252 : Index := Scalar.indexCast arg0
  let arg1 : BitVec 32 := BitVec.ofNat 32 (i 1).val
  let c2_i32_1148 : BitVec 32 := 2#32
  let v2250 : BitVec 32 := Scalar.muli arg1 c2_i32_1148
  let v2251 : BitVec 32 := Scalar.addi v2250 c0_i32_1149
  let v2253 : Index := Scalar.indexCast v2251
  let c53 : Index := 53#32
  ![v2252.toNat, v2253.toNat, 53]
def k0_off55 (i : grid0.Coords) (c0_i32_1190 : BitVec 32) : Fin 3 → Nat :=
  let arg0 : BitVec 32 := BitVec.ofNat 32 (i 0).val
  let v2329 : Index := Scalar.indexCast arg0
  let arg1 : BitVec 32 := BitVec.ofNat 32 (i 1).val
  let c2_i32_1189 : BitVec 32 := 2#32
  let v2327 : BitVec 32 := Scalar.muli arg1 c2_i32_1189
  let v2328 : BitVec 32 := Scalar.addi v2327 c0_i32_1190
  let v2330 : Index := Scalar.indexCast v2328
  let c54 : Index := 54#32
  ![v2329.toNat, v2330.toNat, 54]
def k0_off56 (i : grid0.Coords) (c0_i32_1193 : BitVec 32) : Fin 3 → Nat :=
  let arg0 : BitVec 32 := BitVec.ofNat 32 (i 0).val
  let v2338 : Index := Scalar.indexCast arg0
  let arg1 : BitVec 32 := BitVec.ofNat 32 (i 1).val
  let c2_i32_1192 : BitVec 32 := 2#32
  let v2336 : BitVec 32 := Scalar.muli arg1 c2_i32_1192
  let v2337 : BitVec 32 := Scalar.addi v2336 c0_i32_1193
  let v2339 : Index := Scalar.indexCast v2337
  let c55 : Index := 55#32
  ![v2338.toNat, v2339.toNat, 55]
def k0_off57 (i : grid0.Coords) (c0_i32_1234 : BitVec 32) : Fin 3 → Nat :=
  let arg0 : BitVec 32 := BitVec.ofNat 32 (i 0).val
  let v2415 : Index := Scalar.indexCast arg0
  let arg1 : BitVec 32 := BitVec.ofNat 32 (i 1).val
  let c2_i32_1233 : BitVec 32 := 2#32
  let v2413 : BitVec 32 := Scalar.muli arg1 c2_i32_1233
  let v2414 : BitVec 32 := Scalar.addi v2413 c0_i32_1234
  let v2416 : Index := Scalar.indexCast v2414
  let c56 : Index := 56#32
  ![v2415.toNat, v2416.toNat, 56]
def k0_off58 (i : grid0.Coords) (c0_i32_1237 : BitVec 32) : Fin 3 → Nat :=
  let arg0 : BitVec 32 := BitVec.ofNat 32 (i 0).val
  let v2424 : Index := Scalar.indexCast arg0
  let arg1 : BitVec 32 := BitVec.ofNat 32 (i 1).val
  let c2_i32_1236 : BitVec 32 := 2#32
  let v2422 : BitVec 32 := Scalar.muli arg1 c2_i32_1236
  let v2423 : BitVec 32 := Scalar.addi v2422 c0_i32_1237
  let v2425 : Index := Scalar.indexCast v2423
  let c57 : Index := 57#32
  ![v2424.toNat, v2425.toNat, 57]
def k0_off59 (i : grid0.Coords) (c0_i32_1278 : BitVec 32) : Fin 3 → Nat :=
  let arg0 : BitVec 32 := BitVec.ofNat 32 (i 0).val
  let v2501 : Index := Scalar.indexCast arg0
  let arg1 : BitVec 32 := BitVec.ofNat 32 (i 1).val
  let c2_i32_1277 : BitVec 32 := 2#32
  let v2499 : BitVec 32 := Scalar.muli arg1 c2_i32_1277
  let v2500 : BitVec 32 := Scalar.addi v2499 c0_i32_1278
  let v2502 : Index := Scalar.indexCast v2500
  let c58 : Index := 58#32
  ![v2501.toNat, v2502.toNat, 58]
def k0_off60 (i : grid0.Coords) (c0_i32_1281 : BitVec 32) : Fin 3 → Nat :=
  let arg0 : BitVec 32 := BitVec.ofNat 32 (i 0).val
  let v2510 : Index := Scalar.indexCast arg0
  let arg1 : BitVec 32 := BitVec.ofNat 32 (i 1).val
  let c2_i32_1280 : BitVec 32 := 2#32
  let v2508 : BitVec 32 := Scalar.muli arg1 c2_i32_1280
  let v2509 : BitVec 32 := Scalar.addi v2508 c0_i32_1281
  let v2511 : Index := Scalar.indexCast v2509
  let c59 : Index := 59#32
  ![v2510.toNat, v2511.toNat, 59]
def k0_off61 (i : grid0.Coords) (c0_i32_1322 : BitVec 32) : Fin 3 → Nat :=
  let arg0 : BitVec 32 := BitVec.ofNat 32 (i 0).val
  let v2587 : Index := Scalar.indexCast arg0
  let arg1 : BitVec 32 := BitVec.ofNat 32 (i 1).val
  let c2_i32_1321 : BitVec 32 := 2#32
  let v2585 : BitVec 32 := Scalar.muli arg1 c2_i32_1321
  let v2586 : BitVec 32 := Scalar.addi v2585 c0_i32_1322
  let v2588 : Index := Scalar.indexCast v2586
  let c60 : Index := 60#32
  ![v2587.toNat, v2588.toNat, 60]
def k0_off62 (i : grid0.Coords) (c0_i32_1325 : BitVec 32) : Fin 3 → Nat :=
  let arg0 : BitVec 32 := BitVec.ofNat 32 (i 0).val
  let v2596 : Index := Scalar.indexCast arg0
  let arg1 : BitVec 32 := BitVec.ofNat 32 (i 1).val
  let c2_i32_1324 : BitVec 32 := 2#32
  let v2594 : BitVec 32 := Scalar.muli arg1 c2_i32_1324
  let v2595 : BitVec 32 := Scalar.addi v2594 c0_i32_1325
  let v2597 : Index := Scalar.indexCast v2595
  let c61 : Index := 61#32
  ![v2596.toNat, v2597.toNat, 61]
def k0_off63 (i : grid0.Coords) (c0_i32_1366 : BitVec 32) : Fin 3 → Nat :=
  let arg0 : BitVec 32 := BitVec.ofNat 32 (i 0).val
  let v2673 : Index := Scalar.indexCast arg0
  let arg1 : BitVec 32 := BitVec.ofNat 32 (i 1).val
  let c2_i32_1365 : BitVec 32 := 2#32
  let v2671 : BitVec 32 := Scalar.muli arg1 c2_i32_1365
  let v2672 : BitVec 32 := Scalar.addi v2671 c0_i32_1366
  let v2674 : Index := Scalar.indexCast v2672
  let c62 : Index := 62#32
  ![v2673.toNat, v2674.toNat, 62]
def k0_off64 (i : grid0.Coords) (c0_i32_1369 : BitVec 32) : Fin 3 → Nat :=
  let arg0 : BitVec 32 := BitVec.ofNat 32 (i 0).val
  let v2682 : Index := Scalar.indexCast arg0
  let arg1 : BitVec 32 := BitVec.ofNat 32 (i 1).val
  let c2_i32_1368 : BitVec 32 := 2#32
  let v2680 : BitVec 32 := Scalar.muli arg1 c2_i32_1368
  let v2681 : BitVec 32 := Scalar.addi v2680 c0_i32_1369
  let v2683 : Index := Scalar.indexCast v2681
  let c63 : Index := 63#32
  ![v2682.toNat, v2683.toNat, 63]
def k0_off65 (i : grid0.Coords) : Fin 3 → Nat :=
  let c0_1408 : Index := 0#32
  let c0_1409 : Index := 0#32
  let arg1 : BitVec 32 := BitVec.ofNat 32 (i 1).val
  let c256_i32 : BitVec 32 := 256#32
  let v2769 : BitVec 32 := Scalar.muli arg1 c256_i32
  let v2770 : Index := Scalar.indexCast v2769
  ![0, 0, v2770.toNat]
def k0_cond2 (i : grid0.Coords) : BitVec 1 :=
  let arg1 : BitVec 32 := BitVec.ofNat 32 (i 1).val
  let c55_i32 : BitVec 32 := 55#32
  let v5825 : BitVec 1 := Scalar.cmpi .eq arg1 c55_i32
  let v5826 : BitVec 32 := Scalar.extui v5825
  let c0_i32_2595 : BitVec 32 := 0#32
  let v5827 : BitVec 1 := Scalar.cmpi .ne v5826 c0_i32_2595
  v5827

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x112x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x112x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x8192 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x14336 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x14336x8192 : Shape := ⟨3, ![2, 14336, 8192]⟩
abbrev S2x112x64 : Shape := ⟨3, ![2, 112, 64]⟩
abbrev S2x8192x4 : Shape := ⟨3, ![2, 8192, 4]⟩
abbrev S2x4x14336 : Shape := ⟨3, ![2, 4, 14336]⟩
abbrev S2x4x8192 : Shape := ⟨3, ![2, 4, 8192]⟩
abbrev S2x112x128x64x128 : Shape := ⟨5, ![2, 112, 128, 64, 128]⟩
abbrev S2x112x1x64x1 : Shape := ⟨5, ![2, 112, 1, 64, 1]⟩
abbrev S2x14336x4 : Shape := ⟨3, ![2, 14336, 4]⟩
abbrev S2x14336x1 : Shape := ⟨3, ![2, 14336, 1]⟩
abbrev S2x14336 : Shape := ⟨2, ![2, 14336]⟩
abbrev S2 : Shape := ⟨1, ![2]⟩
abbrev S2x1 : Shape := ⟨2, ![2, 1]⟩
abbrev S2x1x14336 : Shape := ⟨3, ![2, 1, 14336]⟩

abbrev nBuf : Space → Nat
  | .hbm => 9
  | .vmem => 7
  | .smem => 0
  | _ => 0

abbrev bufTy : (tb : Table) → Fin (tcTables nBuf tb) → BufTy
  | .hbm, ⟨0, _⟩ => ⟨S2x14336x8192, .i8⟩
  | .hbm, ⟨1, _⟩ => ⟨S2x112x64, .f32⟩
  | .hbm, ⟨2, _⟩ => ⟨S2x14336x8192, .i8⟩
  | .hbm, ⟨3, _⟩ => ⟨S2x112x64, .f32⟩
  | .hbm, ⟨4, _⟩ => ⟨S2x8192x4, .f32⟩
  | .hbm, ⟨5, _⟩ => ⟨S2x14336x8192, .fp8e5m2⟩
  | .hbm, ⟨6, _⟩ => ⟨S2x14336x8192, .fp8e4m3⟩
  | .hbm, ⟨7, _⟩ => ⟨S2x4x14336, .f32⟩
  | .hbm, ⟨8, _⟩ => ⟨S2x4x8192, .f32⟩
  | .local _ .vmem, ⟨0, _⟩ => ⟨S2x14336x8192, .fp8e5m2⟩
  | .local _ .vmem, ⟨1, _⟩ => ⟨S2x112x64, .f32⟩
  | .local _ .vmem, ⟨2, _⟩ => ⟨S2x14336x8192, .fp8e4m3⟩
  | .local _ .vmem, ⟨3, _⟩ => ⟨S2x112x64, .f32⟩
  | .local _ .vmem, ⟨4, _⟩ => ⟨S2x8192x4, .f32⟩
  | .local _ .vmem, ⟨5, _⟩ => ⟨S2x4x14336, .f32⟩
  | .local _ .vmem, ⟨6, _⟩ => ⟨S2x4x8192, .f32⟩
  | _, _ => ⟨S2x14336x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x14336x8192 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x112x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x14336x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x112x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x14336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Requant.lean ====
abbrev S2x14336x8192 : Shape := ⟨3, ![2, 14336, 8192]⟩
abbrev S2x112x64 : Shape := ⟨3, ![2, 112, 64]⟩
abbrev S2x4x14336 : Shape := ⟨3, ![2, 4, 14336]⟩
abbrev S2x4x8192 : Shape := ⟨3, ![2, 4, 8192]⟩
abbrev S2x56x2x64 : Shape := ⟨4, ![2, 56, 2, 64]⟩
abbrev S1x256x8192 : Shape := ⟨3, ![1, 256, 8192]⟩
abbrev S1x4x256 : Shape := ⟨3, ![1, 4, 256]⟩
abbrev S1x4x8192 : Shape := ⟨3, ![1, 4, 8192]⟩
abbrev S1x1x2x64 : Shape := ⟨4, ![1, 1, 2, 64]⟩
abbrev S32x8192 : Shape := ⟨2, ![32, 8192]⟩
abbrev S4x8192 : Shape := ⟨2, ![4, 8192]⟩
abbrev S4x256 : Shape := ⟨2, ![4, 256]⟩
abbrev S32x256 : Shape := ⟨2, ![32, 256]⟩
abbrev S256x32 : Shape := ⟨2, ![256, 32]⟩
abbrev S1x256 : Shape := ⟨2, ![1, 256]⟩
abbrev S128x32 : Shape := ⟨2, ![128, 32]⟩
abbrev S128x256 : Shape := ⟨2, ![128, 256]⟩
abbrev S1x128x128 : Shape := ⟨3, ![1, 128, 128]⟩
abbrev S128x128 : Shape := ⟨2, ![128, 128]⟩
abbrev S1x1x1 : Shape := ⟨3, ![1, 1, 1]⟩
abbrev S1 : Shape := ⟨1, ![1]⟩
abbrev S1x1 : Shape := ⟨2, ![1, 1]⟩
abbrev S1x1x256 : Shape := ⟨3, ![1, 1, 256]⟩
abbrev S1x1x1x1 : Shape := ⟨4, ![1, 1, 1, 1]⟩

abbrev nBuf : Space → Nat
  | .hbm => 10
  | .vmem => 13
  | .smem => 2
  | _ => 0

abbrev bufTy : (tb : Table) → Fin (tcTables nBuf tb) → BufTy
  | .hbm, ⟨0, _⟩ => ⟨S2x14336x8192, .i8⟩
  | .hbm, ⟨1, _⟩ => ⟨S2x112x64, .f32⟩
  | .hbm, ⟨2, _⟩ => ⟨S2x14336x8192, .i8⟩
  | .hbm, ⟨3, _⟩ => ⟨S2x112x64, .f32⟩
  | .hbm, ⟨4, _⟩ => ⟨S2x4x14336, .f32⟩
  | .hbm, ⟨5, _⟩ => ⟨S2x4x8192, .f32⟩
  | .hbm, ⟨6, _⟩ => ⟨S2x14336x8192, .fp8e5m2⟩
  | .hbm, ⟨7, _⟩ => ⟨S2x14336x8192, .fp8e4m3⟩
  | .hbm, ⟨8, _⟩ => ⟨S2x14336x8192, .fp8e4m3⟩
  | .hbm, ⟨9, _⟩ => ⟨S2x56x2x64, .f32⟩
  | .local _ .vmem, ⟨0, _⟩ => ⟨S1x256x8192, .fp8e5m2⟩
  | .local _ .vmem, ⟨1, _⟩ => ⟨S1x256x8192, .fp8e5m2⟩
  | .local _ .vmem, ⟨2, _⟩ => ⟨S1x256x8192, .fp8e4m3⟩
  | .local _ .vmem, ⟨3, _⟩ => ⟨S1x256x8192, .fp8e4m3⟩
  | .local _ .vmem, ⟨4, _⟩ => ⟨S1x4x256, .f32⟩
  | .local _ .vmem, ⟨5, _⟩ => ⟨S1x4x256, .f32⟩
  | .local _ .vmem, ⟨6, _⟩ => ⟨S1x4x8192, .f32⟩
  | .local _ .vmem, ⟨7, _⟩ => ⟨S1x4x8192, .f32⟩
  | .local _ .vmem, ⟨8, _⟩ => ⟨S1x256x8192, .fp8e4m3⟩
  | .local _ .vmem, ⟨9, _⟩ => ⟨S1x256x8192, .fp8e4m3⟩
  | .local _ .vmem, ⟨10, _⟩ => ⟨S1x1x2x64, .f32⟩
  | .local _ .vmem, ⟨11, _⟩ => ⟨S1x1x2x64, .f32⟩
  | .local _ .vmem, ⟨12, _⟩ => ⟨S32x8192, .bf16⟩
  | .local _ .smem, ⟨0, _⟩ => ⟨S2x112x64, .f32⟩
  | .local _ .smem, ⟨1, _⟩ => ⟨S2x112x64, .f32⟩
  | _, _ => ⟨S2x14336x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 56], ![false, false]⟩

def k0_off1 (i : grid0.Coords) (c0_i32_8 : BitVec 32) : Fin 3 → Nat :=
  let arg0 : BitVec 32 := BitVec.ofNat 32 (i 0).val
  let v29 : Index := Scalar.indexCast arg0
  let arg1 : BitVec 32 := BitVec.ofNat 32 (i 1).val
  let c2_i32 : BitVec 32 := 2#32
  let v27 : BitVec 32 := Scalar.muli arg1 c2_i32
  let v28 : BitVec 32 := Scalar.addi v27 c0_i32_8
  let v30 : Index := Scalar.indexCast v28
  let c0_9 : Index := 0#32
  ![v29.toNat, v30.toNat, 0]
def k0_off2 (i : grid0.Coords) (c0_i32_36 : BitVec 32) : Fin 3 → Nat :=
  let arg0 : BitVec 32 := BitVec.ofNat 32 (i 0).val
  let v101 : Index := Scalar.indexCast arg0
  let arg1 : BitVec 32 := BitVec.ofNat 32 (i 1).val
  let c2_i32_35 : BitVec 32 := 2#32
  let v99 : BitVec 32 := Scalar.muli arg1 c2_i32_35
  let v100 : BitVec 32 := Scalar.addi v99 c0_i32_36
  let v102 : Index := Scalar.indexCast v100
  let c1 : Index := 1#32
  ![v101.toNat, v102.toNat, 1]
def k0_off3 (i : grid0.Coords) (c0_i32_70 : BitVec 32) : Fin 3 → Nat :=
  let arg0 : BitVec 32 := BitVec.ofNat 32 (i 0).val
  let v176 : Index := Scalar.indexCast arg0
  let arg1 : BitVec 32 := BitVec.ofNat 32 (i 1).val
  let c2_i32_69 : BitVec 32 := 2#32
  let v174 : BitVec 32 := Scalar.muli arg1 c2_i32_69
  let v175 : BitVec 32 := Scalar.addi v174 c0_i32_70
  let v177 : Index := Scalar.indexCast v175
  let c2 : Index := 2#32
  ![v176.toNat, v177.toNat, 2]
def k0_off4 (i : grid0.Coords) (c0_i32_101 : BitVec 32) : Fin 3 → Nat :=
  let arg0 : BitVec 32 := BitVec.ofNat 32 (i 0).val
  let v248 : Index := Scalar.indexCast arg0
  let arg1 : BitVec 32 := BitVec.ofNat 32 (i 1).val
  let c2_i32_100 : BitVec 32 := 2#32
  let v246 : BitVec 32 := Scalar.muli arg1 c2_i32_100
  let v247 : BitVec 32 := Scalar.addi v246 c0_i32_101
  let v249 : Index := Scalar.indexCast v247
  let c3 : Index := 3#32
  ![v248.toNat, v249.toNat, 3]
def k0_off5 (i : grid0.Coords) (c0_i32_135 : BitVec 32) : Fin 3 → Nat :=
  let arg0 : BitVec 32 := BitVec.ofNat 32 (i 0).val
  let v323 : Index := Scalar.indexCast arg0
  let arg1 : BitVec 32 := BitVec.ofNat 32 (i 1).val
  let c2_i32_134 : BitVec 32 := 2#32
  let v321 : BitVec 32 := Scalar.muli arg1 c2_i32_134
  let v322 : BitVec 32 := Scalar.addi v321 c0_i32_135
  let v324 : Index := Scalar.indexCast v322
  let c4 : Index := 4#32
  ![v323.toNat, v324.toNat, 4]
def k0_off6 (i : grid0.Coords) (c0_i32_166 : BitVec 32) : Fin 3 → Nat :=
  let arg0 : BitVec 32 := BitVec.ofNat 32 (i 0).val
  let v395 : Index := Scalar.indexCast arg0
  let arg1 : BitVec 32 := BitVec.ofNat 32 (i 1).val
  let c2_i32_165 : BitVec 32 := 2#32
  let v393 : BitVec 32 := Scalar.muli arg1 c2_i32_165
  let v394 : BitVec 32 := Scalar.addi v393 c0_i32_166
  let v396 : Index := Scalar.indexCast v394
  let c5 : Index := 5#32
  ![v395.toNat, v396.toNat, 5]
def k0_off7 (i : grid0.Coords) (c0_i32_200 : BitVec 32) : Fin 3 → Nat :=
  let arg0 : BitVec 32 := BitVec.ofNat 32 (i 0).val
  let v470 : Index := Scalar.indexCast arg0
  let arg1 : BitVec 32 := BitVec.ofNat 32 (i 1).val
  let c2_i32_199 : BitVec 32 := 2#32
  let v468 : BitVec 32 := Scalar.muli arg1 c2_i32_199
  let v469 : BitVec 32 := Scalar.addi v468 c0_i32_200
  let v471 : Index := Scalar.indexCast v469
  let c6 : Index := 6#32
  ![v470.toNat, v471.toNat, 6]
def k0_off8 (i : grid0.Coords) (c0_i32_231 : BitVec 32) : Fin 3 → Nat :=
  let arg0 : BitVec 32 := BitVec.ofNat 32 (i 0).val
  let v542 : Index := Scalar.indexCast arg0
  let arg1 : BitVec 32 := BitVec.ofNat 32 (i 1).val
  let c2_i32_230 : BitVec 32 := 2#32
  let v540 : BitVec 32 := Scalar.muli arg1 c2_i32_230
  let v541 : BitVec 32 := Scalar.addi v540 c0_i32_231
  let v543 : Index := Scalar.indexCast v541
  let c7 : Index := 7#32
  ![v542.toNat, v543.toNat, 7]
def k0_off9 (i : grid0.Coords) (c0_i32_265 : BitVec 32) : Fin 3 → Nat :=
  let arg0 : BitVec 32 := BitVec.ofNat 32 (i 0).val
  let v617 : Index := Scalar.indexCast arg0
  let arg1 : BitVec 32 := BitVec.ofNat 32 (i 1).val
  let c2_i32_264 : BitVec 32 := 2#32
  let v615 : BitVec 32 := Scalar.muli arg1 c2_i32_264
  let v616 : BitVec 32 := Scalar.addi v615 c0_i32_265
  let v618 : Index := Scalar.indexCast v616
  let c8 : Index := 8#32
  ![v617.toNat, v618.toNat, 8]
def k0_off10 (i : grid0.Coords) (c0_i32_296 : BitVec 32) : Fin 3 → Nat :=
  let arg0 : BitVec 32 := BitVec.ofNat 32 (i 0).val
  let v689 : Index := Scalar.indexCast arg0
  let arg1 : BitVec 32 := BitVec.ofNat 32 (i 1).val
  let c2_i32_295 : BitVec 32 := 2#32
  let v687 : BitVec 32 := Scalar.muli arg1 c2_i32_295
  let v688 : BitVec 32 := Scalar.addi v687 c0_i32_296
  let v690 : Index := Scalar.indexCast v688
  let c9 : Index := 9#32
  ![v689.toNat, v690.toNat, 9]
def k0_off11 (i : grid0.Coords) (c0_i32_330 : BitVec 32) : Fin 3 → Nat :=
  let arg0 : BitVec 32 := BitVec.ofNat 32 (i 0).val
  let v764 : Index := Scalar.indexCast arg0
  let arg1 : BitVec 32 := BitVec.ofNat 32 (i 1).val
  let c2_i32_329 : BitVec 32 := 2#32
  let v762 : BitVec 32 := Scalar.muli arg1 c2_i32_329
  let v763 : BitVec 32 := Scalar.addi v762 c0_i32_330
  let v765 : Index := Scalar.indexCast v763
  let c10 : Index := 10#32
  ![v764.toNat, v765.toNat, 10]
def k0_off12 (i : grid0.Coords) (c0_i32_361 : BitVec 32) : Fin 3 → Nat :=
  let arg0 : BitVec 32 := BitVec.ofNat 32 (i 0).val
  let v836 : Index := Scalar.indexCast arg0
  let arg1 : BitVec 32 := BitVec.ofNat 32 (i 1).val
  let c2_i32_360 : BitVec 32 := 2#32
  let v834 : BitVec 32 := Scalar.muli arg1 c2_i32_360
  let v835 : BitVec 32 := Scalar.addi v834 c0_i32_361
  let v837 : Index := Scalar.indexCast v835
  let c11 : Index := 11#32
  ![v836.toNat, v837.toNat, 11]
def k0_off13 (i : grid0.Coords) (c0_i32_395 : BitVec 32) : Fin 3 → Nat :=
  let arg0 : BitVec 32 := BitVec.ofNat 32 (i 0).val
  let v911 : Index := Scalar.indexCast arg0
  let arg1 : BitVec 32 := BitVec.ofNat 32 (i 1).val
  let c2_i32_394 : BitVec 32 := 2#32
  let v909 : BitVec 32 := Scalar.muli arg1 c2_i32_394
  let v910 : BitVec 32 := Scalar.addi v909 c0_i32_395
  let v912 : Index := Scalar.indexCast v910
  let c12 : Index := 12#32
  ![v911.toNat, v912.toNat, 12]
def k0_off14 (i : grid0.Coords) (c0_i32_426 : BitVec 32) : Fin 3 → Nat :=
  let arg0 : BitVec 32 := BitVec.ofNat 32 (i 0).val
  let v983 : Index := Scalar.indexCast arg0
  let arg1 : BitVec 32 := BitVec.ofNat 32 (i 1).val
  let c2_i32_425 : BitVec 32 := 2#32
  let v981 : BitVec 32 := Scalar.muli arg1 c2_i32_425
  let v982 : BitVec 32 := Scalar.addi v981 c0_i32_426
  let v984 : Index := Scalar.indexCast v982
  let c13 : Index := 13#32
  ![v983.toNat, v984.toNat, 13]
def k0_off15 (i : grid0.Coords) (c0_i32_460 : BitVec 32) : Fin 3 → Nat :=
  let arg0 : BitVec 32 := BitVec.ofNat 32 (i 0).val
  let v1058 : Index := Scalar.indexCast arg0
  let arg1 : BitVec 32 := BitVec.ofNat 32 (i 1).val
  let c2_i32_459 : BitVec 32 := 2#32
  let v1056 : BitVec 32 := Scalar.muli arg1 c2_i32_459
  let v1057 : BitVec 32 := Scalar.addi v1056 c0_i32_460
  let v1059 : Index := Scalar.indexCast v1057
  let c14 : Index := 14#32
  ![v1058.toNat, v1059.toNat, 14]
def k0_off16 (i : grid0.Coords) (c0_i32_491 : BitVec 32) : Fin 3 → Nat :=
  let arg0 : BitVec 32 := BitVec.ofNat 32 (i 0).val
  let v1130 : Index := Scalar.indexCast arg0
  let arg1 : BitVec 32 := BitVec.ofNat 32 (i 1).val
  let c2_i32_490 : BitVec 32 := 2#32
  let v1128 : BitVec 32 := Scalar.muli arg1 c2_i32_490
  let v1129 : BitVec 32 := Scalar.addi v1128 c0_i32_491
  let v1131 : Index := Scalar.indexCast v1129
  let c15 : Index := 15#32
  ![v1130.toNat, v1131.toNat, 15]
def k0_off17 (i : grid0.Coords) (c0_i32_525 : BitVec 32) : Fin 3 → Nat :=
  let arg0 : BitVec 32 := BitVec.ofNat 32 (i 0).val
  let v1205 : Index := Scalar.indexCast arg0
  let arg1 : BitVec 32 := BitVec.ofNat 32 (i 1).val
  let c2_i32_524 : BitVec 32 := 2#32
  let v1203 : BitVec 32 := Scalar.muli arg1 c2_i32_524
  let v1204 : BitVec 32 := Scalar.addi v1203 c0_i32_525
  let v1206 : Index := Scalar.indexCast v1204
  let c16 : Index := 16#32
  ![v1205.toNat, v1206.toNat, 16]
def k0_off18 (i : grid0.Coords) (c0_i32_556 : BitVec 32) : Fin 3 → Nat :=
  let arg0 : BitVec 32 := BitVec.ofNat 32 (i 0).val
  let v1277 : Index := Scalar.indexCast arg0
  let arg1 : BitVec 32 := BitVec.ofNat 32 (i 1).val
  let c2_i32_555 : BitVec 32 := 2#32
  let v1275 : BitVec 32 := Scalar.muli arg1 c2_i32_555
  let v1276 : BitVec 32 := Scalar.addi v1275 c0_i32_556
  let v1278 : Index := Scalar.indexCast v1276
  let c17 : Index := 17#32
  ![v1277.toNat, v1278.toNat, 17]
def k0_off19 (i : grid0.Coords) (c0_i32_590 : BitVec 32) : Fin 3 → Nat :=
  let arg0 : BitVec 32 := BitVec.ofNat 32 (i 0).val
  let v1352 : Index := Scalar.indexCast arg0
  let arg1 : BitVec 32 := BitVec.ofNat 32 (i 1).val
  let c2_i32_589 : BitVec 32 := 2#32
  let v1350 : BitVec 32 := Scalar.muli arg1 c2_i32_589
  let v1351 : BitVec 32 := Scalar.addi v1350 c0_i32_590
  let v1353 : Index := Scalar.indexCast v1351
  let c18 : Index := 18#32
  ![v1352.toNat, v1353.toNat, 18]
def k0_off20 (i : grid0.Coords) (c0_i32_621 : BitVec 32) : Fin 3 → Nat :=
  let arg0 : BitVec 32 := BitVec.ofNat 32 (i 0).val
  let v1424 : Index := Scalar.indexCast arg0
  let arg1 : BitVec 32 := BitVec.ofNat 32 (i 1).val
  let c2_i32_620 : BitVec 32 := 2#32
  let v1422 : BitVec 32 := Scalar.muli arg1 c2_i32_620
  let v1423 : BitVec 32 := Scalar.addi v1422 c0_i32_621
  let v1425 : Index := Scalar.indexCast v1423
  let c19 : Index := 19#32
  ![v1424.toNat, v1425.toNat, 19]
def k0_off21 (i : grid0.Coords) (c0_i32_655 : BitVec 32) : Fin 3 → Nat :=
  let arg0 : BitVec 32 := BitVec.ofNat 32 (i 0).val
  let v1499 : Index := Scalar.indexCast arg0
  let arg1 : BitVec 32 := BitVec.ofNat 32 (i 1).val
  let c2_i32_654 : BitVec 32 := 2#32
  let v1497 : BitVec 32 := Scalar.muli arg1 c2_i32_654
  let v1498 : BitVec 32 := Scalar.addi v1497 c0_i32_655
  let v1500 : Index := Scalar.indexCast v1498
  let c20 : Index := 20#32
  ![v1499.toNat, v1500.toNat, 20]
def k0_off22 (i : grid0.Coords) (c0_i32_686 : BitVec 32) : Fin 3 → Nat :=
  let arg0 : BitVec 32 := BitVec.ofNat 32 (i 0).val
  let v1571 : Index := Scalar.indexCast arg0
  let arg1 : BitVec 32 := BitVec.ofNat 32 (i 1).val
  let c2_i32_685 : BitVec 32 := 2#32
  let v1569 : BitVec 32 := Scalar.muli arg1 c2_i32_685
  let v1570 : BitVec 32 := Scalar.addi v1569 c0_i32_686
  let v1572 : Index := Scalar.indexCast v1570
  let c21 : Index := 21#32
  ![v1571.toNat, v1572.toNat, 21]
def k0_off23 (i : grid0.Coords) (c0_i32_720 : BitVec 32) : Fin 3 → Nat :=
  let arg0 : BitVec 32 := BitVec.ofNat 32 (i 0).val
  let v1646 : Index := Scalar.indexCast arg0
  let arg1 : BitVec 32 := BitVec.ofNat 32 (i 1).val
  let c2_i32_719 : BitVec 32 := 2#32
  let v1644 : BitVec 32 := Scalar.muli arg1 c2_i32_719
  let v1645 : BitVec 32 := Scalar.addi v1644 c0_i32_720
  let v1647 : Index := Scalar.indexCast v1645
  let c22 : Index := 22#32
  ![v1646.toNat, v1647.toNat, 22]
def k0_off24 (i : grid0.Coords) (c0_i32_751 : BitVec 32) : Fin 3 → Nat :=
  let arg0 : BitVec 32 := BitVec.ofNat 32 (i 0).val
  let v1718 : Index := Scalar.indexCast arg0
  let arg1 : BitVec 32 := BitVec.ofNat 32 (i 1).val
  let c2_i32_750 : BitVec 32 := 2#32
  let v1716 : BitVec 32 := Scalar.muli arg1 c2_i32_750
  let v1717 : BitVec 32 := Scalar.addi v1716 c0_i32_751
  let v1719 : Index := Scalar.indexCast v1717
  let c23 : Index := 23#32
  ![v1718.toNat, v1719.toNat, 23]
def k0_off25 (i : grid0.Coords) (c0_i32_785 : BitVec 32) : Fin 3 → Nat :=
  let arg0 : BitVec 32 := BitVec.ofNat 32 (i 0).val
  let v1793 : Index := Scalar.indexCast arg0
  let arg1 : BitVec 32 := BitVec.ofNat 32 (i 1).val
  let c2_i32_784 : BitVec 32 := 2#32
  let v1791 : BitVec 32 := Scalar.muli arg1 c2_i32_784
  let v1792 : BitVec 32 := Scalar.addi v1791 c0_i32_785
  let v1794 : Index := Scalar.indexCast v1792
  let c24 : Index := 24#32
  ![v1793.toNat, v1794.toNat, 24]
def k0_off26 (i : grid0.Coords) (c0_i32_816 : BitVec 32) : Fin 3 → Nat :=
  let arg0 : BitVec 32 := BitVec.ofNat 32 (i 0).val
  let v1865 : Index := Scalar.indexCast arg0
  let arg1 : BitVec 32 := BitVec.ofNat 32 (i 1).val
  let c2_i32_815 : BitVec 32 := 2#32
  let v1863 : BitVec 32 := Scalar.muli arg1 c2_i32_815
  let v1864 : BitVec 32 := Scalar.addi v1863 c0_i32_816
  let v1866 : Index := Scalar.indexCast v1864
  let c25 : Index := 25#32
  ![v1865.toNat, v1866.toNat, 25]
def k0_off27 (i : grid0.Coords) (c0_i32_850 : BitVec 32) : Fin 3 → Nat :=
  let arg0 : BitVec 32 := BitVec.ofNat 32 (i 0).val
  let v1940 : Index := Scalar.indexCast arg0
  let arg1 : BitVec 32 := BitVec.ofNat 32 (i 1).val
  let c2_i32_849 : BitVec 32 := 2#32
  let v1938 : BitVec 32 := Scalar.muli arg1 c2_i32_849
  let v1939 : BitVec 32 := Scalar.addi v1938 c0_i32_850
  let v1941 : Index := Scalar.indexCast v1939
  let c26 : Index := 26#32
  ![v1940.toNat, v1941.toNat, 26]
def k0_off28 (i : grid0.Coords) (c0_i32_881 : BitVec 32) : Fin 3 → Nat :=
  let arg0 : BitVec 32 := BitVec.ofNat 32 (i 0).val
  let v2012 : Index := Scalar.indexCast arg0
  let arg1 : BitVec 32 := BitVec.ofNat 32 (i 1).val
  let c2_i32_880 : BitVec 32 := 2#32
  let v2010 : BitVec 32 := Scalar.muli arg1 c2_i32_880
  let v2011 : BitVec 32 := Scalar.addi v2010 c0_i32_881
  let v2013 : Index := Scalar.indexCast v2011
  let c27 : Index := 27#32
  ![v2012.toNat, v2013.toNat, 27]
def k0_off29 (i : grid0.Coords) (c0_i32_915 : BitVec 32) : Fin 3 → Nat :=
  let arg0 : BitVec 32 := BitVec.ofNat 32 (i 0).val
  let v2087 : Index := Scalar.indexCast arg0
  let arg1 : BitVec 32 := BitVec.ofNat 32 (i 1).val
  let c2_i32_914 : BitVec 32 := 2#32
  let v2085 : BitVec 32 := Scalar.muli arg1 c2_i32_914
  let v2086 : BitVec 32 := Scalar.addi v2085 c0_i32_915
  let v2088 : Index := Scalar.indexCast v2086
  let c28 : Index := 28#32
  ![v2087.toNat, v2088.toNat, 28]
def k0_off30 (i : grid0.Coords) (c0_i32_946 : BitVec 32) : Fin 3 → Nat :=
  let arg0 : BitVec 32 := BitVec.ofNat 32 (i 0).val
  let v2159 : Index := Scalar.indexCast arg0
  let arg1 : BitVec 32 := BitVec.ofNat 32 (i 1).val
  let c2_i32_945 : BitVec 32 := 2#32
  let v2157 : BitVec 32 := Scalar.muli arg1 c2_i32_945
  let v2158 : BitVec 32 := Scalar.addi v2157 c0_i32_946
  let v2160 : Index := Scalar.indexCast v2158
  let c29 : Index := 29#32
  ![v2159.toNat, v2160.toNat, 29]
def k0_off31 (i : grid0.Coords) (c0_i32_980 : BitVec 32) : Fin 3 → Nat :=
  let arg0 : BitVec 32 := BitVec.ofNat 32 (i 0).val
  let v2234 : Index := Scalar.indexCast arg0
  let arg1 : BitVec 32 := BitVec.ofNat 32 (i 1).val
  let c2_i32_979 : BitVec 32 := 2#32
  let v2232 : BitVec 32 := Scalar.muli arg1 c2_i32_979
  let v2233 : BitVec 32 := Scalar.addi v2232 c0_i32_980
  let v2235 : Index := Scalar.indexCast v2233
  let c30 : Index := 30#32
  ![v2234.toNat, v2235.toNat, 30]
def k0_off32 (i : grid0.Coords) (c0_i32_1011 : BitVec 32) : Fin 3 → Nat :=
  let arg0 : BitVec 32 := BitVec.ofNat 32 (i 0).val
  let v2306 : Index := Scalar.indexCast arg0
  let arg1 : BitVec 32 := BitVec.ofNat 32 (i 1).val
  let c2_i32_1010 : BitVec 32 := 2#32
  let v2304 : BitVec 32 := Scalar.muli arg1 c2_i32_1010
  let v2305 : BitVec 32 := Scalar.addi v2304 c0_i32_1011
  let v2307 : Index := Scalar.indexCast v2305
  let c31 : Index := 31#32
  ![v2306.toNat, v2307.toNat, 31]
def k0_off33 (i : grid0.Coords) (c0_i32_1045 : BitVec 32) : Fin 3 → Nat :=
  let arg0 : BitVec 32 := BitVec.ofNat 32 (i 0).val
  let v2381 : Index := Scalar.indexCast arg0
  let arg1 : BitVec 32 := BitVec.ofNat 32 (i 1).val
  let c2_i32_1044 : BitVec 32 := 2#32
  let v2379 : BitVec 32 := Scalar.muli arg1 c2_i32_1044
  let v2380 : BitVec 32 := Scalar.addi v2379 c0_i32_1045
  let v2382 : Index := Scalar.indexCast v2380
  let c32 : Index := 32#32
  ![v2381.toNat, v2382.toNat, 32]
def k0_off34 (i : grid0.Coords) (c0_i32_1076 : BitVec 32) : Fin 3 → Nat :=
  let arg0 : BitVec 32 := BitVec.ofNat 32 (i 0).val
  let v2453 : Index := Scalar.indexCast arg0
  let arg1 : BitVec 32 := BitVec.ofNat 32 (i 1).val
  let c2_i32_1075 : BitVec 32 := 2#32
  let v2451 : BitVec 32 := Scalar.muli arg1 c2_i32_1075
  let v2452 : BitVec 32 := Scalar.addi v2451 c0_i32_1076
  let v2454 : Index := Scalar.indexCast v2452
  let c33 : Index := 33#32
  ![v2453.toNat, v2454.toNat, 33]
def k0_off35 (i : grid0.Coords) (c0_i32_1110 : BitVec 32) : Fin 3 → Nat :=
  let arg0 : BitVec 32 := BitVec.ofNat 32 (i 0).val
  let v2528 : Index := Scalar.indexCast arg0
  let arg1 : BitVec 32 := BitVec.ofNat 32 (i 1).val
  let c2_i32_1109 : BitVec 32 := 2#32
  let v2526 : BitVec 32 := Scalar.muli arg1 c2_i32_1109
  let v2527 : BitVec 32 := Scalar.addi v2526 c0_i32_1110
  let v2529 : Index := Scalar.indexCast v2527
  let c34 : Index := 34#32
  ![v2528.toNat, v2529.toNat, 34]
def k0_off36 (i : grid0.Coords) (c0_i32_1141 : BitVec 32) : Fin 3 → Nat :=
  let arg0 : BitVec 32 := BitVec.ofNat 32 (i 0).val
  let v2600 : Index := Scalar.indexCast arg0
  let arg1 : BitVec 32 := BitVec.ofNat 32 (i 1).val
  let c2_i32_1140 : BitVec 32 := 2#32
  let v2598 : BitVec 32 := Scalar.muli arg1 c2_i32_1140
  let v2599 : BitVec 32 := Scalar.addi v2598 c0_i32_1141
  let v2601 : Index := Scalar.indexCast v2599
  let c35 : Index := 35#32
  ![v2600.toNat, v2601.toNat, 35]
def k0_off37 (i : grid0.Coords) (c0_i32_1175 : BitVec 32) : Fin 3 → Nat :=
  let arg0 : BitVec 32 := BitVec.ofNat 32 (i 0).val
  let v2675 : Index := Scalar.indexCast arg0
  let arg1 : BitVec 32 := BitVec.ofNat 32 (i 1).val
  let c2_i32_1174 : BitVec 32 := 2#32
  let v2673 : BitVec 32 := Scalar.muli arg1 c2_i32_1174
  let v2674 : BitVec 32 := Scalar.addi v2673 c0_i32_1175
  let v2676 : Index := Scalar.indexCast v2674
  let c36 : Index := 36#32
  ![v2675.toNat, v2676.toNat, 36]
def k0_off38 (i : grid0.Coords) (c0_i32_1206 : BitVec 32) : Fin 3 → Nat :=
  let arg0 : BitVec 32 := BitVec.ofNat 32 (i 0).val
  let v2747 : Index := Scalar.indexCast arg0
  let arg1 : BitVec 32 := BitVec.ofNat 32 (i 1).val
  let c2_i32_1205 : BitVec 32 := 2#32
  let v2745 : BitVec 32 := Scalar.muli arg1 c2_i32_1205
  let v2746 : BitVec 32 := Scalar.addi v2745 c0_i32_1206
  let v2748 : Index := Scalar.indexCast v2746
  let c37 : Index := 37#32
  ![v2747.toNat, v2748.toNat, 37]
def k0_off39 (i : grid0.Coords) (c0_i32_1240 : BitVec 32) : Fin 3 → Nat :=
  let arg0 : BitVec 32 := BitVec.ofNat 32 (i 0).val
  let v2822 : Index := Scalar.indexCast arg0
  let arg1 : BitVec 32 := BitVec.ofNat 32 (i 1).val
  let c2_i32_1239 : BitVec 32 := 2#32
  let v2820 : BitVec 32 := Scalar.muli arg1 c2_i32_1239
  let v2821 : BitVec 32 := Scalar.addi v2820 c0_i32_1240
  let v2823 : Index := Scalar.indexCast v2821
  let c38 : Index := 38#32
  ![v2822.toNat, v2823.toNat, 38]
def k0_off40 (i : grid0.Coords) (c0_i32_1271 : BitVec 32) : Fin 3 → Nat :=
  let arg0 : BitVec 32 := BitVec.ofNat 32 (i 0).val
  let v2894 : Index := Scalar.indexCast arg0
  let arg1 : BitVec 32 := BitVec.ofNat 32 (i 1).val
  let c2_i32_1270 : BitVec 32 := 2#32
  let v2892 : BitVec 32 := Scalar.muli arg1 c2_i32_1270
  let v2893 : BitVec 32 := Scalar.addi v2892 c0_i32_1271
  let v2895 : Index := Scalar.indexCast v2893
  let c39 : Index := 39#32
  ![v2894.toNat, v2895.toNat, 39]
def k0_off41 (i : grid0.Coords) (c0_i32_1305 : BitVec 32) : Fin 3 → Nat :=
  let arg0 : BitVec 32 := BitVec.ofNat 32 (i 0).val
  let v2969 : Index := Scalar.indexCast arg0
  let arg1 : BitVec 32 := BitVec.ofNat 32 (i 1).val
  let c2_i32_1304 : BitVec 32 := 2#32
  let v2967 : BitVec 32 := Scalar.muli arg1 c2_i32_1304
  let v2968 : BitVec 32 := Scalar.addi v2967 c0_i32_1305
  let v2970 : Index := Scalar.indexCast v2968
  let c40 : Index := 40#32
  ![v2969.toNat, v2970.toNat, 40]
def k0_off42 (i : grid0.Coords) (c0_i32_1336 : BitVec 32) : Fin 3 → Nat :=
  let arg0 : BitVec 32 := BitVec.ofNat 32 (i 0).val
  let v3041 : Index := Scalar.indexCast arg0
  let arg1 : BitVec 32 := BitVec.ofNat 32 (i 1).val
  let c2_i32_1335 : BitVec 32 := 2#32
  let v3039 : BitVec 32 := Scalar.muli arg1 c2_i32_1335
  let v3040 : BitVec 32 := Scalar.addi v3039 c0_i32_1336
  let v3042 : Index := Scalar.indexCast v3040
  let c41 : Index := 41#32
  ![v3041.toNat, v3042.toNat, 41]
def k0_off43 (i : grid0.Coords) (c0_i32_1370 : BitVec 32) : Fin 3 → Nat :=
  let arg0 : BitVec 32 := BitVec.ofNat 32 (i 0).val
  let v3116 : Index := Scalar.indexCast arg0
  let arg1 : BitVec 32 := BitVec.ofNat 32 (i 1).val
  let c2_i32_1369 : BitVec 32 := 2#32
  let v3114 : BitVec 32 := Scalar.muli arg1 c2_i32_1369
  let v3115 : BitVec 32 := Scalar.addi v3114 c0_i32_1370
  let v3117 : Index := Scalar.indexCast v3115
  let c42 : Index := 42#32
  ![v3116.toNat, v3117.toNat, 42]
def k0_off44 (i : grid0.Coords) (c0_i32_1401 : BitVec 32) : Fin 3 → Nat :=
  let arg0 : BitVec 32 := BitVec.ofNat 32 (i 0).val
  let v3188 : Index := Scalar.indexCast arg0
  let arg1 : BitVec 32 := BitVec.ofNat 32 (i 1).val
  let c2_i32_1400 : BitVec 32 := 2#32
  let v3186 : BitVec 32 := Scalar.muli arg1 c2_i32_1400
  let v3187 : BitVec 32 := Scalar.addi v3186 c0_i32_1401
  let v3189 : Index := Scalar.indexCast v3187
  let c43 : Index := 43#32
  ![v3188.toNat, v3189.toNat, 43]
def k0_off45 (i : grid0.Coords) (c0_i32_1435 : BitVec 32) : Fin 3 → Nat :=
  let arg0 : BitVec 32 := BitVec.ofNat 32 (i 0).val
  let v3263 : Index := Scalar.indexCast arg0
  let arg1 : BitVec 32 := BitVec.ofNat 32 (i 1).val
  let c2_i32_1434 : BitVec 32 := 2#32
  let v3261 : BitVec 32 := Scalar.muli arg1 c2_i32_1434
  let v3262 : BitVec 32 := Scalar.addi v3261 c0_i32_1435
  let v3264 : Index := Scalar.indexCast v3262
  let c44 : Index := 44#32
  ![v3263.toNat, v3264.toNat, 44]
def k0_off46 (i : grid0.Coords) (c0_i32_1466 : BitVec 32) : Fin 3 → Nat :=
  let arg0 : BitVec 32 := BitVec.ofNat 32 (i 0).val
  let v3335 : Index := Scalar.indexCast arg0
  let arg1 : BitVec 32 := BitVec.ofNat 32 (i 1).val
  let c2_i32_1465 : BitVec 32 := 2#32
  let v3333 : BitVec 32 := Scalar.muli arg1 c2_i32_1465
  let v3334 : BitVec 32 := Scalar.addi v3333 c0_i32_1466
  let v3336 : Index := Scalar.indexCast v3334
  let c45 : Index := 45#32
  ![v3335.toNat, v3336.toNat, 45]
def k0_off47 (i : grid0.Coords) (c0_i32_1500 : BitVec 32) : Fin 3 → Nat :=
  let arg0 : BitVec 32 := BitVec.ofNat 32 (i 0).val
  let v3410 : Index := Scalar.indexCast arg0
  let arg1 : BitVec 32 := BitVec.ofNat 32 (i 1).val
  let c2_i32_1499 : BitVec 32 := 2#32
  let v3408 : BitVec 32 := Scalar.muli arg1 c2_i32_1499
  let v3409 : BitVec 32 := Scalar.addi v3408 c0_i32_1500
  let v3411 : Index := Scalar.indexCast v3409
  let c46 : Index := 46#32
  ![v3410.toNat, v3411.toNat, 46]
def k0_off48 (i : grid0.Coords) (c0_i32_1531 : BitVec 32) : Fin 3 → Nat :=
  let arg0 : BitVec 32 := BitVec.ofNat 32 (i 0).val
  let v3482 : Index := Scalar.indexCast arg0
  let arg1 : BitVec 32 := BitVec.ofNat 32 (i 1).val
  let c2_i32_1530 : BitVec 32 := 2#32
  let v3480 : BitVec 32 := Scalar.muli arg1 c2_i32_1530
  let v3481 : BitVec 32 := Scalar.addi v3480 c0_i32_1531
  let v3483 : Index := Scalar.indexCast v3481
  let c47 : Index := 47#32
  ![v3482.toNat, v3483.toNat, 47]
def k0_off49 (i : grid0.Coords) (c0_i32_1565 : BitVec 32) : Fin 3 → Nat :=
  let arg0 : BitVec 32 := BitVec.ofNat 32 (i 0).val
  let v3557 : Index := Scalar.indexCast arg0
  let arg1 : BitVec 32 := BitVec.ofNat 32 (i 1).val
  let c2_i32_1564 : BitVec 32 := 2#32
  let v3555 : BitVec 32 := Scalar.muli arg1 c2_i32_1564
  let v3556 : BitVec 32 := Scalar.addi v3555 c0_i32_1565
  let v3558 : Index := Scalar.indexCast v3556
  let c48 : Index := 48#32
  ![v3557.toNat, v3558.toNat, 48]
def k0_off50 (i : grid0.Coords) (c0_i32_1596 : BitVec 32) : Fin 3 → Nat :=
  let arg0 : BitVec 32 := BitVec.ofNat 32 (i 0).val
  let v3629 : Index := Scalar.indexCast arg0
  let arg1 : BitVec 32 := BitVec.ofNat 32 (i 1).val
  let c2_i32_1595 : BitVec 32 := 2#32
  let v3627 : BitVec 32 := Scalar.muli arg1 c2_i32_1595
  let v3628 : BitVec 32 := Scalar.addi v3627 c0_i32_1596
  let v3630 : Index := Scalar.indexCast v3628
  let c49 : Index := 49#32
  ![v3629.toNat, v3630.toNat, 49]
def k0_off51 (i : grid0.Coords) (c0_i32_1630 : BitVec 32) : Fin 3 → Nat :=
  let arg0 : BitVec 32 := BitVec.ofNat 32 (i 0).val
  let v3704 : Index := Scalar.indexCast arg0
  let arg1 : BitVec 32 := BitVec.ofNat 32 (i 1).val
  let c2_i32_1629 : BitVec 32 := 2#32
  let v3702 : BitVec 32 := Scalar.muli arg1 c2_i32_1629
  let v3703 : BitVec 32 := Scalar.addi v3702 c0_i32_1630
  let v3705 : Index := Scalar.indexCast v3703
  let c50 : Index := 50#32
  ![v3704.toNat, v3705.toNat, 50]
def k0_off52 (i : grid0.Coords) (c0_i32_1661 : BitVec 32) : Fin 3 → Nat :=
  let arg0 : BitVec 32 := BitVec.ofNat 32 (i 0).val
  let v3776 : Index := Scalar.indexCast arg0
  let arg1 : BitVec 32 := BitVec.ofNat 32 (i 1).val
  let c2_i32_1660 : BitVec 32 := 2#32
  let v3774 : BitVec 32 := Scalar.muli arg1 c2_i32_1660
  let v3775 : BitVec 32 := Scalar.addi v3774 c0_i32_1661
  let v3777 : Index := Scalar.indexCast v3775
  let c51 : Index := 51#32
  ![v3776.toNat, v3777.toNat, 51]
def k0_off53 (i : grid0.Coords) (c0_i32_1695 : BitVec 32) : Fin 3 → Nat :=
  let arg0 : BitVec 32 := BitVec.ofNat 32 (i 0).val
  let v3851 : Index := Scalar.indexCast arg0
  let arg1 : BitVec 32 := BitVec.ofNat 32 (i 1).val
  let c2_i32_1694 : BitVec 32 := 2#32
  let v3849 : BitVec 32 := Scalar.muli arg1 c2_i32_1694
  let v3850 : BitVec 32 := Scalar.addi v3849 c0_i32_1695
  let v3852 : Index := Scalar.indexCast v3850
  let c52 : Index := 52#32
  ![v3851.toNat, v3852.toNat, 52]
def k0_off54 (i : grid0.Coords) (c0_i32_1726 : BitVec 32) : Fin 3 → Nat :=
  let arg0 : BitVec 32 := BitVec.ofNat 32 (i 0).val
  let v3923 : Index := Scalar.indexCast arg0
  let arg1 : BitVec 32 := BitVec.ofNat 32 (i 1).val
  let c2_i32_1725 : BitVec 32 := 2#32
  let v3921 : BitVec 32 := Scalar.muli arg1 c2_i32_1725
  let v3922 : BitVec 32 := Scalar.addi v3921 c0_i32_1726
  let v3924 : Index := Scalar.indexCast v3922
  let c53 : Index := 53#32
  ![v3923.toNat, v3924.toNat, 53]
def k0_off55 (i : grid0.Coords) (c0_i32_1760 : BitVec 32) : Fin 3 → Nat :=
  let arg0 : BitVec 32 := BitVec.ofNat 32 (i 0).val
  let v3998 : Index := Scalar.indexCast arg0
  let arg1 : BitVec 32 := BitVec.ofNat 32 (i 1).val
  let c2_i32_1759 : BitVec 32 := 2#32
  let v3996 : BitVec 32 := Scalar.muli arg1 c2_i32_1759
  let v3997 : BitVec 32 := Scalar.addi v3996 c0_i32_1760
  let v3999 : Index := Scalar.indexCast v3997
  let c54 : Index := 54#32
  ![v3998.toNat, v3999.toNat, 54]
def k0_off56 (i : grid0.Coords) (c0_i32_1791 : BitVec 32) : Fin 3 → Nat :=
  let arg0 : BitVec 32 := BitVec.ofNat 32 (i 0).val
  let v4070 : Index := Scalar.indexCast arg0
  let arg1 : BitVec 32 := BitVec.ofNat 32 (i 1).val
  let c2_i32_1790 : BitVec 32 := 2#32
  let v4068 : BitVec 32 := Scalar.muli arg1 c2_i32_1790
  let v4069 : BitVec 32 := Scalar.addi v4068 c0_i32_1791
  let v4071 : Index := Scalar.indexCast v4069
  let c55 : Index := 55#32
  ![v4070.toNat, v4071.toNat, 55]
def k0_off57 (i : grid0.Coords) (c0_i32_1825 : BitVec 32) : Fin 3 → Nat :=
  let arg0 : BitVec 32 := BitVec.ofNat 32 (i 0).val
  let v4145 : Index := Scalar.indexCast arg0
  let arg1 : BitVec 32 := BitVec.ofNat 32 (i 1).val
  let c2_i32_1824 : BitVec 32 := 2#32
  let v4143 : BitVec 32 := Scalar.muli arg1 c2_i32_1824
  let v4144 : BitVec 32 := Scalar.addi v4143 c0_i32_1825
  let v4146 : Index := Scalar.indexCast v4144
  let c56 : Index := 56#32
  ![v4145.toNat, v4146.toNat, 56]
def k0_off58 (i : grid0.Coords) (c0_i32_1856 : BitVec 32) : Fin 3 → Nat :=
  let arg0 : BitVec 32 := BitVec.ofNat 32 (i 0).val
  let v4217 : Index := Scalar.indexCast arg0
  let arg1 : BitVec 32 := BitVec.ofNat 32 (i 1).val
  let c2_i32_1855 : BitVec 32 := 2#32
  let v4215 : BitVec 32 := Scalar.muli arg1 c2_i32_1855
  let v4216 : BitVec 32 := Scalar.addi v4215 c0_i32_1856
  let v4218 : Index := Scalar.indexCast v4216
  let c57 : Index := 57#32
  ![v4217.toNat, v4218.toNat, 57]
def k0_off59 (i : grid0.Coords) (c0_i32_1890 : BitVec 32) : Fin 3 → Nat :=
  let arg0 : BitVec 32 := BitVec.ofNat 32 (i 0).val
  let v4292 : Index := Scalar.indexCast arg0
  let arg1 : BitVec 32 := BitVec.ofNat 32 (i 1).val
  let c2_i32_1889 : BitVec 32 := 2#32
  let v4290 : BitVec 32 := Scalar.muli arg1 c2_i32_1889
  let v4291 : BitVec 32 := Scalar.addi v4290 c0_i32_1890
  let v4293 : Index := Scalar.indexCast v4291
  let c58 : Index := 58#32
  ![v4292.toNat, v4293.toNat, 58]
def k0_off60 (i : grid0.Coords) (c0_i32_1921 : BitVec 32) : Fin 3 → Nat :=
  let arg0 : BitVec 32 := BitVec.ofNat 32 (i 0).val
  let v4364 : Index := Scalar.indexCast arg0
  let arg1 : BitVec 32 := BitVec.ofNat 32 (i 1).val
  let c2_i32_1920 : BitVec 32 := 2#32
  let v4362 : BitVec 32 := Scalar.muli arg1 c2_i32_1920
  let v4363 : BitVec 32 := Scalar.addi v4362 c0_i32_1921
  let v4365 : Index := Scalar.indexCast v4363
  let c59 : Index := 59#32
  ![v4364.toNat, v4365.toNat, 59]
def k0_off61 (i : grid0.Coords) (c0_i32_1955 : BitVec 32) : Fin 3 → Nat :=
  let arg0 : BitVec 32 := BitVec.ofNat 32 (i 0).val
  let v4439 : Index := Scalar.indexCast arg0
  let arg1 : BitVec 32 := BitVec.ofNat 32 (i 1).val
  let c2_i32_1954 : BitVec 32 := 2#32
  let v4437 : BitVec 32 := Scalar.muli arg1 c2_i32_1954
  let v4438 : BitVec 32 := Scalar.addi v4437 c0_i32_1955
  let v4440 : Index := Scalar.indexCast v4438
  let c60 : Index := 60#32
  ![v4439.toNat, v4440.toNat, 60]
def k0_off62 (i : grid0.Coords) (c0_i32_1986 : BitVec 32) : Fin 3 → Nat :=
  let arg0 : BitVec 32 := BitVec.ofNat 32 (i 0).val
  let v4511 : Index := Scalar.indexCast arg0
  let arg1 : BitVec 32 := BitVec.ofNat 32 (i 1).val
  let c2_i32_1985 : BitVec 32 := 2#32
  let v4509 : BitVec 32 := Scalar.muli arg1 c2_i32_1985
  let v4510 : BitVec 32 := Scalar.addi v4509 c0_i32_1986
  let v4512 : Index := Scalar.indexCast v4510
  let c61 : Index := 61#32
  ![v4511.toNat, v4512.toNat, 61]
def k0_off63 (i : grid0.Coords) (c0_i32_2020 : BitVec 32) : Fin 3 → Nat :=
  let arg0 : BitVec 32 := BitVec.ofNat 32 (i 0).val
  let v4586 : Index := Scalar.indexCast arg0
  let arg1 : BitVec 32 := BitVec.ofNat 32 (i 1).val
  let c2_i32_2019 : BitVec 32 := 2#32
  let v4584 : BitVec 32 := Scalar.muli arg1 c2_i32_2019
  let v4585 : BitVec 32 := Scalar.addi v4584 c0_i32_2020
  let v4587 : Index := Scalar.indexCast v4585
  let c62 : Index := 62#32
  ![v4586.toNat, v4587.toNat, 62]
def k0_off64 (i : grid0.Coords) (c0_i32_2051 : BitVec 32) : Fin 3 → Nat :=
  let arg0 : BitVec 32 := BitVec.ofNat 32 (i 0).val
  let v4658 : Index := Scalar.indexCast arg0
  let arg1 : BitVec 32 := BitVec.ofNat 32 (i 1).val
  let c2_i32_2050 : BitVec 32 := 2#32
  let v4656 : BitVec 32 := Scalar.muli arg1 c2_i32_2050
  let v4657 : BitVec 32 := Scalar.addi v4656 c0_i32_2051
  let v4659 : Index := Scalar.indexCast v4657
  let c63 : Index := 63#32
  ![v4658.toNat, v4659.toNat, 63]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x112x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x112x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x8192 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RequantReferenceIdeal.lean ====
abbrev S2x14336x8192 : Shape := ⟨3, ![2, 14336, 8192]⟩
abbrev S2x112x64 : Shape := ⟨3, ![2, 112, 64]⟩
abbrev S2x4x14336 : Shape := ⟨3, ![2, 4, 14336]⟩
abbrev S2x4x8192 : Shape := ⟨3, ![2, 4, 8192]⟩
abbrev S2x56x2x64 : Shape := ⟨4, ![2, 56, 2, 64]⟩
abbrev S2x112x128x64x128 : Shape := ⟨5, ![2, 112, 128, 64, 128]⟩
abbrev S2x112x1x64x1 : Shape := ⟨5, ![2, 112, 1, 64, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x14336x8192, .i8⟩
  | .hbm, ⟨1, _⟩ => ⟨S2x112x64, .f32⟩
  | .hbm, ⟨2, _⟩ => ⟨S2x14336x8192, .i8⟩
  | .hbm, ⟨3, _⟩ => ⟨S2x112x64, .f32⟩
  | .hbm, ⟨4, _⟩ => ⟨S2x4x14336, .f32⟩
  | .hbm, ⟨5, _⟩ => ⟨S2x4x8192, .f32⟩
  | .hbm, ⟨6, _⟩ => ⟨S2x14336x8192, .fp8e5m2⟩
  | .hbm, ⟨7, _⟩ => ⟨S2x14336x8192, .fp8e4m3⟩
  | .hbm, ⟨8, _⟩ => ⟨S2x14336x8192, .fp8e4m3⟩
  | .hbm, ⟨9, _⟩ => ⟨S2x56x2x64, .f32⟩
  | .local _ .vmem, ⟨0, _⟩ => ⟨S2x14336x8192, .fp8e5m2⟩
  | .local _ .vmem, ⟨1, _⟩ => ⟨S2x112x64, .f32⟩
  | .local _ .vmem, ⟨2, _⟩ => ⟨S2x14336x8192, .fp8e4m3⟩
  | .local _ .vmem, ⟨3, _⟩ => ⟨S2x112x64, .f32⟩
  | .local _ .vmem, ⟨4, _⟩ => ⟨S2x4x14336, .f32⟩
  | .local _ .vmem, ⟨5, _⟩ => ⟨S2x4x8192, .f32⟩
  | .local _ .vmem, ⟨6, _⟩ => ⟨S2x14336x8192, .fp8e4m3⟩
  | .local _ .vmem, ⟨7, _⟩ => ⟨S2x56x2x64, .f32⟩
  | _, _ => ⟨S2x14336x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x14336x8192 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x112x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x14336x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x112x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x14336x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x56x2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Twin.lean ====
/- The bit-exact program and the program read in the extended reals are the same text: a run of one is a run of the other. -/
module

public import proofs.«01_k».proof.Kernel
public import proofs.«01_k».proof.KernelIdeal
public import proofs.«01_k».proof.Proof.Gen.Kernel
public import proofs.«01_k».proof.Proof.Gen.KernelIdeal
public import Idealize.ShloMosaic.Lib.Pipeline.Regions

@[expose] public section

set_option maxRecDepth 16384

namespace Cert.Twin

open Idealize.ShloMosaic Idealize.ShloMosaic.TcCoe Idealize.SL.Sem

variable {F : FTy → Type} [FloatOps F]

/-- The frame claim of the bit-exact program, -/
def bitsFrame : Prop := ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

/-- and the same of its twin. -/
def idealFrame : Prop := ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The two claims are one. -/
theorem frame_eq : bitsFrame (F := F) = idealFrame (F := F) := by
  chain_rfl

end Cert.Twin
-- ==== Proof.RunBase.lean ====
/- What the runs of the kernel's body share: the branch conditions in closed form over the grid points and the
   memrefs the body is run on. Adapted from the generated frame modules of the bit-exact program (same body). -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_rdat (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 1 rfl).trans ((hA c 1).trans (V_main_arg3 m c)),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 56) — by arithmetic of the point. -/
theorem hcond0_0 : ∀ t : Fin cfg0.N, cond0_0 (grid0.coords t) ↔ t.val % 56 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_0, e0, e1]
    word_cmp
   : ∀ t : Fin grid0.N, cond0_0 (grid0.coords t) ↔ t.val % 56 = 0)

/-- The condition of the body's `scf.if` 1 (`k0_h2`), from the grid coordinates (the skeleton's scalar
    chain substituted). -/
abbrev cond0_1 (i : grid0.Coords) : Prop := k0_cond2 i = 1#1
/-- It holds at the points ≡ 55 (mod 56) — by arithmetic of the point. -/
theorem hcond0_1 : ∀ t : Fin cfg0.N, cond0_1 (grid0.coords t) ↔ t.val % 56 = 55 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_1, k0_cond2, e0, e1]
    word_cmp
   : ∀ t : Fin grid0.N, cond0_1 (grid0.coords t) ↔ t.val % 56 = 55)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2x112x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x112x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x8192 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x8192 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x14336 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x8192 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x8192 .f32 := Memref.whole cc0_scratch0
abbrev scM0_1 : Memref sig .tc .vmem S16x8192 .f32 := Memref.whole cc0_scratch1
/-- The scratch `arg9` the kernel carries between points, as a view: what it holds is stated through it. -/
abbrev VS0_0 : View sig .tc .vmem S16x8192 .f32 := scM0_0.view
/-- The scratch `arg10` the kernel carries between points, as a view: what it holds is stated through it. -/
abbrev VS0_1 : View sig .tc .vmem S16x8192 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.RunA.lean ====
/- The whole-body run of the kernel at the first point of a batch entry: the operand of the first product is laid down and the second accumulator cleared.
   Adapted from the generated frame modules of the bit-exact program, here with the contents of both results tracked. -/
module

public import proofs.«01_k».proof.Proof.RunBase

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 13556000 in
/-- The body's run at the first point of a batch entry: the operand of the first product is laid down and the second accumulator cleared. The pieces each written buffer ends with are found by the run: `L5` those of the
    window of p (over what it held before), `LS0`, `LS1` those of the two scratch buffers. -/
noncomputable def runA (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : cond0_0 i) (hc1 : ¬cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32) :
    Σ' (L5 : List (View.Piece (Elt F) S1x4x14336 .f32)) (LS0 : List (View.Piece (Elt F) S16x8192 .f32)), { LS1 : List (View.Piece (Elt F) S16x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread d5) L5) ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_project i arg2 harg2 arg3 harg3 arg4 harg4 arg5 harg5 arg6 harg6 arg7 harg7 arg8 harg8 arg9 harg9 arg10 harg10) K } := by
  refine ⟨?_, ?_, ?_, fun E K => ?run⟩
  case run =>
    simp only [cc0_project_eq_skeleton]; unfold cc0_project_skel
    simp only [k0_part147_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part148_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]
    · iexists _, _; isplitr; swap; · iexact H6
      ipureintro; rfl
    isplitl [HS0]; · iexists _; iexact HS0
    iexists _; iexact HS1

end Cert.KernelIdeal.Gen

end
-- ==== Proof.Tiles.lean ====
/- The kernel's work at one grid point, tile by tile, written once for every tile: what the body computes is these
   functions at each of the 32 tiles. -/
module

public import proofs.«01_k».proof.Proof.RunBase

@[expose] public section

noncomputable section

namespace Cert.KernelIdeal.Gen

open Idealize.ShloMosaic Idealize.ShloMosaic.TcCoe

variable {F : FTy → Type} [FloatOps F]

/-- The offsets of the scale of row block `r` (of the two of a point) and column block `n`, as the kernel computes them. -/
def scaleOff (i : grid0.Coords) (r : BitVec 32) (n : ℕ) : Fin 3 → ℕ :=
  ![(Scalar.indexCast (BitVec.ofNat 32 (i 0).val)).toNat,
    (Scalar.indexCast (Scalar.addi (Scalar.muli (BitVec.ofNat 32 (i 1).val) 2#32) r)).toNat, n]

/-- In closed form: batch entry, row block, column block. -/
theorem scaleOff_eq (i : grid0.Coords) (r : Fin 2) (n : ℕ) :
    scaleOff i (BitVec.ofNat 32 r.val) n = ![(i 0).val, 2 * (i 1).val + r.val, n] := by
  have h := k0_off1_eq i r
  have h0 := congrFun h 0
  have h1 := congrFun h 1
  funext a
  fin_cases a
  · exact h0
  · exact h1
  · rfl

theorem scaleOff_inb (i : grid0.Coords) (r : Fin 2) (n : Fin 64) :
    ∀ a, (scaleOff i (BitVec.ofNat 32 r.val) n.val) a + S1x1x1.size a ≤ S2x112x64.size a := by
  rw [scaleOff_eq]
  have h0 : (i 0).val < 2 := (i 0).isLt
  have h1 : (i 1).val < 56 := (i 1).isLt
  have hr := r.isLt
  have hn := n.isLt
  intro a
  fin_cases a <;> simp [S1x1x1, S2x112x64, Shape.size] <;> omega

/-! ## What a tile reads -/

section Loads

variable (i : grid0.Coords)

/-- A scale, read from its table in scalar memory. -/
def rdScale (a : Memref sig .tc .smem S2x112x64 .f32) (ha : a.IsWhole) (x : Vec F S2x112x64 .f32) (r : Fin 2) (n : Fin 64) : Elt F .f32 :=
  View.readAt (Elt F) a.view (Rect.unit (s := S2x112x64) (scaleOff i (BitVec.ofNat 32 r.val) n.val) S1x1x1.size (scaleOff_inb i r n)).toLoadRect
    (ha.unread x) (Shape.Idx.first (show 0 < S1x1x1.numel by decide))

theorem colOff_inb (t : Fin 32) : ∀ a, (![0, 0, 256 * t.val] : Fin 3 → ℕ) a + S1x256x256.size a ≤ S1x256x8192.size a := by
  have := t.isLt
  intro a
  fin_cases a <;> simp [S1x256x256, S1x256x8192, Shape.size]
  omega

/-- A tile of codes. -/
def rdCodes {e : EltTy} (a : Memref sig .tc .vmem S1x256x8192 e) (ha : a.IsWhole) (x : Vec F S1x256x8192 e) (t : Fin 32) : Vec F S1x256x256 e :=
  View.readAt (Elt F) a.view (Rect.unit (s := S1x256x8192) ![0, 0, 256 * t.val] S1x256x256.size (colOff_inb t)).toLoadRect (ha.unread x)

theorem blkOff_inb (n : Fin 64) : ∀ a, (![0, 128 * n.val] : Fin 2 → ℕ) a + S16x128.size a ≤ S16x8192.size a := by
  have := n.isLt
  intro a
  fin_cases a <;> simp [S16x128, S16x8192, Shape.size]
  omega

/-- A block of 128 columns of the 16-row operand. -/
def rdLimbs (a : Memref sig .tc .vmem S16x8192 .f32) (ha : a.IsWhole) (x : Vec F S16x8192 .f32) (n : Fin 64) : Vec F S16x128 .f32 :=
  View.readAt (Elt F) a.view (Rect.unit (s := S16x8192) ![0, 128 * n.val] S16x128.size (blkOff_inb n)).toLoadRect (ha.unread x)

theorem zOff_inb (t : Fin 32) : ∀ a, (![0, 256 * t.val] : Fin 2 → ℕ) a + S16x256.size a ≤ S16x8192.size a := by
  have := t.isLt
  intro a
  fin_cases a <;> simp [S16x256, S16x8192, Shape.size]
  omega

/-- The rectangle of a tile of the second accumulator. -/
def zRect (t : Fin 32) : Rect S16x8192 := Rect.unit (s := S16x8192) ![0, 256 * t.val] S16x256.size (zOff_inb t)

/-- A tile of the second accumulator. -/
def rdAcc (a : Memref sig .tc .vmem S16x8192 .f32) (ha : a.IsWhole) (x : Vec F S16x8192 .f32) (t : Fin 32) : Vec F S16x256 .f32 :=
  View.readAt (Elt F) a.view (Rect.unit (s := S16x8192) ![0, 256 * t.val] S16x256.size (zOff_inb t)).toLoadRect (ha.unread x)

end Loads

/-! ## What a tile computes -/

/-- A block of the operand times its scale, cast to bf16. -/
def scaledBlk (q : FVec F S16x128 .f32) (s : Elt F .f32) : FVec F S16x128 .bf16 :=
  truncf .bf16 (mulf q (broadcast S16x128 s)) bitsLt_bf16_f32

/-- Two blocks side by side above two others. -/
def fourBlk (a b c d : FVec F S16x128 .bf16) : FVec F S32x256 .bf16 :=
  concatenate S32x256 0
    [⟨S16x256, concatenate S16x256 1 [⟨S16x128, a⟩, ⟨S16x128, b⟩] concatenates_S16x128_S16x128_S16x256_d1⟩,
     ⟨S16x256, concatenate S16x256 1 [⟨S16x128, c⟩, ⟨S16x128, d⟩] concatenates_S16x128_S16x128_S16x256_d1⟩]
    concatenates_S16x256_S16x256_S32x256_d0

/-- The scaled operand of the first product at tile `t`: rows are the row blocks, columns the column blocks. -/
def lhsP (q : Fin 64 → FVec F S16x128 .f32) (s : Fin 2 → Fin 64 → Elt F .f32) (t : ℕ) (ht : t < 32) : FVec F S32x256 .bf16 :=
  fourBlk (scaledBlk (q ⟨2 * t, by omega⟩) (s 0 ⟨2 * t, by omega⟩)) (scaledBlk (q ⟨2 * t + 1, by omega⟩) (s 0 ⟨2 * t + 1, by omega⟩))
    (scaledBlk (q ⟨2 * t, by omega⟩) (s 1 ⟨2 * t, by omega⟩)) (scaledBlk (q ⟨2 * t + 1, by omega⟩) (s 1 ⟨2 * t + 1, by omega⟩))

/-- The product of one tile of codes with its scaled operand, contracted along the columns. -/
def prodP {e : FTy} (l : FVec F S32x256 .bf16) (c : FVec F S1x256x256 e) : FVec F S32x256 .f32 :=
  matmul dot_S32x256_S256x256_S32x256_1_1_0_0_n_n none l (shapeCast S256x256 c shapeCasts_S1x256x256_S256x256) (constant S32x256 .f32 0x00000000#32)

/-- The first accumulator after the first `n` tiles. -/
def accP (q : Fin 64 → FVec F S16x128 .f32) (sg se : Fin 2 → Fin 64 → Elt F .f32) (g : Fin 32 → FVec F S1x256x256 .fp8e5m2)
    (e : Fin 32 → FVec F S1x256x256 .fp8e4m3) : (n : ℕ) → n ≤ 32 → FVec F S32x256 .f32
  | 0, _ => broadcast S32x256 (Scalar.ofBits .f32 0x00000000#32 : F .f32)
  | n + 1, h => addf (addf (accP q sg se g e n (by omega)) (prodP (lhsP q sg n (by omega)) (g ⟨n, by omega⟩)))
      (prodP (lhsP q se n (by omega)) (e ⟨n, by omega⟩))

/-- The three limbs of a 16-row block summed. -/
def sumLimbs (v : FVec F S16x128 .f32) : FVec F S4x128 .f32 :=
  addf (addf (extractStridedSlice S4x128 ![8, 0] v slices_S16x128_o8_0_S4x128) (extractStridedSlice S4x128 ![4, 0] v slices_S16x128_o4_0_S4x128))
    (extractStridedSlice S4x128 ![0, 0] v slices_S16x128_o0_0_S4x128)

/-- The 256 columns of p a point computes: the two diagonal blocks of the accumulator, limbs summed. -/
def rowsP (acc : FVec F S32x256 .f32) : FVec F S4x256 .f32 :=
  concatenate S4x256 1
    [⟨S4x128, sumLimbs (extractStridedSlice S16x128 ![0, 0] acc slices_S32x256_o0_0_S16x128)⟩,
     ⟨S4x128, sumLimbs (extractStridedSlice S16x128 ![16, 128] acc slices_S32x256_o16_128_S16x128)⟩]
    concatenates_S4x128_S4x128_S4x256_d1

/-- Those columns as the block of p stored. -/
def blockP (acc : FVec F S32x256 .f32) : FVec F S1x4x256 .f32 := shapeCast S1x4x256 (rowsP acc) shapeCasts_S4x256_S1x4x256

/-- The scaled operand of the second product at tile `t`: rows are the column blocks, columns the row blocks. -/
def lhsZ (p : FVec F S16x256 .f32) (s : Fin 2 → Fin 64 → Elt F .f32) (t : Fin 32) : FVec F S32x256 .bf16 :=
  let p0 := extractStridedSlice S16x128 ![0, 0] p slices_S16x256_o0_0_S16x128
  let p1 := extractStridedSlice S16x128 ![0, 128] p slices_S16x256_o0_128_S16x128
  fourBlk (scaledBlk p0 (s 0 ⟨2 * t.val, by omega⟩)) (scaledBlk p1 (s 1 ⟨2 * t.val, by omega⟩))
    (scaledBlk p0 (s 0 ⟨2 * t.val + 1, by omega⟩)) (scaledBlk p1 (s 1 ⟨2 * t.val + 1, by omega⟩))

/-- The product of one tile of codes with its scaled operand, contracted along the rows. -/
def prodZ {e : FTy} (l : FVec F S32x256 .bf16) (c : FVec F S1x256x256 e) : FVec F S32x256 .f32 :=
  matmul dot_S32x256_S256x256_S32x256_1_0_0_1_n_n none l (shapeCast S256x256 c shapeCasts_S1x256x256_S256x256) (constant S32x256 .f32 0x00000000#32)

/-- What tile `t` of the second accumulator is increased by. -/
def incZ (p : FVec F S16x256 .f32) (sg se : Fin 2 → Fin 64 → Elt F .f32) (g : Fin 32 → FVec F S1x256x256 .fp8e5m2)
    (e : Fin 32 → FVec F S1x256x256 .fp8e4m3) (t : Fin 32) : FVec F S16x256 .f32 :=
  let y := addf (addf (broadcast S32x256 (Scalar.ofBits .f32 0x00000000#32 : F .f32)) (prodZ (lhsZ p sg t) (g t))) (prodZ (lhsZ p se t) (e t))
  concatenate S16x256 1 [⟨S16x128, extractStridedSlice S16x128 ![0, 0] y slices_S32x256_o0_0_S16x128⟩,
    ⟨S16x128, extractStridedSlice S16x128 ![16, 128] y slices_S32x256_o16_128_S16x128⟩] concatenates_S16x128_S16x128_S16x256_d1

/-- Tile `t` of the second accumulator after the point, from what it was. -/
def newZ (z inc : FVec F S16x256 .f32) : FVec F S16x256 .f32 := shapeCast S16x256 (addf z inc) shapeCasts_S16x256_S16x256

/-- The stores into the second accumulator of the first `n` tiles (last first), over the stores `L₀` made before; `ld L t`
    is what tile `t` reads of it after the stores `L`. -/
def piecesZ (inc : Fin 32 → FVec F S16x256 .f32) (ld : List (View.Piece (Elt F) S16x8192 .f32) → Fin 32 → FVec F S16x256 .f32)
    (L₀ : List (View.Piece (Elt F) S16x8192 .f32)) : (n : ℕ) → n ≤ 32 → List (View.Piece (Elt F) S16x8192 .f32)
  | 0, _ => L₀
  | n + 1, h => ⟨Rect.unit (s := S16x8192) ![0, 256 * n] S16x256.size (zOff_inb ⟨n, h⟩),
      newZ (ld (piecesZ inc ld L₀ n (by omega)) ⟨n, h⟩) (inc ⟨n, h⟩)⟩ :: piecesZ inc ld L₀ n (by omega)

end Cert.KernelIdeal.Gen

end
-- ==== Proof.PiecesA.lean ====
/- What the run found at the first point of a batch entry: the stores are the uniform tile functions. -/
module

public import proofs.«01_k».proof.Proof.RunA
public import proofs.«01_k».proof.Proof.Tiles

@[expose] public section

set_option maxRecDepth 16384

noncomputable section

namespace Cert.KernelIdeal.Gen

open Idealize.ShloMosaic Idealize.ShloMosaic.TcCoe Idealize.ShloMosaic.Tactic

variable {F : FTy → Type} [FloatOps F]

/-- The store into the operand of the first product. -/
theorem runA_ql (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : cond0_0 i) (hc1 : ¬cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32)  :
    (runA c i arg2 harg2 arg3 harg3 arg4 harg4 arg5 harg5 arg6 harg6 arg7 harg7 arg8 harg8 arg9 harg9 arg10 harg10 hc0 hc1 x0 x1 x2 x3 x4 d5).2.1 = [⟨Rect.unit (s := S16x8192) ![0, 0] S16x8192.size inb_S16x8192_S16x8192_0_0, k0_pay43 (View.readAt (Elt F) arg6.view (Rect.unit (s := S1x4x8192) ![0, 0, 0] S1x4x8192.size inb_S1x4x8192_S1x4x8192_0_0_0).toLoadRect (harg6.unread x4))⟩] := by
  sl_kernel_rfl

/-- The store into p at the first point. -/
theorem runA_p (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : cond0_0 i) (hc1 : ¬cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32)  :
    (runA c i arg2 harg2 arg3 harg3 arg4 harg4 arg5 harg5 arg6 harg6 arg7 harg7 arg8 harg8 arg9 harg9 arg10 harg10 hc0 hc1 x0 x1 x2 x3 x4 d5).1 = [⟨Rect.unit (k0_off65 i) S1x4x256.size (k0_off65_inb i), blockP (accP (fun n => arg9.view.readCov (Val := Elt F) [⟨Rect.unit (s := S16x8192) ![0, 0] S16x8192.size inb_S16x8192_S16x8192_0_0, k0_pay43 (View.readAt (Elt F) arg6.view (Rect.unit (s := S1x4x8192) ![0, 0, 0] S1x4x8192.size inb_S1x4x8192_S1x4x8192_0_0_0).toLoadRect (harg6.unread x4))⟩] (Rect.unit (s := S16x8192) ![0, 128 * n.val] S16x128.size (blkOff_inb n)).toLoadRect) (rdScale i arg2 harg2 x0) (rdScale i arg3 harg3 x1) (rdCodes arg4 harg4 x2) (rdCodes arg5 harg5 x3) 32 le_rfl)⟩] := by
  sl_kernel_rfl

/-- The stores into the second accumulator at the first point: the zeros, then the tiles. -/
theorem runA_z (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : cond0_0 i) (hc1 : ¬cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32)  :
    (runA c i arg2 harg2 arg3 harg3 arg4 harg4 arg5 harg5 arg6 harg6 arg7 harg7 arg8 harg8 arg9 harg9 arg10 harg10 hc0 hc1 x0 x1 x2 x3 x4 d5).2.2.1 = piecesZ (incZ (k0_pay198 (rowsP (accP (fun n => arg9.view.readCov (Val := Elt F) [⟨Rect.unit (s := S16x8192) ![0, 0] S16x8192.size inb_S16x8192_S16x8192_0_0, k0_pay43 (View.readAt (Elt F) arg6.view (Rect.unit (s := S1x4x8192) ![0, 0, 0] S1x4x8192.size inb_S1x4x8192_S1x4x8192_0_0_0).toLoadRect (harg6.unread x4))⟩] (Rect.unit (s := S16x8192) ![0, 128 * n.val] S16x128.size (blkOff_inb n)).toLoadRect) (rdScale i arg2 harg2 x0) (rdScale i arg3 harg3 x1) (rdCodes arg4 harg4 x2) (rdCodes arg5 harg5 x3) 32 le_rfl))) (rdScale i arg2 harg2 x0) (rdScale i arg3 harg3 x1) (rdCodes arg4 harg4 x2) (rdCodes arg5 harg5 x3))
      (fun L t => arg10.view.readCov L (Rect.unit (s := S16x8192) ![0, 256 * t.val] S16x256.size (zOff_inb t)).toLoadRect)
      [⟨Rect.unit (s := S16x8192) ![0, 0] S16x8192.size inb_S16x8192_S16x8192_0_0, k0_pay44⟩] 32 le_rfl := by
  sl_kernel_rfl

end Cert.KernelIdeal.Gen

end
-- ==== Proof.RunB.lean ====
/- The whole-body run of the kernel at the a middle point.
   Adapted from the generated frame modules of the bit-exact program, here with the contents of both results tracked. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 13528000 in
/-- The body's run at the a middle point. The pieces each written buffer ends with are found by the run: `L5` those of the
    window of p (over what it held before), `LS0`, `LS1` those of the two scratch buffers. -/
noncomputable def runB (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : ¬cond0_0 i) (hc1 : ¬cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32) (xs0 : Vec F S16x8192 .f32) (xs1 : Vec F S16x8192 .f32) :
    Σ' (L5 : List (View.Piece (Elt F) S1x4x14336 .f32)) (LS0 : List (View.Piece (Elt F) S16x8192 .f32)), { LS1 : List (View.Piece (Elt F) S16x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread d5) L5) ∗ (∃ d, owns (c : Thread nD τ) arg8 fullShare d) ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_project i arg2 harg2 arg3 harg3 arg4 harg4 arg5 harg5 arg6 harg6 arg7 harg7 arg8 harg8 arg9 harg9 arg10 harg10) K } := by
  refine ⟨?_, [], ?_, fun E K => ?run⟩
  case run =>
    simp only [cc0_project_eq_skeleton]; unfold cc0_project_skel
    simp only [k0_part147_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part148_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]
    · iexists _, _; isplitr; swap; · iexact H6
      ipureintro; rfl
    isplitl [HS0]
    · iexists _; isplitr; · ipureintro; exact harg9.read_unread _
      iexact HS0
    iexists _; iexact HS1

end Cert.KernelIdeal.Gen

end
-- ==== Proof.PiecesB.lean ====
/- What the run found at a middle point of a batch entry: the stores are the uniform tile functions. -/
module

public import proofs.«01_k».proof.Proof.RunB
public import proofs.«01_k».proof.Proof.Tiles

@[expose] public section

set_option maxRecDepth 16384

noncomputable section

namespace Cert.KernelIdeal.Gen

open Idealize.ShloMosaic Idealize.ShloMosaic.TcCoe Idealize.ShloMosaic.Tactic

variable {F : FTy → Type} [FloatOps F]

/-- The store into p at a middle point. -/
theorem runB_p (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : ¬cond0_0 i) (hc1 : ¬cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32) (xs0 : Vec F S16x8192 .f32) (xs1 : Vec F S16x8192 .f32)  :
    (runB c i arg2 harg2 arg3 harg3 arg4 harg4 arg5 harg5 arg6 harg6 arg7 harg7 arg8 harg8 arg9 harg9 arg10 harg10 hc0 hc1 x0 x1 x2 x3 x4 d5 xs0 xs1).1 = [⟨Rect.unit (k0_off65 i) S1x4x256.size (k0_off65_inb i), blockP (accP (rdLimbs arg9 harg9 xs0) (rdScale i arg2 harg2 x0) (rdScale i arg3 harg3 x1) (rdCodes arg4 harg4 x2) (rdCodes arg5 harg5 x3) 32 le_rfl)⟩] := by
  sl_kernel_rfl

/-- The stores into the second accumulator at a middle point. -/
theorem runB_z (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : ¬cond0_0 i) (hc1 : ¬cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32) (xs0 : Vec F S16x8192 .f32) (xs1 : Vec F S16x8192 .f32)  :
    (runB c i arg2 harg2 arg3 harg3 arg4 harg4 arg5 harg5 arg6 harg6 arg7 harg7 arg8 harg8 arg9 harg9 arg10 harg10 hc0 hc1 x0 x1 x2 x3 x4 d5 xs0 xs1).2.2.1 = piecesZ (incZ (k0_pay198 (rowsP (accP (rdLimbs arg9 harg9 xs0) (rdScale i arg2 harg2 x0) (rdScale i arg3 harg3 x1) (rdCodes arg4 harg4 x2) (rdCodes arg5 harg5 x3) 32 le_rfl)))
      (rdScale i arg2 harg2 x0) (rdScale i arg3 harg3 x1) (rdCodes arg4 harg4 x2) (rdCodes arg5 harg5 x3)) (fun _ => rdAcc arg10 harg10 xs1) [] 32 le_rfl := by
  sl_kernel_rfl

end Cert.KernelIdeal.Gen

end
-- ==== Proof.RunC.lean ====
/- The whole-body run of the kernel at the last point of a batch entry: the orthonormalisation follows the products.
   Adapted from the generated frame modules of the bit-exact program, here with the contents of both results tracked. -/
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 13744000 in
/-- The body's run at the last point of a batch entry: the orthonormalisation follows the products. The pieces each written buffer ends with are found by the run: `L5` those of the
    window of p (over what it held before), `L6` those of the window of q_new, `LS0`, `LS1` those of the two scratch buffers. -/
noncomputable def runC (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : ¬cond0_0 i) (hc1 : cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32) (xs0 : Vec F S16x8192 .f32) (xs1 : Vec F S16x8192 .f32) :
    Σ' (L5 : List (View.Piece (Elt F) S1x4x14336 .f32)) (L6 : List (View.Piece (Elt F) S1x4x8192 .f32)) (LS0 : List (View.Piece (Elt F) S16x8192 .f32)), { LS1 : List (View.Piece (Elt F) S16x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread d5) L5) ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_project i arg2 harg2 arg3 harg3 arg4 harg4 arg5 harg5 arg6 harg6 arg7 harg7 arg8 harg8 arg9 harg9 arg10 harg10) K } := by
  refine ⟨?_, ?_, [], ?_, fun E K => ?run⟩
  case run =>
    simp only [cc0_project_eq_skeleton]; unfold cc0_project_skel
    simp only [k0_part147_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part148_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]; · iexists _; iexact H6
    isplitl [HS0]
    · iexists _; isplitr; · ipureintro; exact harg9.read_unread _
      iexact HS0
    iexists _; iexact HS1

end Cert.KernelIdeal.Gen

end
-- ==== Proof.Ortho.lean ====
/- The kernel's orthonormalisation at the last point of a batch entry, on the four rows of p, each step applied also to
   the four rows of the second product. -/
module

public import proofs.«01_k».proof.Proof.RunBase

@[expose] public section

noncomputable section

namespace Cert.KernelIdeal.Gen

open Idealize.ShloMosaic Idealize.ShloMosaic.TcCoe

variable {F : FTy → Type} [FloatOps F]

/-- The inner product of two rows of p. -/
def dotP (p q : FVec F S1x14336 .f32) : FVec F S1x1 .f32 :=
  shapeCast S1x1 (multiReduction .add [1] S1 (mulf p q) 0x00000000#32 reduces_S1x14336_S1 (.inl rfl) rfl) shapeCasts_S1_S1x1

/-- A row of p divided by a number; -/
def divP (p : FVec F S1x14336 .f32) (n : FVec F S1x1 .f32) : FVec F S1x14336 .f32 := divf p (broadcastTo S1x14336 n broadcasts_S1x1_S1x14336)

/-- less a multiple of another. -/
def subP (q : FVec F S1x14336 .f32) (d : FVec F S1x1 .f32) (p : FVec F S1x14336 .f32) : FVec F S1x14336 .f32 :=
  subf q (mulf (broadcastTo S1x14336 d broadcasts_S1x1_S1x14336) p)

/-- The same two steps on the rows of the second product. -/
def divZ (p : FVec F S1x8192 .f32) (n : FVec F S1x1 .f32) : FVec F S1x8192 .f32 := divf p (broadcastTo S1x8192 n broadcasts_S1x1_S1x8192)

def subZ (q : FVec F S1x8192 .f32) (d : FVec F S1x1 .f32) (p : FVec F S1x8192 .f32) : FVec F S1x8192 .f32 :=
  subf q (mulf (broadcastTo S1x8192 d broadcasts_S1x1_S1x8192) p)

section

variable (p0 p1 p2 p3 : FVec F S1x14336 .f32)

def nrm0 : FVec F S1x1 .f32 := sqrt (dotP p0 p0)
/-- The first orthonormal row. -/
def ort0 : FVec F S1x14336 .f32 := divP p0 (nrm0 p0)
def res1 : FVec F S1x14336 .f32 := subP p1 (dotP (ort0 p0) p1) (ort0 p0)
def res2a : FVec F S1x14336 .f32 := subP p2 (dotP (ort0 p0) p2) (ort0 p0)
def res3a : FVec F S1x14336 .f32 := subP p3 (dotP (ort0 p0) p3) (ort0 p0)
def nrm1 : FVec F S1x1 .f32 := sqrt (dotP (res1 p0 p1) (res1 p0 p1))
/-- The second. -/
def ort1 : FVec F S1x14336 .f32 := divP (res1 p0 p1) (nrm1 p0 p1)
def res2 : FVec F S1x14336 .f32 := subP (res2a p0 p2) (dotP (ort1 p0 p1) (res2a p0 p2)) (ort1 p0 p1)
def res3b : FVec F S1x14336 .f32 := subP (res3a p0 p3) (dotP (ort1 p0 p1) (res3a p0 p3)) (ort1 p0 p1)
def nrm2 : FVec F S1x1 .f32 := sqrt (dotP (res2 p0 p1 p2) (res2 p0 p1 p2))
/-- The third. -/
def ort2 : FVec F S1x14336 .f32 := divP (res2 p0 p1 p2) (nrm2 p0 p1 p2)
def res3 : FVec F S1x14336 .f32 := subP (res3b p0 p1 p3) (dotP (ort2 p0 p1 p2) (res3b p0 p1 p3)) (ort2 p0 p1 p2)
def nrm3 : FVec F S1x1 .f32 := sqrt (dotP (res3 p0 p1 p2 p3) (res3 p0 p1 p2 p3))
/-- The fourth. -/
def ort3 : FVec F S1x14336 .f32 := divP (res3 p0 p1 p2 p3) (nrm3 p0 p1 p2 p3)

variable (z0 z1 z2 z3 : FVec F S1x8192 .f32)

/-- What the rows of the second product become by the same steps. -/
def img0 : FVec F S1x8192 .f32 := divZ z0 (nrm0 p0)
def img1 : FVec F S1x8192 .f32 := divZ (subZ z1 (dotP (ort0 p0) p1) (img0 p0 z0)) (nrm1 p0 p1)
def img2 : FVec F S1x8192 .f32 :=
  divZ (subZ (subZ z2 (dotP (ort0 p0) p2) (img0 p0 z0)) (dotP (ort1 p0 p1) (res2a p0 p2)) (img1 p0 p1 z0 z1)) (nrm2 p0 p1 p2)
def img3 : FVec F S1x8192 .f32 :=
  divZ (subZ (subZ (subZ z3 (dotP (ort0 p0) p3) (img0 p0 z0)) (dotP (ort1 p0 p1) (res3a p0 p3)) (img1 p0 p1 z0 z1))
    (dotP (ort2 p0 p1 p2) (res3b p0 p1 p3)) (img2 p0 p1 p2 z0 z1 z2)) (nrm3 p0 p1 p2 p3)

end

end Cert.KernelIdeal.Gen

end
-- ==== Proof.PiecesC.lean ====
/- What the run found at the last point of a batch entry: the stores are the uniform tile functions. -/
module

public import proofs.«01_k».proof.Proof.RunC
public import proofs.«01_k».proof.Proof.Tiles
public import proofs.«01_k».proof.Proof.Ortho

@[expose] public section

set_option maxRecDepth 16384

noncomputable section

namespace Cert.KernelIdeal.Gen

open Idealize.ShloMosaic Idealize.ShloMosaic.TcCoe Idealize.ShloMosaic.Tactic

variable {F : FTy → Type} [FloatOps F]

/-- A row of p as the orthonormalisation reads it, of a buffer holding `f`. -/
def rdRowP (a : Memref sig .tc .vmem S1x4x14336 .f32) (f : a.view.ty.Contents (Elt F)) (k : Fin 4) : FVec F S1x14336 .f32 :=
  shapeCast S1x14336 (View.readAt (Elt F) a.view (Rect.unit (s := S1x4x14336) ![0, k.val, 0] S1x1x14336.size (by
    have := k.isLt; intro a; fin_cases a <;> simp [S1x1x14336, S1x4x14336, Shape.size]; omega)).toLoadRect f) shapeCasts_S1x1x14336_S1x14336

/-- The second accumulator's limbs summed into its first rows: the store, of the stores `L` before. -/
def zSum (a : Memref sig .tc .vmem S16x8192 .f32) (L : List (View.Piece (Elt F) S16x8192 .f32)) : View.Piece (Elt F) S16x8192 .f32 :=
  ⟨Rect.unit (s := S16x8192) ![0, 0] S4x8192.size inb_S16x8192_S4x8192_0_0,
    k0_pay5 (a.view.readCov L (Rect.unit (s := S16x8192) ![8, 0] S4x8192.size inb_S16x8192_S4x8192_8_0).toLoadRect)
      (a.view.readCov L (Rect.unit (s := S16x8192) ![4, 0] S4x8192.size inb_S16x8192_S4x8192_4_0).toLoadRect)
      (a.view.readCov L (Rect.unit (s := S16x8192) ![0, 0] S4x8192.size inb_S16x8192_S4x8192_0_0).toLoadRect)⟩

/-- A row of the second product, of the stores `L`. -/
def rdRowZ (a : Memref sig .tc .vmem S16x8192 .f32) (L : List (View.Piece (Elt F) S16x8192 .f32)) (k : Fin 4) : FVec F S1x8192 .f32 :=
  a.view.readCov L (Rect.unit (s := S16x8192) ![k.val, 0] S1x8192.size (by
    have := k.isLt; intro a; fin_cases a <;> simp [S1x8192, S16x8192, Shape.size]; omega)).toLoadRect

/-- The stores of the four orthonormal rows over the stores `L`. -/
def piecesP (p : Fin 4 → FVec F S1x14336 .f32) (L : List (View.Piece (Elt F) S1x4x14336 .f32)) : List (View.Piece (Elt F) S1x4x14336 .f32) :=
  ⟨Rect.unit (s := S1x4x14336) ![0, 3, 0] S1x1x14336.size inb_S1x4x14336_S1x1x14336_0_3_0,
    shapeCast S1x1x14336 (ort3 (p 0) (p 1) (p 2) (p 3)) shapeCasts_S1x14336_S1x1x14336⟩ ::
  ⟨Rect.unit (s := S1x4x14336) ![0, 2, 0] S1x1x14336.size inb_S1x4x14336_S1x1x14336_0_2_0,
    shapeCast S1x1x14336 (ort2 (p 0) (p 1) (p 2)) shapeCasts_S1x14336_S1x1x14336⟩ ::
  ⟨Rect.unit (s := S1x4x14336) ![0, 1, 0] S1x1x14336.size inb_S1x4x14336_S1x1x14336_0_1_0,
    shapeCast S1x1x14336 (ort1 (p 0) (p 1)) shapeCasts_S1x14336_S1x1x14336⟩ ::
  ⟨Rect.unit (s := S1x4x14336) ![0, 0, 0] S1x1x14336.size inb_S1x4x14336_S1x1x14336_0_0_0,
    shapeCast S1x1x14336 (ort0 (p 0)) shapeCasts_S1x14336_S1x1x14336⟩ :: L

/-- The stores of their images. -/
def piecesQ (p : Fin 4 → FVec F S1x14336 .f32) (z : Fin 4 → FVec F S1x8192 .f32) : List (View.Piece (Elt F) S1x4x8192 .f32) :=
  [⟨Rect.unit (s := S1x4x8192) ![0, 3, 0] S1x1x8192.size inb_S1x4x8192_S1x1x8192_0_3_0,
    shapeCast S1x1x8192 (img3 (p 0) (p 1) (p 2) (p 3) (z 0) (z 1) (z 2) (z 3)) shapeCasts_S1x8192_S1x1x8192⟩,
   ⟨Rect.unit (s := S1x4x8192) ![0, 2, 0] S1x1x8192.size inb_S1x4x8192_S1x1x8192_0_2_0,
    shapeCast S1x1x8192 (img2 (p 0) (p 1) (p 2) (z 0) (z 1) (z 2)) shapeCasts_S1x8192_S1x1x8192⟩,
   ⟨Rect.unit (s := S1x4x8192) ![0, 1, 0] S1x1x8192.size inb_S1x4x8192_S1x1x8192_0_1_0,
    shapeCast S1x1x8192 (img1 (p 0) (p 1) (z 0) (z 1)) shapeCasts_S1x8192_S1x1x8192⟩,
   ⟨Rect.unit (s := S1x4x8192) ![0, 0, 0] S1x1x8192.size inb_S1x4x8192_S1x1x8192_0_0_0,
    shapeCast S1x1x8192 (img0 (p 0) (z 0)) shapeCasts_S1x8192_S1x1x8192⟩]

/-- The stores into p at the last point: its columns of p, then the orthonormal rows. -/
theorem runC_p (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : ¬cond0_0 i) (hc1 : cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32) (xs0 : Vec F S16x8192 .f32) (xs1 : Vec F S16x8192 .f32)  :
    (runC c i arg2 harg2 arg3 harg3 arg4 harg4 arg5 harg5 arg6 harg6 arg7 harg7 arg8 harg8 arg9 harg9 arg10 harg10 hc0 hc1 x0 x1 x2 x3 x4 d5 xs0 xs1).1 = piecesP (rdRowP arg7 (arg7.view.writes (Elt F) (harg7.unread d5) [⟨Rect.unit (k0_off65 i) S1x4x256.size (k0_off65_inb i), blockP (accP (rdLimbs arg9 harg9 xs0) (rdScale i arg2 harg2 x0) (rdScale i arg3 harg3 x1) (rdCodes arg4 harg4 x2) (rdCodes arg5 harg5 x3) 32 le_rfl)⟩])) [⟨Rect.unit (k0_off65 i) S1x4x256.size (k0_off65_inb i), blockP (accP (rdLimbs arg9 harg9 xs0) (rdScale i arg2 harg2 x0) (rdScale i arg3 harg3 x1) (rdCodes arg4 harg4 x2) (rdCodes arg5 harg5 x3) 32 le_rfl)⟩] := by
  sl_kernel_rfl

/-- The stores into q_new at the last point. -/
theorem runC_q (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x8192 .f32) (harg6 : arg6.IsWhole) (arg7 : Memref sig .tc .vmem S1x4x14336 .f32) (harg7 : arg7.IsWhole) (arg8 : Memref sig .tc .vmem S1x4x8192 .f32) (harg8 : arg8.IsWhole) (arg9 : Memref sig .tc .vmem S16x8192 .f32) (harg9 : arg9.IsWhole) (arg10 : Memref sig .tc .vmem S16x8192 .f32) (harg10 : arg10.IsWhole) (hc0 : ¬cond0_0 i) (hc1 : cond0_1 i)
    (x0 : Vec F S2x112x64 .f32) (x1 : Vec F S2x112x64 .f32) (x2 : Vec F S1x256x8192 .fp8e5m2) (x3 : Vec F S1x256x8192 .fp8e4m3) (x4 : Vec F S1x4x8192 .f32) (d5 : Vec F S1x4x14336 .f32) (xs0 : Vec F S16x8192 .f32) (xs1 : Vec F S16x8192 .f32)  :
    (runC c i arg2 harg2 arg3 harg3 arg4 harg4 arg5 harg5 arg6 harg6 arg7 harg7 arg8 harg8 arg9 harg9 arg10 harg10 hc0 hc1 x0 x1 x2 x3 x4 d5 xs0 xs1).2.1 = piecesQ (rdRowP arg7 (arg7.view.writes (Elt F) (harg7.unread d5) [⟨Rect.unit (k0_off65 i) S1x4x256.size (k0_off65_inb i), blockP (accP (rdLimbs arg9 harg9 xs0) (rdScale i arg2 harg2 x0) (rdScale i arg3 harg3 x1) (rdCodes arg4 harg4 x2) (rdCodes arg5 harg5 x3) 32 le_rfl)⟩]))
      (rdRowZ arg10 (zSum arg10 (piecesZ (incZ (k0_pay198 (rowsP (accP (rdLimbs arg9 harg9 xs0) (rdScale i arg2 harg2 x0) (rdScale i arg3 harg3 x1) (rdCodes arg4 harg4 x2) (rdCodes arg5 harg5 x3) 32 le_rfl))) (rdScale i arg2 harg2 x0) (rdScale i arg3 harg3 x1) (rdCodes arg4 harg4 x2) (rdCodes arg5 harg5 x3)) (fun _ => rdAcc arg10 harg10 xs1) [] 32 le_rfl) :: (piecesZ (incZ (k0_pay198 (rowsP (accP (rdLimbs arg9 harg9 xs0) (rdScale i arg2 harg2 x0) (rdScale i arg3 harg3 x1) (rdCodes arg4 harg4 x2) (rdCodes arg5 harg5 x3) 32 le_rfl))) (rdScale i arg2 harg2 x0) (rdScale i arg3 harg3 x1) (rdCodes arg4 harg4 x2) (rdCodes arg5 harg5 x3)) (fun _ => rdAcc arg10 harg10 xs1) [] 32 le_rfl))) := by
  sl_kernel_rfl

end Cert.KernelIdeal.Gen

end
-- ==== Proof.Point.lean ====
/- What a grid point leaves, as functions of the blocks it is given and of nothing else: no staging memref is named. -/
module

public import proofs.«01_k».proof.Proof.PiecesA
public import proofs.«01_k».proof.Proof.PiecesB
public import proofs.«01_k».proof.Proof.PiecesC
public import Idealize.ShloMosaic.Lib.Pipeline.ValueKit

@[expose] public section

set_option maxRecDepth 16384

noncomputable section

namespace Cert.KernelIdeal.Gen

open Idealize.ShloMosaic Idealize.ShloMosaic.TcCoe

variable {F : FTy → Type} [FloatOps F]

/-! ## The loads -/

/-- The factor a tile reads, of the table of scales. -/
def ldScale (i : grid0.Coords) (x : Vec F S2x112x64 .f32) (r : Fin 2) (n : Fin 64) : Elt F .f32 :=
  View.ld (Val := Elt F) x (Rect.unit (s := S2x112x64) (scaleOff i (BitVec.ofNat 32 r.val) n.val) S1x1x1.size (scaleOff_inb i r n))
    (Shape.Idx.first (show 0 < S1x1x1.numel by decide))

/-- The tile of codes, of the block of rows. -/
def ldCodes {e : EltTy} (x : Vec F S1x256x8192 e) (t : Fin 32) : Vec F S1x256x256 e :=
  View.ld (Val := Elt F) x (Rect.unit (s := S1x256x8192) ![0, 0, 256 * t.val] S1x256x256.size (colOff_inb t))

/-- The block of limbs. -/
def ldLimbs (x : Vec F S16x8192 .f32) (n : Fin 64) : Vec F S16x128 .f32 :=
  View.ld (Val := Elt F) x (Rect.unit (s := S16x8192) ![0, 128 * n.val] S16x128.size (blkOff_inb n))

/-- The tile of the second accumulator. -/
def ldAcc (x : Vec F S16x8192 .f32) (t : Fin 32) : Vec F S16x256 .f32 :=
  View.ld (Val := Elt F) x (Rect.unit (s := S16x8192) ![0, 256 * t.val] S16x256.size (zOff_inb t))

theorem rdScale_eq (i : grid0.Coords) (a : Memref sig .tc .smem S2x112x64 .f32) (ha : a.IsWhole) (x : Vec F S2x112x64 .f32) :
    rdScale i a ha x = ldScale i x := by
  funext r n; unfold rdScale ldScale; rw [View.readAt_eq_ld, ha.read_unread]

theorem rdCodes_eq {e : EltTy} (a : Memref sig .tc .vmem S1x256x8192 e) (ha : a.IsWhole) (x : Vec F S1x256x8192 e) :
    rdCodes a ha x = ldCodes x := by
  funext t; unfold rdCodes ldCodes; rw [View.readAt_eq_ld, ha.read_unread]

theorem rdLimbs_eq (a : Memref sig .tc .vmem S16x8192 .f32) (ha : a.IsWhole) (x : Vec F S16x8192 .f32) :
    rdLimbs a ha x = ldLimbs x := by
  funext t; unfold rdLimbs ldLimbs; rw [View.readAt_eq_ld, ha.read_unread]

theorem rdAcc_eq (a : Memref sig .tc .vmem S16x8192 .f32) (ha : a.IsWhole) (x : Vec F S16x8192 .f32) :
    rdAcc a ha x = ldAcc x := by
  funext t; unfold rdAcc ldAcc; rw [View.readAt_eq_ld, ha.read_unread]

/-! ## The two products at a point -/

section Products

variable (i : grid0.Coords) (ql : Vec F S16x8192 .f32) (x0 x1 : Vec F S2x112x64 .f32) (x2 : Vec F S1x256x8192 .fp8e5m2) (x3 : Vec F S1x256x8192 .fp8e4m3)

/-- The first product's accumulator after all tiles. -/
def accAt : FVec F S32x256 .f32 := accP (ldLimbs ql) (ldScale i x0) (ldScale i x1) (ldCodes x2) (ldCodes x3) 32 le_rfl

/-- The columns of p the point computes. -/
def colsAt : FVec F S1x4x256 .f32 := blockP (accAt i ql x0 x1 x2 x3)

/-- What the point adds to a tile of the second accumulator. -/
def incAt : Fin 32 → FVec F S16x256 .f32 :=
  incZ (k0_pay198 (rowsP (accAt i ql x0 x1 x2 x3))) (ldScale i x0) (ldScale i x1) (ldCodes x2) (ldCodes x3)

end Products

/-- The second accumulator after the point's additions. -/
def zNext (inc : Fin 32 → FVec F S16x256 .f32) (z : Vec F S16x8192 .f32) : Vec F S16x8192 .f32 :=
  View.canon (Val := Elt F) (piecesZ inc (fun _ => ldAcc z) [] 32 le_rfl)

/-! ## The tile stores of the second accumulator -/

/-- An index lies in the tile its column names. -/
theorem mem_zTile (y : S16x8192.Idx) (t : Fin 32) (h : (y 1).val / 256 = t.val) :
    y ∈ (Rect.unit (s := S16x8192) ![0, 256 * t.val] S16x256.size (zOff_inb t)).set := by
  rw [Rect.mem_set_unit]
  have h0 : (y 0).val < 16 := (y 0).isLt
  intro a
  fin_cases a
  · exact ⟨Nat.zero_le _, by simpa [S16x256, Shape.size] using h0⟩
  · constructor
    · show 256 * t.val ≤ (y 1).val; omega
    · show (y 1).val < 256 * t.val + 256; omega

/-- and in no other. -/
theorem col_of_mem_zTile (y : S16x8192.Idx) (t : Fin 32)
    (h : y ∈ (Rect.unit (s := S16x8192) ![0, 256 * t.val] S16x256.size (zOff_inb t)).set) : (y 1).val / 256 = t.val := by
  rw [Rect.mem_set_unit] at h
  have h1 : 256 * t.val ≤ (y 1).val ∧ (y 1).val < 256 * t.val + 256 := h 1
  omega

/-- The tiles stored cover the buffer. -/
theorem piecesZ_cover (inc : Fin 32 → FVec F S16x256 .f32) (ld) (L₀ : List (View.Piece (Elt F) S16x8192 .f32)) (y : S16x8192.Idx) :
    ∀ n (h : n ≤ 32), (y 1).val / 256 < n → ∃ p ∈ piecesZ inc ld L₀ n h, y ∈ p.1.set
  | n + 1, h, hy => by
    by_cases e : (y 1).val / 256 = n
    · exact ⟨_, List.mem_cons_self, mem_zTile y ⟨n, h⟩ e⟩
    · obtain ⟨p, hp, hyp⟩ := piecesZ_cover inc ld L₀ y n (by omega) (by omega)
      exact ⟨p, List.mem_cons_of_mem _ hp, hyp⟩

/-- A store into a tile leaves the other tiles; -/
theorem canon_tile_off (t : Fin 32) (w : FVec F S16x256 .f32) (L : List (View.Piece (Elt F) S16x8192 .f32)) (y : S16x8192.Idx)
    (h : (y 1).val / 256 ≠ t.val) :
    View.canon (Val := Elt F) (⟨Rect.unit (s := S16x8192) ![0, 256 * t.val] S16x256.size (zOff_inb t), w⟩ :: L) y = View.canon L y :=
  View.canon_cons_of_not_mem _ _ fun hm => h (col_of_mem_zTile y t hm)

/-- and puts its payload into its own. -/
theorem canon_tile_on (t : Fin 32) (w w' : FVec F S16x256 .f32) (L L' : List (View.Piece (Elt F) S16x8192 .f32)) (y : S16x8192.Idx)
    (h : (y 1).val / 256 = t.val) (hw : w = w') :
    View.canon (Val := Elt F) (⟨Rect.unit (s := S16x8192) ![0, 256 * t.val] S16x256.size (zOff_inb t), w⟩ :: L) y
      = View.canon (⟨Rect.unit (s := S16x8192) ![0, 256 * t.val] S16x256.size (zOff_inb t), w'⟩ :: L') y := by
  subst hw
  obtain ⟨x, rfl⟩ := LoadRect.exists_idx_of_mem _ (mem_zTile y t h)
  exact (View.canon_cons_emb (Val := Elt F) _ w L x).trans (View.canon_cons_emb (Val := Elt F) _ w L' x).symm

/-- A tile not stored yet is as the stores before left it. -/
theorem canon_piecesZ_of_le (inc : Fin 32 → FVec F S16x256 .f32) (ld) (L₀ : List (View.Piece (Elt F) S16x8192 .f32)) (y : S16x8192.Idx) :
    ∀ n (h : n ≤ 32), n ≤ (y 1).val / 256 → View.canon (Val := Elt F) (piecesZ inc ld L₀ n h) y = View.canon L₀ y := by
  intro n
  induction n with
  | zero => intro _ _; rfl
  | succ n ih =>
    intro h hy
    exact (canon_tile_off ⟨n, h⟩ _ _ y (by simp only; omega)).trans (ih (by omega) (by omega))

/-- Two runs of tile stores leave the same when each tile reads the same. -/
theorem canon_piecesZ_congr (inc : Fin 32 → FVec F S16x256 .f32) (ld ld') (L₀ L₀' : List (View.Piece (Elt F) S16x8192 .f32)) (y : S16x8192.Idx)
    (hld : ∀ n (h : n < 32), ld (piecesZ inc ld L₀ n (by omega)) ⟨n, h⟩ = ld' (piecesZ inc ld' L₀' n (by omega)) ⟨n, h⟩) :
    ∀ n (h : n ≤ 32), (y 1).val / 256 < n →
      View.canon (Val := Elt F) (piecesZ inc ld L₀ n h) y = View.canon (piecesZ inc ld' L₀' n h) y := by
  intro n
  induction n with
  | zero => intro _ hy; omega
  | succ n ih =>
    intro h hy
    by_cases e : (y 1).val / 256 = n
    · exact canon_tile_on ⟨n, h⟩ _ _ _ _ y e (by rw [hld n h])
    · exact (canon_tile_off ⟨n, h⟩ _ _ y e).trans ((ih (by omega) (by omega)).trans (canon_tile_off ⟨n, h⟩ _ _ y e).symm)

theorem col_lt (y : S16x8192.Idx) : (y 1).val / 256 < 32 := by
  have : (y 1).val < 8192 := (y 1).isLt
  omega

/-- At the first point the tiles read the zeros stored before them. -/
theorem canon_zeros (inc : Fin 32 → FVec F S16x256 .f32) (a : Memref sig .tc .vmem S16x8192 .f32) :
    View.canon (Val := Elt F) (piecesZ inc (fun L t => a.view.readCov L (Rect.unit (s := S16x8192) ![0, 256 * t.val] S16x256.size (zOff_inb t)).toLoadRect)
      [⟨Rect.unit (s := S16x8192) ![0, 0] S16x8192.size inb_S16x8192_S16x8192_0_0, k0_pay44⟩] 32 le_rfl) = zNext inc k0_pay44 := by
  funext y
  refine canon_piecesZ_congr inc _ _ _ _ y (fun n h => ?_) 32 le_rfl (col_lt y)
  rw [View.readCov_eq_canon']
  funext j
  unfold ldAcc View.ld
  refine (canon_piecesZ_of_le inc _ _ _ n (by omega) ?_).trans ?_
  · have : ((Rect.unit (s := S16x8192) ![0, 256 * n] S16x256.size (zOff_inb ⟨n, h⟩)).idx j 1).val = 256 * n + (j 1).val :=
      Rect.idx_unit_val _ _ _ j 1
    show n ≤ ((Rect.unit (s := S16x8192) ![0, 256 * n] S16x256.size (zOff_inb ⟨n, h⟩)).idx j 1).val / 256
    omega
  · exact congrFun (View.canon_cons_unit_lit _ _ _ (fun a => by fin_cases a <;> rfl)) _

/-! ## The stores into p -/

/-- The columns of p a point stores. -/
def colRect (i : grid0.Coords) : Rect S1x4x14336 := Rect.unit (s := S1x4x14336) (k0_off65 i) S1x4x256.size (k0_off65_inb i)

/-- p with the point's columns replaced. -/
def setCols (i : grid0.Coords) (w : FVec F S1x4x256 .f32) (Y : Vec F S1x4x14336 .f32) : Vec F S1x4x14336 .f32 :=
  (colRect i).overlay Y w

/-- One store over any contents. -/
theorem read_writes_one {sp : Space} {s : Shape} {e : EltTy} (v : View sig .tc sp s e) (f : v.ty.Contents (Elt F)) (r : Rect s) (w : r.shape.Idx → Elt F e) :
    v.read (Elt F) (v.writes (Elt F) f [⟨r, w⟩]) = r.overlay (v.read (Elt F) f) w := by
  funext y
  by_cases hm : y ∈ r.set
  · obtain ⟨x, rfl⟩ := LoadRect.exists_idx_of_mem _ hm
    exact (View.read_writes_cons_emb _ _ _ w _ x).trans (Rect.overlay_emb r _ w x).symm
  · rw [View.read_writes_apply_of_forall_not_mem _ _ _ _ (by intro p hp; rw [List.mem_singleton] at hp; subst hp; exact hm),
      Rect.overlay_of_not_mem _ _ _ hm]

theorem read_setCols (i : grid0.Coords) (w : FVec F S1x4x256 .f32) (Y : Vec F S1x4x14336 .f32) (a : Memref sig .tc .vmem S1x4x14336 .f32) (ha : a.IsWhole) :
    a.view.read (Elt F) (a.view.writes (Elt F) (ha.unread Y) [⟨Rect.unit (s := S1x4x14336) (k0_off65 i) S1x4x256.size (k0_off65_inb i), w⟩]) = setCols i w Y := by
  rw [read_writes_one, ha.read_unread]
  rfl

theorem rowP_inb (k : Fin 4) : ∀ a, (![0, k.val, 0] : Fin 3 → ℕ) a + S1x1x14336.size a ≤ S1x4x14336.size a := by
  have := k.isLt
  intro a
  fin_cases a
  · exact le_rfl
  · exact this
  · exact le_rfl

theorem rowQ_inb (k : Fin 4) : ∀ a, (![0, k.val, 0] : Fin 3 → ℕ) a + S1x1x8192.size a ≤ S1x4x8192.size a := by
  have := k.isLt
  intro a
  fin_cases a
  · exact le_rfl
  · exact this
  · exact le_rfl

theorem rowZ_inb (k : Fin 4) : ∀ a, (![k.val, 0] : Fin 2 → ℕ) a + S1x8192.size a ≤ S4x8192.size a := by
  have := k.isLt
  intro a
  fin_cases a
  · exact this
  · exact le_rfl

theorem rowZ16_inb (k : Fin 4) : ∀ a, (![k.val, 0] : Fin 2 → ℕ) a + S1x8192.size a ≤ S16x8192.size a := by
  have := k.isLt
  intro a
  fin_cases a
  · show k.val + 1 ≤ 16; omega
  · exact le_rfl

/-- A row of p. -/
def rowP (X : Vec F S1x4x14336 .f32) (k : Fin 4) : FVec F S1x14336 .f32 :=
  shapeCast S1x14336 (View.ld (Val := Elt F) X (Rect.unit (s := S1x4x14336) ![0, k.val, 0] S1x1x14336.size (rowP_inb k))) shapeCasts_S1x1x14336_S1x14336

theorem rdRowP_eq (a : Memref sig .tc .vmem S1x4x14336 .f32) (f : a.view.ty.Contents (Elt F)) :
    rdRowP a f = rowP (a.view.read (Elt F) f) := rfl

/-- The four rows made orthonormal. -/
def outP (X : Vec F S1x4x14336 .f32) : Vec F S1x4x14336 .f32 := View.canon (Val := Elt F) (piecesP (rowP X) [])

theorem mem_rowP (y : S1x4x14336.Idx) (k : Fin 4) (inb) (h : (y 1).val = k.val) :
    y ∈ (Rect.unit (s := S1x4x14336) ![0, k.val, 0] S1x1x14336.size inb).set := by
  rw [Rect.mem_set_unit]
  have h0 : (y 0).val < 1 := (y 0).isLt
  have h2 : (y 2).val < 14336 := (y 2).isLt
  intro a
  fin_cases a
  · exact ⟨Nat.zero_le _, h0⟩
  · exact ⟨h.ge, Nat.lt_succ_of_le h.le⟩
  · exact ⟨Nat.zero_le _, by show (y 2).val < 0 + 14336; omega⟩

theorem mem_rowQ (y : S1x4x8192.Idx) (k : Fin 4) (inb) (h : (y 1).val = k.val) :
    y ∈ (Rect.unit (s := S1x4x8192) ![0, k.val, 0] S1x1x8192.size inb).set := by
  rw [Rect.mem_set_unit]
  have h0 : (y 0).val < 1 := (y 0).isLt
  have h2 : (y 2).val < 8192 := (y 2).isLt
  intro a
  fin_cases a
  · exact ⟨Nat.zero_le _, h0⟩
  · exact ⟨h.ge, Nat.lt_succ_of_le h.le⟩
  · exact ⟨Nat.zero_le _, by show (y 2).val < 0 + 8192; omega⟩

/-- The rows cover the block of p, -/
theorem piecesP_cover (p : Fin 4 → FVec F S1x14336 .f32) (L : List (View.Piece (Elt F) S1x4x14336 .f32)) (y : S1x4x14336.Idx) :
    ∃ q ∈ piecesP p L, y ∈ q.1.set := by
  have h : (y 1).val < 4 := (y 1).isLt
  unfold piecesP
  rcases (show (y 1).val = 0 ∨ (y 1).val = 1 ∨ (y 1).val = 2 ∨ (y 1).val = 3 by omega) with h | h | h | h
  · exact ⟨_, .tail _ (.tail _ (.tail _ (.head _))), mem_rowP y 0 (rowP_inb 0) h⟩
  · exact ⟨_, .tail _ (.tail _ (.head _)), mem_rowP y 1 (rowP_inb 1) h⟩
  · exact ⟨_, .tail _ (.head _), mem_rowP y 2 (rowP_inb 2) h⟩
  · exact ⟨_, .head _, mem_rowP y 3 (rowP_inb 3) h⟩

/-- and that of q_new. -/
theorem piecesQ_cover (p : Fin 4 → FVec F S1x14336 .f32) (z : Fin 4 → FVec F S1x8192 .f32) (y : S1x4x8192.Idx) :
    ∃ q ∈ piecesQ p z, y ∈ q.1.set := by
  have h : (y 1).val < 4 := (y 1).isLt
  unfold piecesQ
  rcases (show (y 1).val = 0 ∨ (y 1).val = 1 ∨ (y 1).val = 2 ∨ (y 1).val = 3 by omega) with h | h | h | h
  · exact ⟨_, .tail _ (.tail _ (.tail _ (.head _))), mem_rowQ y 0 (rowQ_inb 0) h⟩
  · exact ⟨_, .tail _ (.tail _ (.head _)), mem_rowQ y 1 (rowQ_inb 1) h⟩
  · exact ⟨_, .tail _ (.head _), mem_rowQ y 2 (rowQ_inb 2) h⟩
  · exact ⟨_, .head _, mem_rowQ y 3 (rowQ_inb 3) h⟩

theorem canon_app (A B : List (View.Piece (Elt F) S1x4x14336 .f32)) (y : S1x4x14336.Idx) (h : ∃ q ∈ A, y ∈ q.1.set) :
    View.canon (Val := Elt F) (A ++ B) y = View.canon A y := by
  induction A with
  | nil => obtain ⟨_, h, _⟩ := h; exact absurd h List.not_mem_nil
  | cons q A ih =>
    by_cases hm : y ∈ q.1.set
    · obtain ⟨r, w⟩ := q
      obtain ⟨x, rfl⟩ := LoadRect.exists_idx_of_mem _ hm
      exact (View.canon_cons_emb (Val := Elt F) r w (A ++ B) x).trans (View.canon_cons_emb (Val := Elt F) r w A x).symm
    · rw [List.cons_append, View.canon_cons_of_not_mem _ _ hm, View.canon_cons_of_not_mem _ _ hm]
      refine ih ?_
      obtain ⟨q', hq, hy⟩ := h
      rcases List.mem_cons.mp hq with rfl | hq
      · exact absurd hy hm
      · exact ⟨q', hq, hy⟩

/-- What p's block holds after the orthonormal rows are stored. -/
theorem read_piecesP (p : Fin 4 → FVec F S1x14336 .f32) (L : List (View.Piece (Elt F) S1x4x14336 .f32)) (a : Memref sig .tc .vmem S1x4x14336 .f32) (f) :
    a.view.read (Elt F) (a.view.writes (Elt F) f (piecesP p L)) = View.canon (piecesP p []) := by
  rw [View.read_writes_eq_canon _ _ _ (piecesP_cover p L)]
  funext y
  exact canon_app (piecesP p []) L y (piecesP_cover p [] y)

/-! ## The stores into q_new -/

/-- The limbs of the second accumulator summed. -/
def sumRows (Z : Vec F S16x8192 .f32) : Vec F S4x8192 .f32 :=
  k0_pay5 (View.ld (Val := Elt F) Z (Rect.unit (s := S16x8192) ![8, 0] S4x8192.size inb_S16x8192_S4x8192_8_0))
    (View.ld (Val := Elt F) Z (Rect.unit (s := S16x8192) ![4, 0] S4x8192.size inb_S16x8192_S4x8192_4_0))
    (View.ld (Val := Elt F) Z (Rect.unit (s := S16x8192) ![0, 0] S4x8192.size inb_S16x8192_S4x8192_0_0))

/-- A row of it. -/
def rowZ (Z : Vec F S16x8192 .f32) (k : Fin 4) : Vec F S1x8192 .f32 :=
  View.ld (Val := Elt F) (e' := .f32) (sumRows Z) (Rect.unit (s := S4x8192) ![k.val, 0] S1x8192.size (rowZ_inb k))

theorem rdRowZ_eq (a : Memref sig .tc .vmem S16x8192 .f32) (L : List (View.Piece (Elt F) S16x8192 .f32)) :
    rdRowZ a (zSum a L :: L) = rowZ (View.canon (Val := Elt F) L) := by
  funext k x
  unfold rdRowZ
  rw [View.readCov_eq_canon']
  have e : (Rect.unit (s := S16x8192) ![k.val, 0] S1x8192.size (rowZ16_inb k)).toLoadRect.idx x
      = (Rect.unit (s := S16x8192) ![0, 0] S4x8192.size inb_S16x8192_S4x8192_0_0).emb ((Rect.unit (s := S4x8192) ![k.val, 0] S1x8192.size (rowZ_inb k)).idx x) := by
    funext a
    apply Fin.ext
    refine (Rect.idx_unit_val _ _ _ x a).trans ?_
    refine Eq.trans ?_ (Rect.idx_unit_val _ _ _ _ a).symm
    rw [Rect.idx_unit_val]
    fin_cases a <;> simp
  show View.canon (zSum a L :: L) _ = _
  rw [e]
  unfold zSum
  refine (View.canon_cons_emb (Val := Elt F) _ _ L _).trans ?_
  rw [View.readCov_eq_canon', View.readCov_eq_canon', View.readCov_eq_canon']
  rfl

/-- The four images stored. -/
def outQ (X : Vec F S1x4x14336 .f32) (Z : Vec F S16x8192 .f32) : Vec F S1x4x8192 .f32 := View.canon (Val := Elt F) (piecesQ (rowP X) (rowZ Z))

end Cert.KernelIdeal.Gen

end
-- ==== Proof.Data.lean ====
/- The proof data of the ideal kernel's pipeline: what each point leaves in the scratch buffers and in the blocks of the two results. -/
module

public import proofs.«01_k».proof.Proof.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- What point `t` leaves in the two scratch buffers, at the first point of a batch entry: the limbs of q, and the second
    accumulator started from zeros. -/
def scrFirst (t : Fin cfg0.N) : Vec F S16x8192 .f32 × Vec F S16x8192 .f32 :=
  (k0_pay43 (iblk m c 4 t),
    zNext (incAt (grid0.coords t) (k0_pay43 (iblk m c 4 t)) (iblk m c 0 t) (iblk m c 1 t) (iblk m c 2 t) (iblk m c 3 t)) k0_pay44)

/-- and at a later one, of what they held. -/
def scrNext (t : Fin cfg0.N) (s : Vec F S16x8192 .f32 × Vec F S16x8192 .f32) : Vec F S16x8192 .f32 × Vec F S16x8192 .f32 :=
  (s.1, zNext (incAt (grid0.coords t) s.1 (iblk m c 0 t) (iblk m c 1 t) (iblk m c 2 t) (iblk m c 3 t)) s.2)

/-- The scratch buffers after the tiles of point `n`. -/
def scr : (n : ℕ) → n < cfg0.N → Vec F S16x8192 .f32 × Vec F S16x8192 .f32
  | 0, h => scrFirst m c ⟨0, h⟩
  | n + 1, h => if (n + 1) % 56 = 0 then scrFirst m c ⟨n + 1, h⟩ else scrNext m c ⟨n + 1, h⟩ (scr n (by omega))

theorem scr_first (t : Fin cfg0.N) (h : t.val % 56 = 0) : scr m c t.val t.isLt = scrFirst m c t := by
  obtain ⟨n, hn⟩ := t
  cases n with
  | zero => rfl
  | succ n => exact if_pos h

theorem scr_next (t : Fin cfg0.N) (h : t.val % 56 ≠ 0) (h' : t.val - 1 < cfg0.N) :
    scr m c t.val t.isLt = scrNext m c t (scr m c (t.val - 1) h') := by
  obtain ⟨n, hn⟩ := t
  cases n with
  | zero => exact absurd rfl h
  | succ n => exact if_neg h

/-- The columns of p point `t` computes. -/
def colsOf (t : Fin cfg0.N) : FVec F S1x4x256 .f32 :=
  colsAt (grid0.coords t) (scr m c t.val t.isLt).1 (iblk m c 0 t) (iblk m c 1 t) (iblk m c 2 t) (iblk m c 3 t)

theorem colsPoint_lt (t : Fin cfg0.N) (y : S1x4x14336.Idx) : 56 * (t.val / 56) + (y 2).val / 256 < cfg0.N := by
  have hN : cfg0.N = 112 := N_0
  have ht := t.isLt
  have h2 : (y 2).val < 14336 := (y 2).isLt
  omega

/-- An index of p inside the columns of its point. -/
def tileIdx (y : S1x4x14336.Idx) : S1x4x256.Idx
  | ⟨0, _⟩ => ⟨(y 0).val, (y 0).isLt⟩
  | ⟨1, _⟩ => ⟨(y 1).val, (y 1).isLt⟩
  | ⟨2, _⟩ => ⟨(y 2).val % 256, Nat.mod_lt _ (by decide)⟩

/-- The first product of `t`'s batch entry, the columns of its 56 points side by side. -/
def prodOf (t : Fin cfg0.N) : Vec F S1x4x14336 .f32 := fun y =>
  colsOf m c ⟨56 * (t.val / 56) + (y 2).val / 256, colsPoint_lt t y⟩ (tileIdx y)

/-- The invariant before point `n`: inside a batch entry the scratch buffers hold what the points before left. -/
def PhiS : (n : ℕ) → n ≤ cfg0.N → sProp 𝕄
  | 0, _ => Pipeline.ΦA spec0 c
  | n + 1, h => if (n + 1) % 56 = 0 then Pipeline.ΦA spec0 c else
      iprop(iprop(owns (c : Thread nD τ) scM0_0 fullShare (scr m c n h).1 ∗ owns (c : Thread nD τ) scM0_1 fullShare (scr m c n h).2) ∗ (∃ r, prngReg c r))

theorem PhiS_first (n : ℕ) (h : n ≤ cfg0.N) (h0 : n % 56 = 0) : PhiS m c n h = Pipeline.ΦA spec0 c := by
  cases n with
  | zero => rfl
  | succ n => exact if_pos h0

theorem PhiS_later (n : ℕ) (h : n ≤ cfg0.N) (h0 : n % 56 ≠ 0) (h' : n - 1 < cfg0.N) : PhiS m c n h =
    iprop(iprop(owns (c : Thread nD τ) scM0_0 fullShare (scr m c (n - 1) h').1 ∗ owns (c : Thread nD τ) scM0_1 fullShare (scr m c (n - 1) h').2) ∗ (∃ r, prngReg c r)) := by
  cases n with
  | zero => exact absurd rfl h0
  | succ n => exact if_neg h0

/-- What the body may leave in each window's block: the inputs as they were; in p's block its columns, or at the last point of a batch
    entry the orthonormal rows; in q_new's block, at that point, their images. -/
def rafter (w : Fin cfg0.W) (t : Fin cfg0.N) : (Y X : (cfg0.win w).block.Idx → Elt F (cfg0.win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = if t.val % 56 = 55 then outP (prodOf m c t) else setCols (grid0.coords t) (colsOf m c t) Y
  | ⟨6, _⟩ => fun _ X => t.val % 56 = 55 → X = outQ (prodOf m c t) (scr m c t.val t.isLt).2

/-- The proof data. -/
def rdat : RDat τ (Elt F) Unit ℕ (UR sig nD τ) ℕ cfg0 c where
  A w := V m c (Pipeline.arrRef spec0 w)
  after := rafter m c
  Φ t := PhiS m c t.val (Nat.le_of_lt_succ t.isLt)
  q _ := fullShare
  owed _ := 0

/-! ## What the blocks hold when the body is handed them -/

theorem found0 (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
theorem found1 (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
theorem found2 (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
theorem found3 (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl
theorem found4 (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  rfl

theorem coords0 (t : Fin cfg0.N) : (grid0.coords t 0).val = t.val / 56 := by
  have e0 : (grid0.coords t 0).val = t.val / 56 % 2 := Pipeline.Grid.coords_val t 0 (by decide) rfl
  have hN : cfg0.N = 112 := N_0
  have ht := t.isLt
  omega

theorem coords1 (t : Fin cfg0.N) : (grid0.coords t 1).val = t.val % 56 := by
  have e1 : (grid0.coords t 1).val = t.val / 1 % 56 := Pipeline.Grid.coords_val t 1 (by decide) rfl
  omega

/-- A point's columns, of the block after its store; -/
theorem setCols_on (i : grid0.Coords) (w : FVec F S1x4x256 .f32) (Y : Vec F S1x4x14336 .f32) (y : S1x4x14336.Idx)
    (h : (y 2).val / 256 = (i 1).val) :
    setCols i w Y y = w (tileIdx y) := by
  have e : y = (colRect i).emb (tileIdx y) := by
    funext a
    apply Fin.ext
    refine Eq.trans ?_ (Rect.idx_unit_val (s := S1x4x14336) (k0_off65 i) S1x4x256.size (k0_off65_inb i) _ a).symm
    have hk := congrFun (k0_off65_eq i) a
    fin_cases a
    · have hk' : k0_off65 i 0 = 0 := hk
      show (y 0).val = k0_off65 i 0 + (y 0).val; omega
    · have hk' : k0_off65 i 1 = 0 := hk
      show (y 1).val = k0_off65 i 1 + (y 1).val; omega
    · have hk' : k0_off65 i 2 = 256 * (i 1).val := hk
      show (y 2).val = k0_off65 i 2 + (y 2).val % 256; omega
  conv_lhs => rw [e]
  exact Rect.overlay_emb (colRect i) Y w _

/-- the other columns, as they were. -/
theorem setCols_off (i : grid0.Coords) (w : FVec F S1x4x256 .f32) (Y : Vec F S1x4x14336 .f32) (y : S1x4x14336.Idx)
    (h : (y 2).val / 256 ≠ (i 1).val) : setCols i w Y y = Y y := by
  refine Rect.overlay_of_not_mem (colRect i) Y w fun hm => h ?_
  unfold colRect at hm
  rw [Rect.mem_set_unit] at hm
  have h2 := hm 2
  rw [k0_off65_eq] at h2
  have h2' : 256 * (i 1).val ≤ (y 2).val ∧ (y 2).val < 256 * (i 1).val + 256 := h2
  omega

/-- Inside a batch entry p's block holds the columns computed so far. -/
theorem found5 : ∀ (n : ℕ) (t : Fin cfg0.N), t.val % 56 = n → ∀ Y : Vec F S1x4x14336 .f32, (rdat m c).Finds 5 t Y →
    ∀ y : S1x4x14336.Idx, (y 2).val / 256 < n → Y y = prodOf m c t y := by
  intro n
  induction n with
  | zero => intro t _ Y _ y hy; omega
  | succ n ih =>
    intro t ht Y hY y hy
    have hN : cfg0.N = 112 := N_0
    have htl := t.isLt
    have ht0 : t.val ≠ 0 := by omega
    have hp : t.val - 1 < cfg0.N := by omega
    have hf : (cfg0.win 5).fetch t = false := by
      cases e : (cfg0.win 5).fetch t
      · rfl
      · exact absurd e (by simp [Window.fetch])
    rcases ((rdat m c).finds_of_pos hf ht0 Y).mp hY with hfl | ⟨Y', hY', hR⟩
    · rw [flush0_5] at hfl
      have : (t.val - 1) % 56 = 55 := hfl
      omega
    · have hR' : Y = if (t.val - 1) % 56 = 55 then outP (prodOf m c ⟨t.val - 1, hp⟩)
          else setCols (grid0.coords ⟨t.val - 1, hp⟩) (colsOf m c ⟨t.val - 1, hp⟩) Y' := hR
      rw [if_neg (by omega)] at hR'
      rw [hR']
      have hc1 : (grid0.coords (⟨t.val - 1, hp⟩ : Fin cfg0.N) 1).val = (t.val - 1) % 56 := coords1 _
      by_cases e : (y 2).val / 256 = n
      · rw [setCols_on _ _ _ _ (by rw [hc1]; omega)]
        have ex : 56 * (t.val / 56) + (y 2).val / 256 = t.val - 1 := by omega
        unfold prodOf
        simp only [ex]
      · rw [setCols_off _ _ _ _ (by rw [hc1]; omega), ih ⟨t.val - 1, hp⟩ (by simp only; omega) Y' hY' y (by omega)]
        have ex : 56 * ((t.val - 1) / 56) + (y 2).val / 256 = 56 * (t.val / 56) + (y 2).val / 256 := by omega
        unfold prodOf
        simp only [ex]

/-- At the last point of a batch entry, with that point's columns stored, it holds the whole product. -/
theorem found5_last (t : Fin cfg0.N) (ht : t.val % 56 = 55) (Y : Vec F S1x4x14336 .f32) (hY : (rdat m c).Finds 5 t Y) :
    setCols (grid0.coords t) (colsOf m c t) Y = prodOf m c t := by
  funext y
  have hN : cfg0.N = 112 := N_0
  have htl := t.isLt
  have h2 : (y 2).val < 14336 := (y 2).isLt
  by_cases e : (y 2).val / 256 = 55
  · rw [setCols_on _ _ _ _ (by rw [coords1]; omega)]
    have ex : 56 * (t.val / 56) + (y 2).val / 256 = t.val := by omega
    unfold prodOf
    simp only [ex]
  · rw [setCols_off _ _ _ _ (by rw [coords1]; omega)]
    exact found5 m c 55 t ht Y hY y (by omega)

end Cert.KernelIdeal.Gen

end
-- ==== Proof.Left.lean ====
/- What the run of the body at each kind of point leaves in the buffers it stores to, of the proof data's functions. -/
module

public import proofs.«01_k».proof.Proof.Data

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves, of the pieces its run found -/

section Pieces

variable (c : Dev nD) (t : Fin cfg0.N) (d5 : Vec F S1x4x14336 .f32)

/-- A load of the whole block of q; -/
theorem readAt_whole4 (a : Memref sig .tc .vmem S1x4x8192 .f32) (ha : a.IsWhole) (x : Vec F S1x4x8192 .f32) :
    View.readAt (Elt F) a.view (Rect.unit (s := S1x4x8192) ![0, 0, 0] S1x4x8192.size inb_S1x4x8192_S1x4x8192_0_0_0).toLoadRect (ha.unread x) = x := by
  rw [View.readAt_eq_ld, ha.read_unread]
  exact View.ld_unit_lit _ _ (fun a => by fin_cases a <;> rfl)

/-- a store of a whole scratch buffer, read back; -/
theorem canon_whole16 (w : FVec F S16x8192 .f32) (L : List (View.Piece (Elt F) S16x8192 .f32)) :
    View.canon (Val := Elt F) (⟨Rect.unit (s := S16x8192) ![0, 0] S16x8192.size inb_S16x8192_S16x8192_0_0, w⟩ :: L) = w :=
  View.canon_cons_unit_lit _ _ _ (fun a => by fin_cases a <;> rfl)

/-- and read back in blocks of limbs. -/
theorem readCov_limbs (a : Memref sig .tc .vmem S16x8192 .f32) (w : FVec F S16x8192 .f32) :
    (fun n : Fin 64 => a.view.readCov (Val := Elt F) [⟨Rect.unit (s := S16x8192) ![0, 0] S16x8192.size inb_S16x8192_S16x8192_0_0, w⟩]
      (Rect.unit (s := S16x8192) ![0, 128 * n.val] S16x128.size (blkOff_inb n)).toLoadRect) = ldLimbs w := by
  funext n
  rw [View.readCov_eq_canon', canon_whole16]
  rfl

theorem whole16_cover (w : FVec F S16x8192 .f32) (y : S16x8192.Idx) :
    ∃ p ∈ ([⟨Rect.unit (s := S16x8192) ![0, 0] S16x8192.size inb_S16x8192_S16x8192_0_0, w⟩] : List (View.Piece (Elt F) S16x8192 .f32)), y ∈ p.1.set := by
  refine ⟨_, .head _, ?_⟩
  rw [Rect.mem_set_unit]
  intro a
  have := (y a).isLt
  fin_cases a
  · exact ⟨Nat.zero_le _, by show (y 0).val < 0 + 16; have : (y 0).val < 16 := (y 0).isLt; omega⟩
  · exact ⟨Nat.zero_le _, by show (y 1).val < 0 + 8192; have : (y 1).val < 8192 := (y 1).isLt; omega⟩

/-- The first point of a batch entry leaves the limbs of q in the operand of the first product, -/
theorem leftA_ql (h0 : cond0_0 (grid0.coords t)) (h1 : ¬cond0_1 (grid0.coords t)) (f) :
    (scM0_0 : Memref sig .tc .vmem S16x8192 .f32).view.read (Elt F) (scM0_0.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk m c 0 t) (iblk m c 1 t) (iblk m c 2 t) (iblk m c 3 t) (iblk m c 4 t) d5).2.1) = (scrFirst m c t).1 := by
  rw [runA_ql, readAt_whole4, View.read_writes_eq_canon _ _ _ (whole16_cover _), canon_whole16]
  rfl

/-- the second accumulator started from zeros, -/
theorem leftA_z (h0 : cond0_0 (grid0.coords t)) (h1 : ¬cond0_1 (grid0.coords t)) (f) :
    (scM0_1 : Memref sig .tc .vmem S16x8192 .f32).view.read (Elt F) (scM0_1.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk m c 0 t) (iblk m c 1 t) (iblk m c 2 t) (iblk m c 3 t) (iblk m c 4 t) d5).2.2.1) = (scrFirst m c t).2 := by
  rw [runA_z, readAt_whole4, readCov_limbs, rdScale_eq, rdScale_eq, rdCodes_eq, rdCodes_eq, View.read_writes_eq_canon _ _ _ (fun y => piecesZ_cover _ _ _ y 32 le_rfl (col_lt y)), canon_zeros]
  rfl

/-- and p's block with its columns. -/
theorem leftA_p (h0 : cond0_0 (grid0.coords t)) (h1 : ¬cond0_1 (grid0.coords t)) :
    (ms0_5 t).view.read (Elt F) ((ms0_5 t).view.writes (Elt F) ((hs0_5 t).unread d5) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk m c 0 t) (iblk m c 1 t) (iblk m c 2 t) (iblk m c 3 t) (iblk m c 4 t) d5).1)
      = setCols (grid0.coords t) (blockP (accAt (grid0.coords t) (scrFirst m c t).1 (iblk m c 0 t) (iblk m c 1 t) (iblk m c 2 t) (iblk m c 3 t))) d5 := by
  rw [runA_p, readAt_whole4, readCov_limbs, rdScale_eq, rdScale_eq, rdCodes_eq, rdCodes_eq, read_setCols]
  rfl

variable (s : Vec F S16x8192 .f32 × Vec F S16x8192 .f32)

/-- A middle point leaves the second accumulator with its additions; -/
theorem leftB_z (h0 : ¬cond0_0 (grid0.coords t)) (h1 : ¬cond0_1 (grid0.coords t)) (f) :
    (scM0_1 : Memref sig .tc .vmem S16x8192 .f32).view.read (Elt F) (scM0_1.view.writes (Elt F) f (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk m c 0 t) (iblk m c 1 t) (iblk m c 2 t) (iblk m c 3 t) (iblk m c 4 t) d5 s.1 s.2).2.2.1) = (scrNext m c t s).2 := by
  rw [runB_z, rdScale_eq, rdScale_eq, rdCodes_eq, rdCodes_eq, rdLimbs_eq, rdAcc_eq, View.read_writes_eq_canon _ _ _ (fun y => piecesZ_cover _ _ _ y 32 le_rfl (col_lt y))]
  rfl

/-- and p's block with its columns. -/
theorem leftB_p (h0 : ¬cond0_0 (grid0.coords t)) (h1 : ¬cond0_1 (grid0.coords t)) :
    (ms0_5 t).view.read (Elt F) ((ms0_5 t).view.writes (Elt F) ((hs0_5 t).unread d5) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk m c 0 t) (iblk m c 1 t) (iblk m c 2 t) (iblk m c 3 t) (iblk m c 4 t) d5 s.1 s.2).1)
      = setCols (grid0.coords t) (blockP (accAt (grid0.coords t) s.1 (iblk m c 0 t) (iblk m c 1 t) (iblk m c 2 t) (iblk m c 3 t))) d5 := by
  rw [runB_p, rdScale_eq, rdScale_eq, rdCodes_eq, rdCodes_eq, rdLimbs_eq, read_setCols]
  rfl

/-- The last point leaves the orthonormal rows of the whole product in p's block, -/
theorem leftC_p (h0 : ¬cond0_0 (grid0.coords t)) (h1 : cond0_1 (grid0.coords t)) :
    (ms0_5 t).view.read (Elt F) ((ms0_5 t).view.writes (Elt F) ((hs0_5 t).unread d5) (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk m c 0 t) (iblk m c 1 t) (iblk m c 2 t) (iblk m c 3 t) (iblk m c 4 t) d5 s.1 s.2).1)
      = outP (setCols (grid0.coords t) (blockP (accAt (grid0.coords t) s.1 (iblk m c 0 t) (iblk m c 1 t) (iblk m c 2 t) (iblk m c 3 t))) d5) := by
  rw [runC_p, rdScale_eq, rdScale_eq, rdCodes_eq, rdCodes_eq, rdLimbs_eq, rdRowP_eq, read_setCols, read_piecesP]
  rfl

/-- and their images in q_new's. -/
theorem leftC_q (h0 : ¬cond0_0 (grid0.coords t)) (h1 : cond0_1 (grid0.coords t)) (f) :
    (ms0_6 t).view.read (Elt F) ((ms0_6 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) h0 h1 (iblk m c 0 t) (iblk m c 1 t) (iblk m c 2 t) (iblk m c 3 t) (iblk m c 4 t) d5 s.1 s.2).2.1)
      = outQ (setCols (grid0.coords t) (blockP (accAt (grid0.coords t) s.1 (iblk m c 0 t) (iblk m c 1 t) (iblk m c 2 t) (iblk m c 3 t))) d5) (scrNext m c t s).2 := by
  rw [runC_q, rdScale_eq, rdScale_eq, rdCodes_eq, rdCodes_eq, rdLimbs_eq, rdAcc_eq, rdRowP_eq, read_setCols, rdRowZ_eq, View.read_writes_eq_canon _ _ _ (piecesQ_cover _ _)]
  rfl

end Pieces

end Cert.KernelIdeal.Gen

end
-- ==== Proof.KRun.lean ====
/- The ideal kernel's run: the body keeps the proof data's invariant at every point, so every run of the program ends with the
   arguments unchanged and the results at what the proof data say. -/
module

public import proofs.«01_k».proof.Proof.Left

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body obligation hands the body at point `t`, the windows listed, -/
def rPre (c : Dev nD) (t : Fin cfg0.N) (Y5 : Vec F S1x4x14336 .f32) (Y6 : Vec F S1x4x8192 .f32) : sProp 𝕄 :=
  iprop(PhiS m c t.val t.isLt.le ∗ (rdat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare Y5
    ∗ owns (c : Thread nD τ) (ms0_6 t) fullShare Y6)

/-- and what it takes back. -/
def rPost (c : Dev nD) (t : Fin cfg0.N) (Y5 : Vec F S1x4x14336 .f32) (Y6 : Vec F S1x4x8192 .f32) : sProp 𝕄 :=
  iprop(PhiS m c (t.val + 1) t.isLt ∗ (rdat m c).owesAt () t.castSucc
    ∗ (∃ X, ⌜X = iblk m c 0 t⌝ ∗ owns (c : Thread nD τ) (ms0_0 t) fullShare X)
    ∗ (∃ X, ⌜X = iblk m c 1 t⌝ ∗ owns (c : Thread nD τ) (ms0_1 t) fullShare X)
    ∗ (∃ X, ⌜X = iblk m c 2 t⌝ ∗ owns (c : Thread nD τ) (ms0_2 t) fullShare X)
    ∗ (∃ X, ⌜X = iblk m c 3 t⌝ ∗ owns (c : Thread nD τ) (ms0_3 t) fullShare X)
    ∗ (∃ X, ⌜X = iblk m c 4 t⌝ ∗ owns (c : Thread nD τ) (ms0_4 t) fullShare X)
    ∗ (∃ X, ⌜rafter m c 5 t Y5 X⌝ ∗ owns (c : Thread nD τ) (ms0_5 t) fullShare X)
    ∗ (∃ X, ⌜rafter m c 6 t Y6 X⌝ ∗ owns (c : Thread nD τ) (ms0_6 t) fullShare X))

set_option maxHeartbeats 1000000 in
/-- The body at the first point of a batch entry. -/
theorem soundA (c : Dev nD) (t : Fin cfg0.N) (Y5 : Vec F S1x4x14336 .f32) (Y6 : Vec F S1x4x8192 .f32) (h0 : t.val % 56 = 0) (h1 : ¬t.val % 56 = 55) :
    rPre m c t Y5 Y6 ⊢ wp frame (wpE (defs₀ (F := F)) Variants.none c none) Set.univ (bodyAt0 t) (fun _ => rPost m c t Y5 Y6) := by
  have h5 : rafter m c 5 t Y5 (setCols (grid0.coords t) (blockP (accAt (grid0.coords t) (scrFirst m c t).1 (iblk m c 0 t) (iblk m c 1 t) (iblk m c 2 t) (iblk m c 3 t))) Y5) := by
    show _ = ite _ _ _
    rw [if_neg h1]; unfold colsOf; rw [scr_first m c t h0]; rfl
  unfold rPre rPost bodyAt0
  rw [PhiS_first m c _ _ h0, PhiA0_eq, PhiS_later m c (t.val + 1) t.isLt (by omega) t.isLt]
  simp only [Nat.add_sub_cancel, scr_first m c t h0]
  iintro ⟨⟨⟨HS0, HS1⟩, Hg⟩, Ho, H0, H1, H2, H3, H4, H5, H6⟩
  iapply ((runA c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) Y5).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%d6, H6⟩, ⟨%es0, HS0⟩, ⟨%es1, HS1⟩⟩
  isplitl [HS0 HS1 Hg]
  · isplitl [HS0 HS1]
    · isplitl [HS0]
      · unfold owns; iexists _; isplitr
        swap; · iexact HS0
        ipureintro; exact leftA_ql m c t Y5 _ _ _
      unfold owns; iexists _; isplitr
      swap; · iexact HS1
      ipureintro; exact leftA_z m c t Y5 _ _ _
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap
    · unfold owns; iexists _; isplitr
      swap; · iexact H5
      ipureintro; exact leftA_p m c t Y5 _ _
    ipureintro; exact h5
  iexists _; isplitr
  swap; · iexact H6
  ipureintro; exact fun h => absurd h h1

set_option maxHeartbeats 1000000 in
/-- The body at a middle point. -/
theorem soundB (c : Dev nD) (t : Fin cfg0.N) (Y5 : Vec F S1x4x14336 .f32) (Y6 : Vec F S1x4x8192 .f32) (h0 : ¬t.val % 56 = 0) (h1 : ¬t.val % 56 = 55) :
    rPre m c t Y5 Y6 ⊢ wp frame (wpE (defs₀ (F := F)) Variants.none c none) Set.univ (bodyAt0 t) (fun _ => rPost m c t Y5 Y6) := by
  have hp : t.val - 1 < cfg0.N := by have := t.isLt; omega
  have h5 : rafter m c 5 t Y5 (setCols (grid0.coords t) (blockP (accAt (grid0.coords t) (scr m c (t.val - 1) hp).1 (iblk m c 0 t) (iblk m c 1 t) (iblk m c 2 t) (iblk m c 3 t))) Y5) := by
    show _ = ite _ _ _
    rw [if_neg h1]; unfold colsOf; rw [scr_next m c t h0 hp]; rfl
  unfold rPre rPost bodyAt0
  rw [PhiS_later m c t.val _ h0 hp, PhiS_later m c (t.val + 1) t.isLt (by omega) t.isLt]
  simp only [Nat.add_sub_cancel, scr_next m c t h0 hp]
  iintro ⟨⟨⟨HS0, HS1⟩, Hg⟩, Ho, H0, H1, H2, H3, H4, H5, H6⟩
  iapply ((runB c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) Y5 (scr m c (t.val - 1) hp).1 (scr m c (t.val - 1) hp).2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%d6, H6⟩, HS0, ⟨%es1, HS1⟩⟩
  isplitl [HS0 HS1 Hg]
  · isplitl [HS0 HS1]
    · isplitl [HS0]; · iexact HS0
      unfold owns; iexists _; isplitr
      swap; · iexact HS1
      ipureintro; exact leftB_z m c t Y5 _ _ _ _
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap
    · unfold owns; iexists _; isplitr
      swap; · iexact H5
      ipureintro; exact leftB_p m c t Y5 _ _ _
    ipureintro; exact h5
  iexists _; isplitr
  swap; · iexact H6
  ipureintro; exact fun h => absurd h h1

set_option maxHeartbeats 1000000 in
/-- The body at the last point of a batch entry. -/
theorem soundC (c : Dev nD) (t : Fin cfg0.N) (Y5 : Vec F S1x4x14336 .f32) (Y6 : Vec F S1x4x8192 .f32) (h0 : ¬t.val % 56 = 0) (h1 : t.val % 56 = 55)
    (hY : (rdat m c).Finds 5 t Y5) :
    rPre m c t Y5 Y6 ⊢ wp frame (wpE (defs₀ (F := F)) Variants.none c none) Set.univ (bodyAt0 t) (fun _ => rPost m c t Y5 Y6) := by
  have hp : t.val - 1 < cfg0.N := by have := t.isLt; omega
  have hall : setCols (grid0.coords t) (blockP (accAt (grid0.coords t) (scr m c (t.val - 1) hp).1 (iblk m c 0 t) (iblk m c 1 t) (iblk m c 2 t) (iblk m c 3 t))) Y5 = prodOf m c t := by
    rw [← found5_last m c t h1 Y5 hY]; unfold colsOf; rw [scr_next m c t h0 hp]; rfl
  have h5 : rafter m c 5 t Y5 (outP (setCols (grid0.coords t) (blockP (accAt (grid0.coords t) (scr m c (t.val - 1) hp).1 (iblk m c 0 t) (iblk m c 1 t) (iblk m c 2 t) (iblk m c 3 t))) Y5)) := by
    show _ = ite _ _ _
    rw [if_pos h1, hall]
  have h6 : outQ (setCols (grid0.coords t) (blockP (accAt (grid0.coords t) (scr m c (t.val - 1) hp).1 (iblk m c 0 t) (iblk m c 1 t) (iblk m c 2 t) (iblk m c 3 t))) Y5) (scrNext m c t (scr m c (t.val - 1) hp)).2 = outQ (prodOf m c t) (scr m c t.val t.isLt).2 := by
    rw [hall, scr_next m c t h0 hp]
  unfold rPre rPost bodyAt0
  rw [PhiS_later m c t.val _ h0 hp, PhiS_first m c (t.val + 1) t.isLt (by omega), PhiA0_eq]
  iintro ⟨⟨⟨HS0, HS1⟩, Hg⟩, Ho, H0, H1, H2, H3, H4, H5, H6⟩
  iapply ((runC c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) Y5 (scr m c (t.val - 1) hp).1 (scr m c (t.val - 1) hp).2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%f6, H6⟩, HS0, ⟨%es1, HS1⟩⟩
  isplitl [HS0 HS1 Hg]
  · isplitl [HS0 HS1]
    · isplitl [HS0]; · iexists _; iexact HS0
      iexists _; unfold owns; iexists _; isplitr
      swap; · iexact HS1
      ipureintro; rfl
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap
    · unfold owns; iexists _; isplitr
      swap; · iexact H5
      ipureintro; exact leftC_p m c t Y5 _ _ _
    ipureintro; exact h5
  iexists _; isplitr
  swap
  · unfold owns; iexists _; isplitr
    swap; · iexact H6
    ipureintro; exact leftC_q m c t Y5 _ _ _ _
  ipureintro; exact fun _ => h6

/-! ## The run -/

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body keeps the proof data's invariant at every point. -/
theorem body_obligation (c : Dev nD) : (rdat (F := F) m c).BodyObligation (defs₀ (F := F)) Variants.none () Set.univ := fun t Y hY => by
  rw [bigSep_W0, bigSep_W0, defs₀_row]
  have e0 := found0 m c t _ (hY 0)
  have e1 := found1 m c t _ (hY 1)
  have e2 := found2 m c t _ (hY 2)
  have e3 := found3 m c t _ (hY 3)
  have e4 := found4 m c t _ (hY 4)
  rw [e0, e1, e2, e3, e4]
  have key : rPre m c t (Y 5) (Y 6) ⊢ wp frame (wpE (defs₀ (F := F)) Variants.none c none) Set.univ (bodyAt0 t) (fun _ => rPost m c t (Y 5) (Y 6)) := by
    by_cases h0 : t.val % 56 = 0
    · exact soundA m c t _ _ h0 (by omega)
    · by_cases h1 : t.val % 56 = 55
      · exact soundC m c t _ _ h0 h1 (hY 5)
      · exact soundB m c t _ _ h0 h1
  exact triple_restated key rfl .rfl fun _ => .rfl

/-- What the launch hands the region is the invariant before the first point, -/
theorem hin (c : Dev nD) : Pipeline.ΦA spec0 c ⊢ (rdat m c).Φ 0 := by
  rw [show (rdat m c).Φ 0 = PhiS m c 0 (Nat.zero_le _) from rfl, PhiS_first m c 0 _ rfl]

/-- and the invariant after the last gives it back. -/
theorem hout (c : Dev nD) : (rdat m c).Φ (Fin.last cfg0.N) ⊢ Pipeline.ΦA spec0 c := by
  rw [show (rdat m c).Φ (Fin.last cfg0.N) = PhiS m c cfg0.N le_rfl from rfl, PhiS_first m c _ _ (by rw [show cfg0.N = 112 from N_0])]

set_option backward.isDefEq.respectTransparency.types false in
/-- Every run ends, with the arrays as the proof data say and the semaphores at zero. -/
theorem run_main : θ_run defs (onTc (τ := τ) (main (F := F))) (s₀ m ρ)
    (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun _ _ => rfl) (hin := hin m) (hout := hout m)

/-- The arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of_rdat m ρ (fun c => rdat m c) (fun _ _ => rfl) ((θ_run defs _ _).mono (fun _ h => h.1) (run_main m ρ)))
    ((θ_run defs _ _).mono (fun _ h => h.2) (run_main m ρ))

end Cert.KernelIdeal.Gen

end
-- ==== Proof.KValue.lean ====
/- What the two result arrays of the ideal kernel hold after a run. -/
module

public import proofs.«01_k».proof.Proof.KRun
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat RDat Cfg Window)

variable {F : FTy → Type} [FloatOps F]

variable (m : (ℓ : Loc nD τ sig) → Buf (Elt F) ℓ) (ρ : Dev nD → PrngReg) (c : Dev nD)

/-- The last point of batch entry `b`. -/
def lastPt (b : Fin 2) : Fin cfg0.N := ⟨56 * b.val + 55, by rw [show cfg0.N = 112 from N_0]; omega⟩

/-- An index of p inside the block of its batch entry, -/
def rowIdxP (y : S2x4x14336.Idx) : S1x4x14336.Idx
  | ⟨0, _⟩ => ⟨0, Nat.one_pos⟩
  | ⟨1, _⟩ => ⟨(y 1).val, (y 1).isLt⟩
  | ⟨2, _⟩ => ⟨(y 2).val, (y 2).isLt⟩

/-- and an index of q_new. -/
def rowIdxQ (y : S2x4x8192.Idx) : S1x4x8192.Idx
  | ⟨0, _⟩ => ⟨0, Nat.one_pos⟩
  | ⟨1, _⟩ => ⟨(y 1).val, (y 1).isLt⟩
  | ⟨2, _⟩ => ⟨(y 2).val, (y 2).isLt⟩

/-- The first result: for each batch entry the orthonormal rows of its product. -/
def finalP : Vec F S2x4x14336 .f32 := fun y => outP (prodOf m c (lastPt (y 0))) (rowIdxP y)

/-- The second result: the images of those rows. -/
def finalQ : Vec F S2x4x8192 .f32 := fun y =>
  outQ (prodOf m c (lastPt (y 0))) (scr m c (lastPt (y 0)).val (lastPt (y 0)).isLt).2 (rowIdxQ y)

theorem index5 (t : Fin cfg0.N) : win0_5.index t = ![t.val / 56, 0, 0] :=
  (by decide +kernel : ∀ t : Fin grid0.N, win0_5.index t = ![t.val / 56, 0, 0]) t

theorem index6 (t : Fin cfg0.N) : win0_6.index t = ![t.val / 56, 0, 0] :=
  (by decide +kernel : ∀ t : Fin grid0.N, win0_6.index t = ![t.val / 56, 0, 0]) t

theorem lastPt_eq (t : Fin cfg0.N) (h : t.val % 56 = 55) (b : Fin 2) (hb : b.val = t.val / 56) : lastPt b = t := by
  apply Fin.ext
  show 56 * b.val + 55 = t.val
  omega

theorem arr5 (after) (h : ∀ (t : Fin cfg0.N), (cfg0.win 5).flush t = true → (rdat m c).Leaves 5 t (after 5 t)) :
    ((rdat m c).withAfter after).arrAt 5 cfg0.N = finalP m c := by
  refine ((rdat m c).withAfter after).arrAt_eq_of_covers 5 _ (by decide +kernel) fun t hf y => ?_
  obtain ⟨Y, -, hY⟩ := h t hf
  have h55 : t.val % 56 = 55 := (flush0_5 t).mp hf
  have hX : after 5 t = outP (prodOf m c t) := Eq.trans hY (if_pos h55)
  blk_simp
  have e0 : (((win0_5.blk t).view.emb y) 0).val = t.val / 56 := by
    blk_simp [index5]
  have e1 : (((win0_5.blk t).view.emb y) 1).val = (y 1).val := by blk_simp [index5]
  have e2 : (((win0_5.blk t).view.emb y) 2).val = (y 2).val := by blk_simp [index5]
  refine (congrFun hX y).trans ?_
  show _ = outP (prodOf m c (lastPt (((win0_5.blk t).view.emb y) 0))) (rowIdxP ((win0_5.blk t).view.emb y))
  rw [lastPt_eq t h55 _ e0]
  refine congrArg (outP (prodOf m c t)) (funext fun a => Fin.ext ?_)
  match a with
  | ⟨0, _⟩ => exact Nat.lt_one_iff.mp (y 0).isLt
  | ⟨1, _⟩ => exact e1.symm
  | ⟨2, _⟩ => exact e2.symm

theorem arr6 (after) (h : ∀ (t : Fin cfg0.N), (cfg0.win 6).flush t = true → (rdat m c).Leaves 6 t (after 6 t)) :
    ((rdat m c).withAfter after).arrAt 6 cfg0.N = finalQ m c := by
  refine ((rdat m c).withAfter after).arrAt_eq_of_covers 6 _ (by decide +kernel) fun t hf y => ?_
  obtain ⟨Y, -, hY⟩ := h t hf
  have h55 : t.val % 56 = 55 := (flush0_6 t).mp hf
  have hX : after 6 t = outQ (prodOf m c t) (scr m c t.val t.isLt).2 := hY h55
  blk_simp
  have e0 : (((win0_6.blk t).view.emb y) 0).val = t.val / 56 := by
    blk_simp [index6]
  have e1 : (((win0_6.blk t).view.emb y) 1).val = (y 1).val := by blk_simp [index6]
  have e2 : (((win0_6.blk t).view.emb y) 2).val = (y 2).val := by blk_simp [index6]
  refine (congrFun hX y).trans ?_
  show _ = outQ (prodOf m c (lastPt (((win0_6.blk t).view.emb y) 0)))
    (scr m c (lastPt (((win0_6.blk t).view.emb y) 0)).val (lastPt (((win0_6.blk t).view.emb y) 0)).isLt).2 (rowIdxQ ((win0_6.blk t).view.emb y))
  rw [lastPt_eq t h55 _ e0]
  refine congrArg (outQ (prodOf m c t) (scr m c t.val t.isLt).2) (funext fun a => Fin.ext ?_)
  match a with
  | ⟨0, _⟩ => exact Nat.lt_one_iff.mp (y 0).isLt
  | ⟨1, _⟩ => exact e1.symm
  | ⟨2, _⟩ => exact e2.symm

/-- Every run ends with the two results, the arguments unchanged. -/
theorem run_value : θ_run defs (onTc (τ := τ) (main (F := F))) ⟨m, fun _ => 0, ρ⟩ (fun r => (∀ c : Dev nD,
      r.2.mem ((c.tc : Thread nD τ).loc main_v3_0) = finalP m c ∧ r.2.mem ((c.tc : Thread nD τ).loc main_v3_1) = finalQ m c)) :=
  (θ_run defs _ _).mono (fun _ h c =>
    let ⟨after, hL, hA⟩ := Pipeline.RDat.FramePost.exists_exact h.1 c
    ⟨(hA 5).trans (arr5 m c after fun t ht => hL 5 t ht), (hA 6).trans (arr6 m c after fun t ht => hL 6 t ht)⟩) (run_main m ρ)

end Cert.KernelIdeal.Gen

end
-- ==== Proof.TilesAt.lean ====
/- The tile functions of the kernel's body, element by element in the extended reals. -/
module

public import proofs.«01_k».proof.Proof.Tiles
public import Idealize.ShloMosaic.Lib.Pointwise

@[expose] public section

set_option maxRecDepth 16384

noncomputable section

namespace Cert.KernelIdeal.Gen

open Idealize.ShloMosaic Idealize.ShloMosaic.TcCoe

/-- A sum over the columns, tile by tile. -/
theorem sum_tiles {M : Type} [AddCommMonoid M] (f : Fin 8192 → M) :
    ∑ t : Fin 32, ∑ k : Fin 256, f ⟨256 * t.val + k.val, by omega⟩ = ∑ d, f d := by
  rw [← Fintype.sum_prod_type' (f := fun (t : Fin 32) (k : Fin 256) => f ⟨256 * t.val + k.val, by omega⟩)]
  refine Fintype.sum_equiv (finProdFinEquiv (m := 32) (n := 256)) _ _ fun x => congrArg f (Fin.ext ?_)
  show 256 * x.1.val + x.2.val = x.2.val + 256 * x.1.val
  omega

/-- The four blocks at a position: block row `l / 16`, block column `k / 128`. -/
theorem fourBlk_apply (a b c d : FVec Ideal S16x128 .bf16) (l : Fin 32) (k : Fin 256) :
    fourBlk a b c d (ix2 l k) = (![![a, b], ![c, d]] : Fin 2 → Fin 2 → FVec Ideal S16x128 .bf16) ⟨l.val / 16, by omega⟩ ⟨k.val / 128, by omega⟩
      (ix2 ⟨l.val % 16, by omega⟩ ⟨k.val % 128, by omega⟩) := by
  have hl := l.isLt
  have hk := k.isLt
  have key : ∀ (r : Fin 2) (n : Fin 2) (i : Fin 16) (j : Fin 128), l.val = 16 * r.val + i.val → k.val = 128 * n.val + j.val →
      fourBlk a b c d (ix2 l k) = (![![a, b], ![c, d]] : Fin 2 → Fin 2 → FVec Ideal S16x128 .bf16) r n (ix2 i j) := by
    intro r n i j h1 h2
    obtain ⟨l, hl⟩ := l
    obtain ⟨k, hk⟩ := k
    dsimp only at h1 h2
    subst h1 h2
    fin_cases r <;> fin_cases n <;> pointwise [fourBlk] <;> simp <;> rfl
  exact key _ _ _ _ (by dsimp only; omega) (by dsimp only; omega)

/-- The scaled operand of the first product at a position. -/
theorem lhsP_apply (q : Fin 64 → FVec Ideal S16x128 .f32) (s : Fin 2 → Fin 64 → Elt Ideal .f32) (t : ℕ) (ht : t < 32) (l : Fin 32) (k : Fin 256) :
    lhsP q s t ht (ix2 l k) = q ⟨2 * t + k.val / 128, by omega⟩ (ix2 ⟨l.val % 16, by omega⟩ ⟨k.val % 128, by omega⟩)
      * s ⟨l.val / 16, by omega⟩ ⟨2 * t + k.val / 128, by omega⟩ := by
  rw [lhsP, fourBlk_apply]
  have hl := l.isLt
  have hk := k.isLt
  have key : ∀ (r : Fin 2) (n : Fin 2) (i : S16x128.Idx),
      (![![scaledBlk (q ⟨2 * t, by omega⟩) (s 0 ⟨2 * t, by omega⟩), scaledBlk (q ⟨2 * t + 1, by omega⟩) (s 0 ⟨2 * t + 1, by omega⟩)],
        ![scaledBlk (q ⟨2 * t, by omega⟩) (s 1 ⟨2 * t, by omega⟩), scaledBlk (q ⟨2 * t + 1, by omega⟩) (s 1 ⟨2 * t + 1, by omega⟩)]]
        : Fin 2 → Fin 2 → FVec Ideal S16x128 .bf16) r n i = q ⟨2 * t + n.val, by omega⟩ i * s r ⟨2 * t + n.val, by omega⟩ := by
    intro r n i
    fin_cases r <;> fin_cases n <;> rfl
  exact key _ _ _

/-- The product of a tile at a position. -/
theorem prodP_apply {e : FTy} (x : FVec Ideal S32x256 .bf16) (c : FVec Ideal S1x256x256 e) (l : Fin 32) (j : Fin 256) :
    prodP x c (ix2 l j) = ∑ k : Fin 256, x (ix2 l k) * c (ix3 0 j k) := by
  pointwise [prodP]

/-- The first accumulator at a position. -/
theorem accP_apply (q : Fin 64 → FVec Ideal S16x128 .f32) (sg se : Fin 2 → Fin 64 → Elt Ideal .f32) (g : Fin 32 → FVec Ideal S1x256x256 .fp8e5m2)
    (e : Fin 32 → FVec Ideal S1x256x256 .fp8e4m3) (l : Fin 32) (j : Fin 256) (n : ℕ) (h : n ≤ 32) :
    accP q sg se g e n h (ix2 l j) = ∑ t : Fin n, ((∑ k : Fin 256, lhsP q sg t.val (by omega) (ix2 l k) * g ⟨t.val, by omega⟩ (ix3 0 j k))
      + ∑ k : Fin 256, lhsP q se t.val (by omega) (ix2 l k) * e ⟨t.val, by omega⟩ (ix3 0 j k)) := by
  induction n with
  | zero => pointwise [accP]; simp
  | succ n ih =>
    rw [Fin.sum_univ_castSucc]
    show accP q sg se g e n _ (ix2 l j) + prodP _ _ (ix2 l j) + prodP _ _ (ix2 l j) = _
    rw [ih, prodP_apply, prodP_apply, add_assoc]
    rfl

/-- The columns of p at a position, from the accumulator: the diagonal block of its row block, the three limbs summed. -/
theorem rowsP_apply (acc : FVec Ideal S32x256 .f32) (k : Fin 4) (j : Fin 256) :
    rowsP acc (ix2 k j) = acc (ix2 ⟨16 * (j.val / 128) + (8 + k.val), by omega⟩ j) + acc (ix2 ⟨16 * (j.val / 128) + (4 + k.val), by omega⟩ j)
      + acc (ix2 ⟨16 * (j.val / 128) + k.val, by omega⟩ j) := by
  have hj := j.isLt
  have key : ∀ (r : Fin 2) (i : Fin 128), (h : j.val = 128 * r.val + i.val) →
      rowsP acc (ix2 k j) = acc (ix2 ⟨16 * r.val + (8 + k.val), by omega⟩ j) + acc (ix2 ⟨16 * r.val + (4 + k.val), by omega⟩ j)
      + acc (ix2 ⟨16 * r.val + k.val, by omega⟩ j) := by
    intro r i h
    obtain ⟨j, hj⟩ := j
    dsimp only at h
    subst h
    fin_cases r <;> pointwise [rowsP, sumLimbs] <;> simp <;> rfl
  exact key ⟨j.val / 128, by omega⟩ ⟨j.val % 128, by omega⟩ (by dsimp only; omega)

/-- The scaled operand of the second product at a position. -/
theorem lhsZ_apply (p : FVec Ideal S16x256 .f32) (s : Fin 2 → Fin 64 → Elt Ideal .f32) (t : Fin 32) (l : Fin 32) (k : Fin 256) :
    lhsZ p s t (ix2 l k) = p (ix2 ⟨l.val % 16, by omega⟩ k) * s ⟨k.val / 128, by omega⟩ ⟨2 * t.val + l.val / 16, by omega⟩ := by
  have hl := l.isLt
  have hk := k.isLt
  have key : ∀ (r n : Fin 2) (i : Fin 16) (j : Fin 128), l.val = 16 * r.val + i.val → k.val = 128 * n.val + j.val →
      lhsZ p s t (ix2 l k) = p (ix2 i k) * s n ⟨2 * t.val + r.val, by omega⟩ := by
    intro r n i j h1 h2
    rw [lhsZ, fourBlk_apply]
    have e1 : (⟨l.val / 16, by omega⟩ : Fin 2) = r := Fin.ext (by dsimp only; omega)
    have e2 : (⟨k.val / 128, by omega⟩ : Fin 2) = n := Fin.ext (by dsimp only; omega)
    have e3 : (⟨l.val % 16, by omega⟩ : Fin 16) = i := Fin.ext (by dsimp only; omega)
    have e4 : (⟨k.val % 128, by omega⟩ : Fin 128) = j := Fin.ext (by dsimp only; omega)
    rw [e1, e2, e3, e4]
    obtain ⟨k, hk⟩ := k
    dsimp only at h2
    subst h2
    fin_cases r <;> fin_cases n <;> simp <;> pointwise [scaledBlk] <;> rfl
  exact key ⟨l.val / 16, by omega⟩ ⟨k.val / 128, by omega⟩ ⟨l.val % 16, by omega⟩ ⟨k.val % 128, by omega⟩ (by dsimp only; omega) (by dsimp only; omega)

/-- The second product of a tile at a position. -/
theorem prodZ_apply {e : FTy} (x : FVec Ideal S32x256 .bf16) (c : FVec Ideal S1x256x256 e) (l : Fin 32) (j : Fin 256) :
    prodZ x c (ix2 l j) = ∑ k : Fin 256, x (ix2 l k) * c (ix3 0 k j) := by
  pointwise [prodZ]

/-- What a tile of the second accumulator is increased by, at a position. -/
theorem incZ_apply (p : FVec Ideal S16x256 .f32) (sg se : Fin 2 → Fin 64 → Elt Ideal .f32) (g : Fin 32 → FVec Ideal S1x256x256 .fp8e5m2)
    (e : Fin 32 → FVec Ideal S1x256x256 .fp8e4m3) (t : Fin 32) (l : Fin 16) (j : Fin 256) :
    incZ p sg se g e t (ix2 l j) = (∑ k : Fin 256, p (ix2 l k) * sg ⟨k.val / 128, by omega⟩ ⟨2 * t.val + j.val / 128, by omega⟩ * g t (ix3 0 k j))
      + ∑ k : Fin 256, p (ix2 l k) * se ⟨k.val / 128, by omega⟩ ⟨2 * t.val + j.val / 128, by omega⟩ * e t (ix3 0 k j) := by
  have hl := l.isLt
  have hj := j.isLt
  obtain ⟨y, hy⟩ : ∃ y, y = addf (addf (broadcast S32x256 (Scalar.ofBits .f32 0x00000000#32 : Ideal .f32)) (prodZ (lhsZ p sg t) (g t))) (prodZ (lhsZ p se t) (e t)) :=
    ⟨_, rfl⟩
  have Y : ∀ (l' : Fin 32), y (ix2 l' j) = (∑ k : Fin 256, p (ix2 ⟨l'.val % 16, by omega⟩ k) * sg ⟨k.val / 128, by omega⟩ ⟨2 * t.val + l'.val / 16, by omega⟩ * g t (ix3 0 k j))
      + ∑ k : Fin 256, p (ix2 ⟨l'.val % 16, by omega⟩ k) * se ⟨k.val / 128, by omega⟩ ⟨2 * t.val + l'.val / 16, by omega⟩ * e t (ix3 0 k j) := by
    intro l'
    rw [hy]
    show (Ideal.ofBits .f32 0x00000000#32 + prodZ _ _ (ix2 l' j)) + prodZ _ _ (ix2 l' j) = _
    rw [prodZ_apply, prodZ_apply, Ideal.ofBits_zero_f32, zero_add]
    simp only [lhsZ_apply]
  have key : ∀ (r : Fin 2) (i : Fin 128), j.val = 128 * r.val + i.val →
      incZ p sg se g e t (ix2 l j) = y (ix2 ⟨16 * r.val + l.val, by omega⟩ j) := by
    intro r i h
    rw [incZ, ← hy]
    obtain ⟨j, hj⟩ := j
    dsimp only at h
    subst h
    fin_cases r <;> pointwise <;> simp <;> rfl
  rw [key ⟨j.val / 128, by omega⟩ ⟨j.val % 128, by omega⟩ (by dsimp only; omega), Y]
  have e1 : (16 * (j.val / 128) + l.val) % 16 = l.val := by omega
  have e2 : (16 * (j.val / 128) + l.val) / 16 = j.val / 128 := by omega
  simp only [e1, e2]

end Cert.KernelIdeal.Gen

end
-- ==== Proof.Gram.lean ====
/- Orthonormalising four rows of extended reals, and the same steps on a second set of rows: what it gives when every number is
   real. Nothing here mentions a program. -/
module

public import Idealize.ShloMosaic.Lib.Pointwise

@[expose] public section

noncomputable section

namespace Cert.Gram

open Idealize.ShloMosaic

variable {ι κ : Type} [Fintype ι]

/-- The inner product of two rows, -/
def dot (p q : ι → EReal) : EReal := ∑ i, p i * q i
/-- the length of a row, -/
def len (p : ι → EReal) : EReal := Ideal.sqrt (dot p p)
/-- a row divided by a number, -/
def over {α : Type} (p : α → EReal) (n : EReal) : α → EReal := fun i => Ideal.div (p i) n
/-- a row less a multiple of another. -/
def less {α : Type} (q : α → EReal) (d : EReal) (p : α → EReal) : α → EReal := fun i => q i - d * p i

section
variable (p0 p1 p2 p3 : ι → EReal)

/-! The four orthonormal rows, each taken out of the later ones as soon as it is known. -/

def o0 : ι → EReal := over p0 (len p0)
def r1 : ι → EReal := less p1 (dot (o0 p0) p1) (o0 p0)
def a2 : ι → EReal := less p2 (dot (o0 p0) p2) (o0 p0)
def a3 : ι → EReal := less p3 (dot (o0 p0) p3) (o0 p0)
def o1 : ι → EReal := over (r1 p0 p1) (len (r1 p0 p1))
def r2 : ι → EReal := less (a2 p0 p2) (dot (o1 p0 p1) (a2 p0 p2)) (o1 p0 p1)
def b3 : ι → EReal := less (a3 p0 p3) (dot (o1 p0 p1) (a3 p0 p3)) (o1 p0 p1)
def o2 : ι → EReal := over (r2 p0 p1 p2) (len (r2 p0 p1 p2))
def r3 : ι → EReal := less (b3 p0 p1 p3) (dot (o2 p0 p1 p2) (b3 p0 p1 p3)) (o2 p0 p1 p2)
def o3 : ι → EReal := over (r3 p0 p1 p2 p3) (len (r3 p0 p1 p2 p3))

variable (z0 z1 z2 z3 : κ → EReal)

/-! The same steps on the rows `z`. -/

def i0 : κ → EReal := over z0 (len p0)
def i1 : κ → EReal := over (less z1 (dot (o0 p0) p1) (i0 p0 z0)) (len (r1 p0 p1))
def i2 : κ → EReal :=
  over (less (less z2 (dot (o0 p0) p2) (i0 p0 z0)) (dot (o1 p0 p1) (a2 p0 p2)) (i1 p0 p1 z0 z1)) (len (r2 p0 p1 p2))
def i3 : κ → EReal :=
  over (less (less (less z3 (dot (o0 p0) p3) (i0 p0 z0)) (dot (o1 p0 p1) (a3 p0 p3)) (i1 p0 p1 z0 z1))
    (dot (o2 p0 p1 p2) (b3 p0 p1 p3)) (i2 p0 p1 p2 z0 z1 z2)) (len (r3 p0 p1 p2 p3))

end

/-- Row `k` of the four. -/
def orth (p : Fin 4 → ι → EReal) (k : Fin 4) : ι → EReal :=
  ![o0 (p 0), o1 (p 0) (p 1), o2 (p 0) (p 1) (p 2), o3 (p 0) (p 1) (p 2) (p 3)] k

/-- Row `k` of their images. -/
def image (p : Fin 4 → ι → EReal) (z : Fin 4 → κ → EReal) (k : Fin 4) : κ → EReal :=
  ![i0 (p 0) (z 0), i1 (p 0) (p 1) (z 0) (z 1), i2 (p 0) (p 1) (p 2) (z 0) (z 1) (z 2),
    i3 (p 0) (p 1) (p 2) (p 3) (z 0) (z 1) (z 2) (z 3)] k

/-! ## Real numbers -/

/-- A row of reals as extended reals. -/
def re {α : Type} (p : α → ℝ) : α → EReal := fun i => (p i : EReal)

/-- A finite sum of reals is the same real. -/
theorem sum_coe {α : Type} (s : Finset α) (f : α → ℝ) : ∑ i ∈ s, (f i : EReal) = ((∑ i ∈ s, f i : ℝ) : EReal) := by
  induction s using Finset.cons_induction with
  | empty => simp
  | cons a s h ih => rw [Finset.sum_cons, Finset.sum_cons, ih, EReal.coe_add]

/-- The steps in the reals: the inner product, -/
def dotR (p q : ι → ℝ) : ℝ := ∑ i, p i * q i
/-- the quotient by a number, -/
def overR {α : Type} (p : α → ℝ) (n : ℝ) : α → ℝ := fun i => p i * (1 / n)
/-- and the difference. -/
def lessR {α : Type} (q : α → ℝ) (d : ℝ) (p : α → ℝ) : α → ℝ := fun i => q i - d * p i

theorem dot_re (p q : ι → ℝ) : dot (re p) (re q) = (dotR p q : EReal) := by
  rw [dotR, ← sum_coe]
  exact Finset.sum_congr rfl fun i _ => (EReal.coe_mul _ _).symm

theorem len_re (p : ι → ℝ) : len (re p) = ((Real.sqrt (dotR p p) : ℝ) : EReal) := by
  have h : ¬ dotR p p < 0 := not_lt.mpr (Finset.sum_nonneg fun i _ => mul_self_nonneg (p i))
  rw [len, dot_re, Ideal.sqrt_coe, if_neg h]

theorem less_re {α : Type} (q p : α → ℝ) (d : ℝ) : less (re q) (d : EReal) (re p) = re (lessR q d p) := by
  funext i
  show (q i : EReal) - (d : EReal) * (p i : EReal) = ((q i - d * p i : ℝ) : EReal)
  rw [EReal.coe_sub, EReal.coe_mul]

theorem over_re {α : Type} (p : α → ℝ) (n : ℝ) (h : n ≠ 0) : over (re p) (n : EReal) = re (overR p n) := by
  funext i
  show Ideal.div (p i : EReal) (n : EReal) = ((p i * (1 / n) : ℝ) : EReal)
  rw [Ideal.div_coe h, EReal.coe_mul]

/-- A quotient by zero is infinite. -/
theorem div_zero_ne (x : EReal) (r : ℝ) : Ideal.div x 0 ≠ (r : EReal) := by
  unfold Ideal.div
  rw [if_pos rfl]
  split
  · exact (EReal.coe_ne_top r).symm
  · exact (EReal.coe_ne_bot r).symm

/-- A row whose normalisation is real has a real length other than zero, -/
theorem unit_re [Nonempty ι] (p : ι → ℝ) (h : ∀ i, ∃ r : ℝ, over (re p) (len (re p)) i = (r : EReal)) :
    ∃ n : ℝ, n ≠ 0 ∧ len (re p) = (n : EReal) := by
  refine ⟨_, fun h0 => ?_, len_re p⟩
  obtain ⟨r, hr⟩ := h (Classical.arbitrary ι)
  rw [len_re, h0] at hr
  exact div_zero_ne _ r hr

/-- The row `p` times the matrix `M`. -/
def times (p : ι → ℝ) (M : ι → κ → ℝ) : κ → ℝ := fun d => ∑ i, p i * M i d

theorem times_less (q p : ι → ℝ) (d : ℝ) (M : ι → κ → ℝ) : lessR (times q M) d (times p M) = times (lessR q d p) M := by
  funext j
  unfold times lessR
  rw [Finset.mul_sum, ← Finset.sum_sub_distrib]
  exact Finset.sum_congr rfl fun i _ => by ring

theorem times_over (p : ι → ℝ) (n : ℝ) (M : ι → κ → ℝ) : overR (times p M) n = times (overR p n) M := by
  funext j
  unfold times overR
  rw [Finset.sum_mul]
  exact Finset.sum_congr rfl fun i _ => by ring

/-- The steps are linear: where the four rows are real and so are the orthonormal rows made of them, the steps taken on the rows times a
    matrix give the orthonormal rows times that matrix. -/
theorem image_eq [Nonempty ι] (p : Fin 4 → ι → ℝ) (h : ∀ k i, ∃ r : ℝ, orth (fun k => re (p k)) k i = (r : EReal)) :
    ∃ o : Fin 4 → ι → ℝ, (∀ k, orth (fun k => re (p k)) k = re (o k))
      ∧ ∀ (M : ι → κ → ℝ) (k : Fin 4), image (fun k => re (p k)) (fun k => re (times (p k) M)) k = re (times (o k) M) := by
  obtain ⟨n0, hn0, e0⟩ := unit_re (p 0) (h 0)
  obtain ⟨x0, hx0⟩ : ∃ x, x = overR (p 0) n0 := ⟨_, rfl⟩
  obtain ⟨u1, hu1⟩ : ∃ x, x = lessR (p 1) (dotR x0 (p 1)) x0 := ⟨_, rfl⟩
  obtain ⟨u2, hu2⟩ : ∃ x, x = lessR (p 2) (dotR x0 (p 2)) x0 := ⟨_, rfl⟩
  obtain ⟨u3, hu3⟩ : ∃ x, x = lessR (p 3) (dotR x0 (p 3)) x0 := ⟨_, rfl⟩
  have E0 : o0 (re (p 0)) = re x0 := by rw [o0, e0, over_re _ _ hn0, hx0]
  have R1 : r1 (re (p 0)) (re (p 1)) = re u1 := by rw [r1, E0, dot_re, less_re, hu1]
  have A2 : a2 (re (p 0)) (re (p 2)) = re u2 := by rw [a2, E0, dot_re, less_re, hu2]
  have A3 : a3 (re (p 0)) (re (p 3)) = re u3 := by rw [a3, E0, dot_re, less_re, hu3]
  have h1 : ∀ i, ∃ r : ℝ, o1 (re (p 0)) (re (p 1)) i = (r : EReal) := h 1
  simp only [o1, R1] at h1
  obtain ⟨n1, hn1, e1⟩ := unit_re _ h1
  obtain ⟨x1, hx1⟩ : ∃ x, x = overR u1 n1 := ⟨_, rfl⟩
  obtain ⟨v2, hv2⟩ : ∃ x, x = lessR u2 (dotR x1 u2) x1 := ⟨_, rfl⟩
  obtain ⟨v3, hv3⟩ : ∃ x, x = lessR u3 (dotR x1 u3) x1 := ⟨_, rfl⟩
  have E1 : o1 (re (p 0)) (re (p 1)) = re x1 := by rw [o1, R1, e1, over_re _ _ hn1, hx1]
  have R2 : r2 (re (p 0)) (re (p 1)) (re (p 2)) = re v2 := by rw [r2, A2, E1, dot_re, less_re, hv2]
  have B3 : b3 (re (p 0)) (re (p 1)) (re (p 3)) = re v3 := by rw [b3, A3, E1, dot_re, less_re, hv3]
  have h2 : ∀ i, ∃ r : ℝ, o2 (re (p 0)) (re (p 1)) (re (p 2)) i = (r : EReal) := h 2
  simp only [o2, R2] at h2
  obtain ⟨n2, hn2, e2⟩ := unit_re _ h2
  obtain ⟨x2, hx2⟩ : ∃ x, x = overR v2 n2 := ⟨_, rfl⟩
  obtain ⟨w3, hw3⟩ : ∃ x, x = lessR v3 (dotR x2 v3) x2 := ⟨_, rfl⟩
  have E2 : o2 (re (p 0)) (re (p 1)) (re (p 2)) = re x2 := by rw [o2, R2, e2, over_re _ _ hn2, hx2]
  have R3 : r3 (re (p 0)) (re (p 1)) (re (p 2)) (re (p 3)) = re w3 := by rw [r3, B3, E2, dot_re, less_re, hw3]
  have h3 : ∀ i, ∃ r : ℝ, o3 (re (p 0)) (re (p 1)) (re (p 2)) (re (p 3)) i = (r : EReal) := h 3
  simp only [o3, R3] at h3
  obtain ⟨n3, hn3, e3⟩ := unit_re _ h3
  obtain ⟨x3, hx3⟩ : ∃ x, x = overR w3 n3 := ⟨_, rfl⟩
  have E3 : o3 (re (p 0)) (re (p 1)) (re (p 2)) (re (p 3)) = re x3 := by rw [o3, R3, e3, over_re _ _ hn3, hx3]
  refine ⟨![x0, x1, x2, x3], fun k => ?_, fun M k => ?_⟩
  · fin_cases k
    · exact E0
    · exact E1
    · exact E2
    · exact E3
  · have I0 : i0 (re (p 0)) (re (times (p 0) M)) = re (times x0 M) := by rw [i0, e0, over_re _ _ hn0, times_over, hx0]
    have I1 : i1 (re (p 0)) (re (p 1)) (re (times (p 0) M)) (re (times (p 1) M)) = re (times x1 M) := by
      rw [i1, I0, E0, dot_re, less_re, R1, e1, over_re _ _ hn1, times_less, ← hu1, times_over, ← hx1]
    have I2 : i2 (re (p 0)) (re (p 1)) (re (p 2)) (re (times (p 0) M)) (re (times (p 1) M)) (re (times (p 2) M))
        = re (times x2 M) := by
      rw [i2, I1, I0, E0, E1, A2, dot_re, dot_re, less_re, times_less, ← hu2, less_re, times_less, ← hv2, R2, e2,
        over_re _ _ hn2, times_over, ← hx2]
    have I3 : i3 (re (p 0)) (re (p 1)) (re (p 2)) (re (p 3)) (re (times (p 0) M)) (re (times (p 1) M)) (re (times (p 2) M))
        (re (times (p 3) M)) = re (times x3 M) := by
      rw [i3, I2, I1, I0, E0, E1, E2, A3, B3, dot_re, dot_re, dot_re, less_re, times_less, ← hu3, less_re, times_less, ← hv3,
        less_re, times_less, ← hw3, R3, e3, over_re _ _ hn3, times_over, ← hx3]
    fin_cases k
    · exact I0
    · exact I1
    · exact I2
    · exact I3

/-! ## The matrix and its product with q -/

section Reals

variable (gs es : Fin 2 → Fin 112 → Fin 64 → ℝ) (g e : Fin 2 → Fin 14336 → Fin 8192 → ℝ) (q : Fin 2 → Fin 4 → Fin 8192 → ℝ)

/-- The matrix: the gradient codes times their scales plus the error codes times theirs. -/
def matM (b : Fin 2) (s : Fin 14336) (d : Fin 8192) : ℝ :=
  g b s d * gs b ⟨s.val / 128, by omega⟩ ⟨d.val / 128, by omega⟩ + e b s d * es b ⟨s.val / 128, by omega⟩ ⟨d.val / 128, by omega⟩

/-- The first product, one row for each column of q. -/
def matP (b : Fin 2) (k : Fin 4) (s : Fin 14336) : ℝ := ∑ d, q b k d * matM gs es g e b s d

end Reals

end Cert.Gram

end
-- ==== Proof.PointAt.lean ====
/- The work of a grid point, element by element in the extended reals, where the blocks it is given hold real numbers. -/
module

public import proofs.«01_k».proof.Proof.Point
public import proofs.«01_k».proof.Proof.TilesAt
public import proofs.«01_k».proof.Proof.Gram

@[expose] public section

set_option maxRecDepth 16384

noncomputable section

namespace Cert.KernelIdeal.Gen

open Idealize.ShloMosaic Idealize.ShloMosaic.TcCoe

/-! ## The loads at a position -/

theorem coord0_lt (i : grid0.Coords) : (i 0).val < 2 := (i 0).isLt
theorem coord1_lt (i : grid0.Coords) : (i 1).val < 56 := (i 1).isLt

theorem ldScale_apply (i : grid0.Coords) (x : Vec Ideal S2x112x64 .f32) (r : Fin 2) (n : Fin 64) (b : Fin 2) (v : Fin 112)
    (hb : b.val = (i 0).val) (hv : v.val = 2 * (i 1).val + r.val) : ldScale i x r n = x (ix3 b v n) := by
  refine congrArg x (funext fun a => Fin.ext ?_)
  refine (Rect.idx_unit_val _ _ _ _ a).trans ?_
  have h := congrFun (scaleOff_eq i r n.val) a
  fin_cases a
  · have h' : scaleOff i (BitVec.ofNat 32 r.val) n.val 0 = (i 0).val := h
    show scaleOff i (BitVec.ofNat 32 r.val) n.val 0 + 0 = b.val; omega
  · have h' : scaleOff i (BitVec.ofNat 32 r.val) n.val 1 = 2 * (i 1).val + r.val := h
    show scaleOff i (BitVec.ofNat 32 r.val) n.val 1 + 0 = v.val; omega
  · rfl

theorem ldCodes_apply {e : EltTy} (x : Vec Ideal S1x256x8192 e) (t : Fin 32) (j k : Fin 256) :
    ldCodes x t (ix3 0 j k) = x (ix3 0 j ⟨256 * t.val + k.val, by omega⟩) := by
  refine congrArg x (funext fun a => Fin.ext ?_)
  refine (Rect.idx_unit_val _ _ _ _ a).trans ?_
  fin_cases a
  · rfl
  · exact Nat.zero_add _
  · rfl

theorem ldLimbs_apply (x : Vec Ideal S16x8192 .f32) (n : Fin 64) (l : Fin 16) (k : Fin 128) :
    ldLimbs x n (ix2 l k) = x (ix2 l ⟨128 * n.val + k.val, by omega⟩) := by
  refine congrArg x (funext fun a => Fin.ext ?_)
  refine (Rect.idx_unit_val _ _ _ _ a).trans ?_
  fin_cases a
  · exact Nat.zero_add _
  · rfl

theorem ldAcc_apply (x : Vec Ideal S16x8192 .f32) (t : Fin 32) (l : Fin 16) (k : Fin 256) :
    ldAcc x t (ix2 l k) = x (ix2 l ⟨256 * t.val + k.val, by omega⟩) := by
  refine congrArg x (funext fun a => Fin.ext ?_)
  refine (Rect.idx_unit_val _ _ _ _ a).trans ?_
  fin_cases a
  · exact Nat.zero_add _
  · rfl

/-! ## The limbs of a real operand

A number is split into itself and two remainders, which are zero where the number is real. -/

/-- Row `l` of the 16-row operand made of four rows: the rows, then zeros. -/
def limb {α : Type} (q : Fin 4 → α → ℝ) (l : Fin 16) (d : α) : ℝ := if h : l.val < 4 then q ⟨l.val, h⟩ d else 0

theorem coe_sub_self (x : ℝ) : (x : EReal) - (x : EReal) = 0 := by rw [← EReal.coe_sub, sub_self, EReal.coe_zero]

theorem limbsQ_apply (Q : Vec Ideal S1x4x8192 .f32) (q : Fin 4 → Fin 8192 → ℝ) (hQ : ∀ k d, Q (ix3 0 k d) = ((q k d : ℝ) : EReal)) (l : Fin 16) (d : Fin 8192) :
    k0_pay43 Q (ix2 l d) = ((limb q l d : ℝ) : EReal) := by
  fin_cases l <;> pointwise [k0_pay43] <;> simp [limb, hQ, coe_sub_self]

theorem limbsP_apply (X : FVec Ideal S4x256 .f32) (p : Fin 4 → Fin 256 → ℝ) (hX : ∀ k j, X (ix2 k j) = ((p k j : ℝ) : EReal)) (l : Fin 16) (j : Fin 256) :
    k0_pay198 X (ix2 l j) = ((limb p l j : ℝ) : EReal) := by
  fin_cases l <;> pointwise [k0_pay198] <;> simp [limb, hX, coe_sub_self]

/-! ## The two products at a point -/

section Products

variable (i : grid0.Coords) (ql : Vec Ideal S16x8192 .f32) (x0 x1 : Vec Ideal S2x112x64 .f32) (x2 : Vec Ideal S1x256x8192 .fp8e5m2) (x3 : Vec Ideal S1x256x8192 .fp8e4m3)

/-- The scaled sum of the two codes at a position of the point's rows, from the point's scales and codes. -/
def mix (sg se : Fin 2 → Fin 64 → ℝ) (g e : Fin 256 → Fin 8192 → ℝ) (j : Fin 256) (d : Fin 8192) : ℝ :=
  g j d * sg ⟨j.val / 128, by omega⟩ ⟨d.val / 128, by omega⟩ + e j d * se ⟨j.val / 128, by omega⟩ ⟨d.val / 128, by omega⟩

variable (q : Fin 4 → Fin 8192 → ℝ) (sg se : Fin 2 → Fin 64 → ℝ) (g e : Fin 256 → Fin 8192 → ℝ)
  (hq : ∀ l d, ql (ix2 l d) = ((limb q l d : ℝ) : EReal))
  (hg : ∀ r n, ldScale i x0 r n = ((sg r n : ℝ) : EReal)) (he : ∀ r n, ldScale i x1 r n = ((se r n : ℝ) : EReal))
  (h2 : ∀ j d, x2 (ix3 0 j d) = ((g j d : ℝ) : EReal)) (h3 : ∀ j d, x3 (ix3 0 j d) = ((e j d : ℝ) : EReal))

include hq hg he h2 h3

/-- The first accumulator on its diagonal blocks: the operand's row times the scaled codes. -/
theorem accAt_apply (l : Fin 16) (j : Fin 256) (v : Fin 32) (hv : v.val = 16 * (j.val / 128) + l.val) :
    accAt i ql x0 x1 x2 x3 (ix2 v j) = ((∑ d, limb q l d * mix sg se g e j d : ℝ) : EReal) := by
  have hl := l.isLt
  have hj := j.isLt
  have e1 : (⟨v.val % 16, Nat.mod_lt _ (by decide)⟩ : Fin 16) = l := Fin.ext (by dsimp only; omega)
  have e2 : (⟨v.val / 16, by omega⟩ : Fin 2) = ⟨j.val / 128, by omega⟩ := Fin.ext (by dsimp only; omega)
  rw [accAt, accP_apply, ← sum_tiles (M := ℝ), ← Cert.Gram.sum_coe]
  refine Finset.sum_congr rfl fun t _ => ?_
  rw [← Finset.sum_add_distrib, ← Cert.Gram.sum_coe]
  refine Finset.sum_congr rfl fun k _ => ?_
  have ht := t.isLt
  have hk := k.isLt
  rw [lhsP_apply, lhsP_apply, ldLimbs_apply, ldCodes_apply, ldCodes_apply, h2, h3, hg, he, hq, e1, e2]
  have e3 : (⟨128 * (2 * t.val + k.val / 128) + k.val % 128, by omega⟩ : Fin 8192) = ⟨256 * t.val + k.val, by omega⟩ := Fin.ext (by dsimp only; omega)
  have e4 : (⟨(256 * t.val + k.val) / 128, by omega⟩ : Fin 64) = ⟨2 * t.val + k.val / 128, by omega⟩ := Fin.ext (by dsimp only; omega)
  simp only [e3, mix, e4]
  rw [← EReal.coe_mul, ← EReal.coe_mul, ← EReal.coe_mul, ← EReal.coe_mul, ← EReal.coe_add]
  exact congrArg _ (by ring)

/-- The columns of p the point computes. -/
theorem rowsAt_apply (k : Fin 4) (j : Fin 256) :
    rowsP (accAt i ql x0 x1 x2 x3) (ix2 k j) = ((∑ d, q k d * mix sg se g e j d : ℝ) : EReal) := by
  have hk := k.isLt
  have hj := j.isLt
  rw [rowsP_apply, accAt_apply i ql x0 x1 x2 x3 q sg se g e hq hg he h2 h3 ⟨8 + k.val, by omega⟩ j _ rfl,
    accAt_apply i ql x0 x1 x2 x3 q sg se g e hq hg he h2 h3 ⟨4 + k.val, by omega⟩ j _ rfl,
    accAt_apply i ql x0 x1 x2 x3 q sg se g e hq hg he h2 h3 ⟨k.val, by omega⟩ j _ rfl]
  have z8 : ∀ d, limb q ⟨8 + k.val, by omega⟩ d = 0 := fun d => dif_neg (by dsimp only; omega)
  have z4 : ∀ d, limb q ⟨4 + k.val, by omega⟩ d = 0 := fun d => dif_neg (by dsimp only; omega)
  have z0 : ∀ d, limb q ⟨k.val, by omega⟩ d = q k d := fun d => dif_pos hk
  simp only [z8, z4, z0, zero_mul, Finset.sum_const_zero, EReal.coe_zero, zero_add]

/-- What the point adds to the second accumulator: its columns of p times its scaled codes. -/
theorem incAt_apply (t : Fin 32) (l : Fin 16) (j : Fin 256) :
    incAt i ql x0 x1 x2 x3 t (ix2 l j)
      = ((∑ r, limb (fun k r => ∑ d, q k d * mix sg se g e r d) l r * mix sg se g e r ⟨256 * t.val + j.val, by omega⟩ : ℝ) : EReal) := by
  have ht := t.isLt
  have hj := j.isLt
  rw [incAt, incZ_apply, ← Finset.sum_add_distrib, ← Cert.Gram.sum_coe]
  refine Finset.sum_congr rfl fun r _ => ?_
  rw [limbsP_apply _ _ (rowsAt_apply i ql x0 x1 x2 x3 q sg se g e hq hg he h2 h3), ldCodes_apply, ldCodes_apply, h2, h3, hg, he]
  have e4 : (⟨(256 * t.val + j.val) / 128, by omega⟩ : Fin 64) = ⟨2 * t.val + j.val / 128, by omega⟩ := Fin.ext (by dsimp only; omega)
  simp only [mix, e4]
  rw [← EReal.coe_mul, ← EReal.coe_mul, ← EReal.coe_mul, ← EReal.coe_mul, ← EReal.coe_add]
  exact congrArg _ (by ring)

end Products

/-- A tile of the second accumulator after the point's additions. -/
theorem canon_piecesZ_apply (inc : Fin 32 → FVec Ideal S16x256 .f32) (z : Vec Ideal S16x8192 .f32) (l : Fin 16) (t : Fin 32) (j : Fin 256) :
    ∀ n (h : n ≤ 32), t.val < n → View.canon (Val := Elt Ideal) (piecesZ inc (fun _ => ldAcc z) [] n h) (ix2 l ⟨256 * t.val + j.val, by omega⟩)
      = z (ix2 l ⟨256 * t.val + j.val, by omega⟩) + inc t (ix2 l j) := by
  have ht := t.isLt
  have hj := j.isLt
  intro n
  induction n with
  | zero => intro _ h; omega
  | succ n ih =>
    intro h hn
    by_cases e : t.val = n
    · subst e
      have ex : (ix2 l ⟨256 * t.val + j.val, by omega⟩ : S16x8192.Idx)
          = (Rect.unit (s := S16x8192) ![0, 256 * t.val] S16x256.size (zOff_inb t)).emb (ix2 l j) := by
        funext a
        apply Fin.ext
        refine Eq.trans ?_ (Rect.idx_unit_val _ _ _ _ a).symm
        fin_cases a
        · exact (Nat.zero_add _).symm
        · rfl
      rw [ex]
      refine (View.canon_cons_emb (Val := Elt Ideal) _ _ _ _).trans ?_
      rw [← ex, ← ldAcc_apply z t l j]
      pointwise [newZ]
    · refine (canon_tile_off ⟨n, h⟩ _ _ _ ?_).trans (ih (by omega) (by omega))
      show (256 * t.val + j.val) / 256 ≠ n
      omega

theorem zNext_apply (inc : Fin 32 → FVec Ideal S16x256 .f32) (z : Vec Ideal S16x8192 .f32) (l : Fin 16) (d : Fin 8192) :
    zNext inc z (ix2 l d) = z (ix2 l d) + inc ⟨d.val / 256, by omega⟩ (ix2 l ⟨d.val % 256, by omega⟩) := by
  have hd := d.isLt
  have e : (⟨256 * (d.val / 256) + d.val % 256, by omega⟩ : Fin 8192) = d := Fin.ext (by dsimp only; omega)
  have h := canon_piecesZ_apply inc z l ⟨d.val / 256, by omega⟩ ⟨d.val % 256, by omega⟩ 32 le_rfl (by dsimp only; omega)
  simp only [e] at h
  exact h

end Cert.KernelIdeal.Gen

end
-- ==== Proof.Sums.lean ====
/- The ideal kernel's two products in real numbers: what the scratch buffers and the columns of p hold at each grid point, where the
   arrays the pipeline reads hold real numbers. -/
module

public import proofs.«01_k».proof.Proof.KValue
public import proofs.«01_k».proof.Proof.PointAt

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat RDat Cfg Window)
open Cert.Gram (matM matP)

/-- A sum over the rows, point by point. -/
theorem sum_rows (f : Fin 14336 → ℝ) : ∑ i : Fin 56, ∑ r : Fin 256, f ⟨256 * i.val + r.val, by omega⟩ = ∑ s, f s := by
  rw [← Fintype.sum_prod_type' (f := fun (i : Fin 56) (r : Fin 256) => f ⟨256 * i.val + r.val, by omega⟩)]
  refine Fintype.sum_equiv (finProdFinEquiv (m := 56) (n := 256)) _ _ fun x => congrArg f (Fin.ext ?_)
  show 256 * x.1.val + x.2.val = x.2.val + 256 * x.1.val
  omega

/-! ## The blocks of a point -/

section

variable (m : (ℓ : Loc nD τ sig) → Buf (Elt Ideal) ℓ) (c : Dev nD)

theorem index0 (t : Fin cfg0.N) : win0_0.index t = ![0, 0, 0] := (by decide +kernel : ∀ t : Fin grid0.N, win0_0.index t = ![0, 0, 0]) t
theorem index1 (t : Fin cfg0.N) : win0_1.index t = ![0, 0, 0] := (by decide +kernel : ∀ t : Fin grid0.N, win0_1.index t = ![0, 0, 0]) t
theorem index2 (t : Fin cfg0.N) : win0_2.index t = ![t.val / 56, t.val % 56, 0] :=
  (by decide +kernel : ∀ t : Fin grid0.N, win0_2.index t = ![t.val / 56, t.val % 56, 0]) t
theorem index3 (t : Fin cfg0.N) : win0_3.index t = ![t.val / 56, t.val % 56, 0] :=
  (by decide +kernel : ∀ t : Fin grid0.N, win0_3.index t = ![t.val / 56, t.val % 56, 0]) t
theorem index4 (t : Fin cfg0.N) : win0_4.index t = ![t.val / 56, 0, 0] :=
  (by decide +kernel : ∀ t : Fin grid0.N, win0_4.index t = ![t.val / 56, 0, 0]) t

theorem iblk0_apply (t : Fin cfg0.N) (b : Fin 2) (v : Fin 112) (n : Fin 64) : iblk m c 0 t (ix3 b v n) = V m c main_arg1 (ix3 b v n) := by
  blk_ext [iblk, index0 t]

theorem iblk1_apply (t : Fin cfg0.N) (b : Fin 2) (v : Fin 112) (n : Fin 64) : iblk m c 1 t (ix3 b v n) = V m c main_arg3 (ix3 b v n) := by
  blk_ext [iblk, index1 t]

theorem iblk2_apply (t : Fin cfg0.N) (j : Fin 256) (d : Fin 8192) (b : Fin 2) (s : Fin 14336) (hb : b.val = t.val / 56)
    (hs : s.val = 256 * (t.val % 56) + j.val) : iblk m c 2 t (ix3 0 j d) = V m c main_v0 (ix3 b s d) := by
  blk_ext [iblk, index2 t]

theorem iblk3_apply (t : Fin cfg0.N) (j : Fin 256) (d : Fin 8192) (b : Fin 2) (s : Fin 14336) (hb : b.val = t.val / 56)
    (hs : s.val = 256 * (t.val % 56) + j.val) : iblk m c 3 t (ix3 0 j d) = V m c main_v1 (ix3 b s d) := by
  blk_ext [iblk, index3 t]

theorem iblk4_apply (t : Fin cfg0.N) (k : Fin 4) (d : Fin 8192) (b : Fin 2) (hb : b.val = t.val / 56) :
    iblk m c 4 t (ix3 0 k d) = V m c main_v2 (ix3 b k d) := by
  blk_ext [iblk, index4 t]

/-! ## The points' work -/

variable (gs es : Fin 2 → Fin 112 → Fin 64 → ℝ) (g e : Fin 2 → Fin 14336 → Fin 8192 → ℝ) (q : Fin 2 → Fin 4 → Fin 8192 → ℝ)

/-- The arrays the pipeline reads hold the given reals. -/
structure Holds : Prop where
  gs : ∀ b v n, V m c main_arg1 (ix3 b v n) = ((gs b v n : ℝ) : EReal)
  es : ∀ b v n, V m c main_arg3 (ix3 b v n) = ((es b v n : ℝ) : EReal)
  g : ∀ b s d, V m c main_v0 (ix3 b s d) = ((g b s d : ℝ) : EReal)
  e : ∀ b s d, V m c main_v1 (ix3 b s d) = ((e b s d : ℝ) : EReal)
  q : ∀ b k d, V m c main_v2 (ix3 b k d) = ((q b k d : ℝ) : EReal)

/-- The batch entry of a point, -/
def bOf (t : Fin cfg0.N) : Fin 2 := ⟨t.val / 56, by have h := t.isLt; have hN : cfg0.N = 112 := N_0; omega⟩
/-- the row of its matrix at a row of the point, -/
def sOf (t : Fin cfg0.N) (j : Fin 256) : Fin 14336 := ⟨256 * (t.val % 56) + j.val, by omega⟩
/-- and the row block. -/
def vOf (t : Fin cfg0.N) (r : Fin 2) : Fin 112 := ⟨2 * (t.val % 56) + r.val, by omega⟩

/-- The point's scaled codes are the rows of the matrix. -/
theorem mix_eq (t : Fin cfg0.N) (j : Fin 256) (d : Fin 8192) :
    mix (fun r n => gs (bOf t) (vOf t r) n) (fun r n => es (bOf t) (vOf t r) n) (fun j d => g (bOf t) (sOf t j) d) (fun j d => e (bOf t) (sOf t j) d) j d
      = matM gs es g e (bOf t) (sOf t j) d := by
  have hj := j.isLt
  have h : (⟨(sOf t j).val / 128, by omega⟩ : Fin 112) = vOf t ⟨j.val / 128, by omega⟩ :=
    Fin.ext (by show (256 * (t.val % 56) + j.val) / 128 = 2 * (t.val % 56) + j.val / 128; omega)
  unfold mix matM
  rw [h]

variable (H : Holds m c gs es g e q)
include H

theorem scaleG (t : Fin cfg0.N) (r : Fin 2) (n : Fin 64) :
    ldScale (grid0.coords t) (iblk m c 0 t) r n = ((gs (bOf t) (vOf t r) n : ℝ) : EReal) := by
  rw [ldScale_apply _ _ r n (bOf t) (vOf t r) (coords0 t).symm (by rw [coords1]; rfl), iblk0_apply, H.gs]

theorem scaleE (t : Fin cfg0.N) (r : Fin 2) (n : Fin 64) :
    ldScale (grid0.coords t) (iblk m c 1 t) r n = ((es (bOf t) (vOf t r) n : ℝ) : EReal) := by
  rw [ldScale_apply _ _ r n (bOf t) (vOf t r) (coords0 t).symm (by rw [coords1]; rfl), iblk1_apply, H.es]

theorem codesG (t : Fin cfg0.N) (j : Fin 256) (d : Fin 8192) : iblk m c 2 t (ix3 0 j d) = ((g (bOf t) (sOf t j) d : ℝ) : EReal) := by
  rw [iblk2_apply m c t j d (bOf t) (sOf t j) rfl rfl, H.g]

theorem codesE (t : Fin cfg0.N) (j : Fin 256) (d : Fin 8192) : iblk m c 3 t (ix3 0 j d) = ((e (bOf t) (sOf t j) d : ℝ) : EReal) := by
  rw [iblk3_apply m c t j d (bOf t) (sOf t j) rfl rfl, H.e]

/-- The limbs of q, at the first point of a batch entry. -/
theorem limbsQ_first (t : Fin cfg0.N) (l : Fin 16) (d : Fin 8192) : k0_pay43 (iblk m c 4 t) (ix2 l d) = ((limb (q (bOf t)) l d : ℝ) : EReal) :=
  limbsQ_apply _ _ (fun k d => by rw [iblk4_apply m c t k d (bOf t) rfl, H.q]) l d

/-- What a point adds to the second accumulator. -/
def addR (b : Fin 2) (i : Fin 56) (l : Fin 16) (d : Fin 8192) : ℝ :=
  ∑ r : Fin 256, limb (matP gs es g e q b) l ⟨256 * i.val + r.val, by omega⟩ * matM gs es g e b ⟨256 * i.val + r.val, by omega⟩ d

theorem zNext_point (t : Fin cfg0.N) (ql z : Vec Ideal S16x8192 .f32) (hq : ∀ l d, ql (ix2 l d) = ((limb (q (bOf t)) l d : ℝ) : EReal))
    (l : Fin 16) (d : Fin 8192) :
    zNext (incAt (grid0.coords t) ql (iblk m c 0 t) (iblk m c 1 t) (iblk m c 2 t) (iblk m c 3 t)) z (ix2 l d)
      = z (ix2 l d) + ((addR gs es g e q (bOf t) ⟨t.val % 56, Nat.mod_lt _ (by decide)⟩ l d : ℝ) : EReal) := by
  have hd := d.isLt
  have ed : (⟨256 * (d.val / 256) + d.val % 256, by omega⟩ : Fin 8192) = d := Fin.ext (by dsimp only; omega)
  rw [zNext_apply, incAt_apply _ _ _ _ _ _ _ _ _ _ _ hq (scaleG m c gs es g e q H t) (scaleE m c gs es g e q H t)
    (codesG m c gs es g e q H t) (codesE m c gs es g e q H t)]
  simp only [mix_eq, ed]
  refine congrArg (fun x : ℝ => z (ix2 l d) + (x : EReal)) (Finset.sum_congr rfl fun r _ => ?_)
  have hl : limb (fun k r => ∑ d, q (bOf t) k d * matM gs es g e (bOf t) (sOf t r) d) l r = limb (matP gs es g e q (bOf t)) l (sOf t r) := by
    unfold limb matP; rfl
  rw [hl]
  rfl

/-- The scratch buffers after a point: the limbs of q, and the second product over the rows so far. -/
theorem scr_apply : ∀ (n : ℕ) (hn : n < 56) (t : Fin cfg0.N), t.val % 56 = n →
    (∀ l d, (scr m c t.val t.isLt).1 (ix2 l d) = ((limb (q (bOf t)) l d : ℝ) : EReal)) ∧
    ∀ l d, (scr m c t.val t.isLt).2 (ix2 l d)
      = ((∑ i : Fin (n + 1), addR gs es g e q (bOf t) ⟨i.val, by omega⟩ l d : ℝ) : EReal) := by
  intro n
  induction n with
  | zero =>
    intro hn t ht
    rw [scr_first m c t ht, scrFirst]
    refine ⟨limbsQ_first m c gs es g e q H t, fun l d => ?_⟩
    refine (zNext_point m c gs es g e q H t _ _ (limbsQ_first m c gs es g e q H t) l d).trans ?_
    have z : (k0_pay44 (F := Ideal)) (ix2 l d) = 0 := by pointwise [k0_pay44]
    rw [z, zero_add]
    refine congrArg _ ?_
    simp only [ht]
    exact (Fin.sum_univ_one fun i : Fin 1 => addR gs es g e q (bOf t) ⟨i.val, by omega⟩ l d).symm
  | succ n ih =>
    intro hn t ht
    have hN : cfg0.N = 112 := N_0
    have htl := t.isLt
    have hp : t.val - 1 < cfg0.N := by omega
    obtain ⟨h1, h2⟩ := ih (by omega) ⟨t.val - 1, hp⟩ (by dsimp only; omega)
    have eb : bOf ⟨t.val - 1, hp⟩ = bOf t := Fin.ext (by show (t.val - 1) / 56 = t.val / 56; omega)
    rw [eb] at h1 h2
    rw [scr_next m c t (by omega) hp, scrNext]
    refine ⟨h1, fun l d => ?_⟩
    refine (zNext_point m c gs es g e q H t _ _ h1 l d).trans ?_
    rw [h2, ← EReal.coe_add]
    refine congrArg _ ?_
    simp only [ht]
    exact (Fin.sum_univ_castSucc (n := n + 1) fun i => addR gs es g e q (bOf t) ⟨i.val, by omega⟩ l d).symm

/-- The columns of p a point computes. -/
theorem colsOf_apply (t : Fin cfg0.N) (k : Fin 4) (j : Fin 256) :
    colsOf m c t (ix3 0 k j) = ((matP gs es g e q (bOf t) k (sOf t j) : ℝ) : EReal) := by
  have h := rowsAt_apply _ _ _ _ _ _ _ _ _ _ _ (scr_apply m c gs es g e q H _ (Nat.mod_lt _ (by decide)) t rfl).1 (scaleG m c gs es g e q H t) (scaleE m c gs es g e q H t)
    (codesG m c gs es g e q H t) (codesE m c gs es g e q H t) k j
  simp only [mix_eq] at h
  refine Eq.trans ?_ h
  rw [colsOf, colsAt]
  obtain ⟨y, hy⟩ : ∃ y, y = rowsP (accAt (grid0.coords t) (scr m c t.val t.isLt).1 (iblk m c 0 t) (iblk m c 1 t) (iblk m c 2 t) (iblk m c 3 t)) := ⟨_, rfl⟩
  rw [blockP, ← hy]
  pointwise

/-- The first product of a batch entry. -/
theorem prodOf_apply (b : Fin 2) (k : Fin 4) (s : Fin 14336) :
    prodOf m c (lastPt b) (ix3 0 k s) = ((matP gs es g e q b k s : ℝ) : EReal) := by
  have hb := b.isLt
  have hs := s.isLt
  have hN : cfg0.N = 112 := N_0
  have ht : 56 * b.val + s.val / 256 < cfg0.N := by omega
  have h := colsOf_apply m c gs es g e q H ⟨56 * b.val + s.val / 256, ht⟩ k ⟨s.val % 256, Nat.mod_lt _ (by decide)⟩
  have e1 : bOf ⟨56 * b.val + s.val / 256, ht⟩ = b := Fin.ext (by show (56 * b.val + s.val / 256) / 56 = b.val; omega)
  have e2 : sOf ⟨56 * b.val + s.val / 256, ht⟩ ⟨s.val % 256, Nat.mod_lt _ (by decide)⟩ = s :=
    Fin.ext (by show 256 * ((56 * b.val + s.val / 256) % 56) + s.val % 256 = s.val; omega)
  rw [e1, e2] at h
  refine Eq.trans ?_ h
  have e3 : 56 * ((lastPt b).val / 56) + s.val / 256 = 56 * b.val + s.val / 256 := by
    show 56 * ((56 * b.val + 55) / 56) + s.val / 256 = _; omega
  have e4 : tileIdx (ix3 0 k s : S1x4x14336.Idx) = ix3 0 k ⟨s.val % 256, Nat.mod_lt _ (by decide)⟩ := by
    funext a; fin_cases a <;> rfl
  show colsOf m c ⟨56 * ((lastPt b).val / 56) + s.val / 256, _⟩ (tileIdx (ix3 0 k s)) = _
  rw [e4]
  simp only [e3]

/-- The second accumulator at the end of a batch entry: the second product in its first four rows, zeros below. -/
theorem acc_last (b : Fin 2) (l : Fin 16) (d : Fin 8192) :
    (scr m c (lastPt b).val (lastPt b).isLt).2 (ix2 l d) = ((∑ s, limb (matP gs es g e q b) l s * matM gs es g e b s d : ℝ) : EReal) := by
  have hb := b.isLt
  rw [(scr_apply m c gs es g e q H 55 (by decide) (lastPt b) (by show (56 * b.val + 55) % 56 = 55; omega)).2, ← sum_rows]
  have e1 : bOf (lastPt b) = b := Fin.ext (by show (56 * b.val + 55) / 56 = b.val; omega)
  rw [e1]
  rfl

/-- Its limbs summed: a row of the first product times the matrix. -/
theorem rowZ_last (b : Fin 2) (k : Fin 4) (d : Fin 8192) :
    rowZ (scr m c (lastPt b).val (lastPt b).isLt).2 k (ix2 0 d) = ((Cert.Gram.times (matP gs es g e q b k) (matM gs es g e b) d : ℝ) : EReal) := by
  have hk := k.isLt
  have h := acc_last m c gs es g e q H b
  obtain ⟨Z, hZ⟩ : ∃ Z, Z = (scr m c (lastPt b).val (lastPt b).isLt).2 := ⟨_, rfl⟩
  rw [← hZ] at h ⊢
  have e0 : rowZ Z k (ix2 0 d) = sumRows Z (ix2 k d) := by
    refine congrArg (sumRows Z) (funext fun a => Fin.ext ?_)
    refine (Rect.idx_unit_val _ _ _ _ a).trans ?_
    fin_cases a
    · rfl
    · exact Nat.zero_add _
  have ld : ∀ (o : ℕ) (ho : o + 4 ≤ 16) (inb), View.ld (Val := Elt Ideal) (e' := .f32) Z (Rect.unit (s := S16x8192) ![o, 0] S4x8192.size inb) (ix2 k d)
      = Z (ix2 ⟨o + k.val, by omega⟩ d) := by
    intro o ho inb
    refine congrArg Z (funext fun a => Fin.ext ?_)
    refine (Rect.idx_unit_val _ _ _ _ a).trans ?_
    fin_cases a
    · rfl
    · exact Nat.zero_add _
  have e5 : ∀ A B C : Vec Ideal S4x8192 .f32, k0_pay5 A B C (ix2 k d) = A (ix2 k d) + B (ix2 k d) + C (ix2 k d) := by
    intro A B C; pointwise [k0_pay5]
  rw [e0, sumRows, e5, ld 8 (by omega), ld 4 (by omega), ld 0 (by omega), h, h, h]
  have z8 : ∀ s, limb (matP gs es g e q b) ⟨8 + k.val, by omega⟩ s = 0 := fun s => dif_neg (by dsimp only; omega)
  have z4 : ∀ s, limb (matP gs es g e q b) ⟨4 + k.val, by omega⟩ s = 0 := fun s => dif_neg (by dsimp only; omega)
  have z0 : ∀ s, limb (matP gs es g e q b) ⟨k.val, by omega⟩ s = matP gs es g e q b k s := fun s => dif_pos hk
  simp only [z8, z4, zero_mul, Finset.sum_const_zero, EReal.coe_zero, zero_add, z0]
  rfl

end

end Cert.KernelIdeal.Gen

end
-- ==== Proof.Rows.lean ====
/- The kernel's last step, element by element in the extended reals: the four rows of the first product made orthonormal, and the
   same steps on the rows of the second. -/
module

public import proofs.«01_k».proof.Proof.Sums

@[expose] public section

set_option maxRecDepth 16384

noncomputable section

namespace Cert.KernelIdeal.Gen

open Idealize.ShloMosaic Idealize.ShloMosaic.TcCoe Cert.Gram

/-- A row of p as a function of its position, -/
def fnP (p : FVec Ideal S1x14336 .f32) : Fin 14336 → EReal := fun s => p (ix2 0 s)
/-- a row of the second product, -/
def fnZ (z : FVec Ideal S1x8192 .f32) : Fin 8192 → EReal := fun d => z (ix2 0 d)
/-- and a number. -/
def fnN (n : FVec Ideal S1x1 .f32) : EReal := n (ix2 0 0)

theorem fn_dot (p q : FVec Ideal S1x14336 .f32) : fnN (dotP p q) = dot (fnP p) (fnP q) := by
  unfold fnN
  pointwise [dotP]
  rfl

theorem fn_sqrt (n : FVec Ideal S1x1 .f32) : fnN (sqrt n) = Ideal.sqrt (fnN n) := rfl

theorem fn_div (p : FVec Ideal S1x14336 .f32) (n : FVec Ideal S1x1 .f32) : fnP (divP p n) = over (fnP p) (fnN n) := by
  funext s
  unfold fnP
  pointwise [divP]
  rfl

theorem fn_sub (q : FVec Ideal S1x14336 .f32) (d : FVec Ideal S1x1 .f32) (p : FVec Ideal S1x14336 .f32) :
    fnP (subP q d p) = less (fnP q) (fnN d) (fnP p) := by
  funext s
  unfold fnP
  pointwise [subP]
  rfl

theorem fn_divZ (p : FVec Ideal S1x8192 .f32) (n : FVec Ideal S1x1 .f32) : fnZ (divZ p n) = over (fnZ p) (fnN n) := by
  funext s
  unfold fnZ
  pointwise [divZ]
  rfl

theorem fn_subZ (q : FVec Ideal S1x8192 .f32) (d : FVec Ideal S1x1 .f32) (p : FVec Ideal S1x8192 .f32) :
    fnZ (subZ q d p) = less (fnZ q) (fnN d) (fnZ p) := by
  funext s
  unfold fnZ
  pointwise [subZ]
  rfl

section

variable (p0 p1 p2 p3 : FVec Ideal S1x14336 .f32) (z0 z1 z2 z3 : FVec Ideal S1x8192 .f32)

theorem fn_nrm0 : fnN (nrm0 p0) = len (fnP p0) := by rw [nrm0, fn_sqrt, fn_dot]; rfl
theorem fn_ort0 : fnP (ort0 p0) = o0 (fnP p0) := by rw [ort0, fn_div, fn_nrm0]; rfl
theorem fn_res1 : fnP (res1 p0 p1) = r1 (fnP p0) (fnP p1) := by rw [res1, fn_sub, fn_dot, fn_ort0]; rfl
theorem fn_res2a : fnP (res2a p0 p2) = a2 (fnP p0) (fnP p2) := by rw [res2a, fn_sub, fn_dot, fn_ort0]; rfl
theorem fn_res3a : fnP (res3a p0 p3) = a3 (fnP p0) (fnP p3) := by rw [res3a, fn_sub, fn_dot, fn_ort0]; rfl
theorem fn_nrm1 : fnN (nrm1 p0 p1) = len (r1 (fnP p0) (fnP p1)) := by rw [nrm1, fn_sqrt, fn_dot, fn_res1]; rfl
theorem fn_ort1 : fnP (ort1 p0 p1) = o1 (fnP p0) (fnP p1) := by rw [ort1, fn_div, fn_nrm1, fn_res1]; rfl
theorem fn_res2 : fnP (res2 p0 p1 p2) = r2 (fnP p0) (fnP p1) (fnP p2) := by rw [res2, fn_sub, fn_dot, fn_ort1, fn_res2a]; rfl
theorem fn_res3b : fnP (res3b p0 p1 p3) = b3 (fnP p0) (fnP p1) (fnP p3) := by rw [res3b, fn_sub, fn_dot, fn_ort1, fn_res3a]; rfl
theorem fn_nrm2 : fnN (nrm2 p0 p1 p2) = len (r2 (fnP p0) (fnP p1) (fnP p2)) := by rw [nrm2, fn_sqrt, fn_dot, fn_res2]; rfl
theorem fn_ort2 : fnP (ort2 p0 p1 p2) = o2 (fnP p0) (fnP p1) (fnP p2) := by rw [ort2, fn_div, fn_nrm2, fn_res2]; rfl
theorem fn_res3 : fnP (res3 p0 p1 p2 p3) = r3 (fnP p0) (fnP p1) (fnP p2) (fnP p3) := by
  rw [res3, fn_sub, fn_dot, fn_ort2, fn_res3b]; rfl
theorem fn_nrm3 : fnN (nrm3 p0 p1 p2 p3) = len (r3 (fnP p0) (fnP p1) (fnP p2) (fnP p3)) := by rw [nrm3, fn_sqrt, fn_dot, fn_res3]; rfl
theorem fn_ort3 : fnP (ort3 p0 p1 p2 p3) = o3 (fnP p0) (fnP p1) (fnP p2) (fnP p3) := by rw [ort3, fn_div, fn_nrm3, fn_res3]; rfl

theorem fn_img0 : fnZ (img0 p0 z0) = i0 (fnP p0) (fnZ z0) := by rw [img0, fn_divZ, fn_nrm0]; rfl
theorem fn_img1 : fnZ (img1 p0 p1 z0 z1) = i1 (fnP p0) (fnP p1) (fnZ z0) (fnZ z1) := by
  rw [img1, fn_divZ, fn_subZ, fn_nrm1, fn_img0, fn_dot, fn_ort0]; rfl
theorem fn_img2 : fnZ (img2 p0 p1 p2 z0 z1 z2) = i2 (fnP p0) (fnP p1) (fnP p2) (fnZ z0) (fnZ z1) (fnZ z2) := by
  rw [img2, fn_divZ, fn_subZ, fn_subZ, fn_nrm2, fn_img1, fn_img0, fn_dot, fn_dot, fn_ort0, fn_ort1, fn_res2a]; rfl
theorem fn_img3 : fnZ (img3 p0 p1 p2 p3 z0 z1 z2 z3)
    = i3 (fnP p0) (fnP p1) (fnP p2) (fnP p3) (fnZ z0) (fnZ z1) (fnZ z2) (fnZ z3) := by
  rw [img3, fn_divZ, fn_subZ, fn_subZ, fn_subZ, fn_nrm3, fn_img2, fn_img1, fn_img0, fn_dot, fn_dot, fn_dot, fn_ort0, fn_ort1, fn_ort2,
    fn_res3a, fn_res3b]; rfl

end

/-! ## The stores read back -/

/-- Where a row's position lies. -/
theorem emb_rowP (k : Fin 4) (inb : ∀ a, (![0, k.val, 0] : Fin 3 → ℕ) a + S1x1x14336.size a ≤ S1x4x14336.size a) (s : Fin 14336) :
    (Rect.unit (s := S1x4x14336) ![0, k.val, 0] S1x1x14336.size inb).emb (ix3 0 0 s) = ix3 0 k s := by
  funext a
  apply Fin.ext
  refine (Rect.idx_unit_val _ _ _ _ a).trans ?_
  fin_cases a
  · rfl
  · rfl
  · exact Nat.zero_add _

theorem emb_rowQ (k : Fin 4) (inb : ∀ a, (![0, k.val, 0] : Fin 3 → ℕ) a + S1x1x8192.size a ≤ S1x4x8192.size a) (d : Fin 8192) :
    (Rect.unit (s := S1x4x8192) ![0, k.val, 0] S1x1x8192.size inb).emb (ix3 0 0 d) = ix3 0 k d := by
  funext a
  apply Fin.ext
  refine (Rect.idx_unit_val _ _ _ _ a).trans ?_
  fin_cases a
  · rfl
  · rfl
  · exact Nat.zero_add _

/-- A store read back at a place of its rectangle. -/
theorem canon_at {s : Shape} {e : EltTy} (r : Rect s) (w : r.shape.Idx → Elt Ideal e) (L : List (View.Piece (Elt Ideal) s e)) (x : r.shape.Idx) (y : s.Idx)
    (h : r.emb x = y) : View.canon (Val := Elt Ideal) (⟨r, w⟩ :: L) y = w x := by
  subst h
  exact View.canon_cons_emb (Val := Elt Ideal) r w L x

/-- A row's store puts its payload into that row, -/
theorem canon_rowP_on (k : Fin 4) (inb : ∀ a, (![0, k.val, 0] : Fin 3 → ℕ) a + S1x1x14336.size a ≤ S1x4x14336.size a) (w : FVec Ideal S1x1x14336 .f32) (L : List (View.Piece (Elt Ideal) S1x4x14336 .f32)) (s : Fin 14336) :
    View.canon (Val := Elt Ideal) (⟨Rect.unit (s := S1x4x14336) ![0, k.val, 0] S1x1x14336.size inb, w⟩ :: L) (ix3 0 k s) = w (ix3 0 0 s) := by
  exact canon_at (e := .f32) (Rect.unit (s := S1x4x14336) ![0, k.val, 0] S1x1x14336.size inb) w L (ix3 0 0 s) (ix3 0 k s) (emb_rowP k inb s)

/-- and leaves the others. -/
theorem canon_rowP_off (k k' : Fin 4) (hk : k' ≠ k) (inb : ∀ a, (![0, k.val, 0] : Fin 3 → ℕ) a + S1x1x14336.size a ≤ S1x4x14336.size a) (w : FVec Ideal S1x1x14336 .f32) (L : List (View.Piece (Elt Ideal) S1x4x14336 .f32)) (s : Fin 14336) :
    View.canon (Val := Elt Ideal) (⟨Rect.unit (s := S1x4x14336) ![0, k.val, 0] S1x1x14336.size inb, w⟩ :: L) (ix3 0 k' s) = View.canon L (ix3 0 k' s) := by
  refine View.canon_cons_of_not_mem _ _ fun hm => hk ?_
  rw [Rect.mem_set_unit] at hm
  have h : k.val ≤ k'.val ∧ k'.val < k.val + 1 := hm 1
  exact Fin.ext (by omega)

theorem canon_rowQ_on (k : Fin 4) (inb : ∀ a, (![0, k.val, 0] : Fin 3 → ℕ) a + S1x1x8192.size a ≤ S1x4x8192.size a) (w : FVec Ideal S1x1x8192 .f32) (L : List (View.Piece (Elt Ideal) S1x4x8192 .f32)) (d : Fin 8192) :
    View.canon (Val := Elt Ideal) (⟨Rect.unit (s := S1x4x8192) ![0, k.val, 0] S1x1x8192.size inb, w⟩ :: L) (ix3 0 k d) = w (ix3 0 0 d) := by
  exact canon_at (e := .f32) (Rect.unit (s := S1x4x8192) ![0, k.val, 0] S1x1x8192.size inb) w L (ix3 0 0 d) (ix3 0 k d) (emb_rowQ k inb d)

theorem canon_rowQ_off (k k' : Fin 4) (hk : k' ≠ k) (inb : ∀ a, (![0, k.val, 0] : Fin 3 → ℕ) a + S1x1x8192.size a ≤ S1x4x8192.size a) (w : FVec Ideal S1x1x8192 .f32) (L : List (View.Piece (Elt Ideal) S1x4x8192 .f32)) (d : Fin 8192) :
    View.canon (Val := Elt Ideal) (⟨Rect.unit (s := S1x4x8192) ![0, k.val, 0] S1x1x8192.size inb, w⟩ :: L) (ix3 0 k' d) = View.canon L (ix3 0 k' d) := by
  refine View.canon_cons_of_not_mem _ _ fun hm => hk ?_
  rw [Rect.mem_set_unit] at hm
  have h : k.val ≤ k'.val ∧ k'.val < k.val + 1 := hm 1
  exact Fin.ext (by omega)

theorem castP_apply (w : FVec Ideal S1x14336 .f32) (s : Fin 14336) :
    shapeCast S1x1x14336 w shapeCasts_S1x14336_S1x1x14336 (ix3 0 0 s) = fnP w s := by
  unfold fnP
  pointwise

theorem castQ_apply (w : FVec Ideal S1x8192 .f32) (d : Fin 8192) :
    shapeCast S1x1x8192 w shapeCasts_S1x8192_S1x1x8192 (ix3 0 0 d) = fnZ w d := by
  unfold fnZ
  pointwise

theorem fn_rowP (X : Vec Ideal S1x4x14336 .f32) (k : Fin 4) : fnP (rowP X k) = fun s => X (ix3 0 k s) := by
  funext s
  have e : ∀ w : FVec Ideal S1x1x14336 .f32, fnP (shapeCast S1x14336 w shapeCasts_S1x1x14336_S1x14336) s = w (ix3 0 0 s) := by
    intro w; unfold fnP; pointwise
  rw [rowP, e]
  exact congrArg X (emb_rowP k (rowP_inb k) s)

/-- The orthonormal rows stored. -/
theorem outP_apply (X : Vec Ideal S1x4x14336 .f32) (k : Fin 4) (s : Fin 14336) :
    outP X (ix3 0 k s) = orth (fun k s => X (ix3 0 k s)) k s := by
  obtain ⟨p, hp⟩ : ∃ p, p = rowP X := ⟨_, rfl⟩
  have e : (fun k s => X (ix3 0 k s)) = fun k => fnP (p k) := by funext k; rw [hp, fn_rowP]
  rw [e, outP, ← hp, piecesP]
  fin_cases k
  · refine (canon_rowP_off 3 0 (by decide) _ _ _ s).trans ((canon_rowP_off 2 0 (by decide) _ _ _ s).trans ((canon_rowP_off 1 0 (by decide) _ _ _ s).trans
      ((canon_rowP_on 0 _ _ _ s).trans ?_)))
    rw [castP_apply, fn_ort0]; rfl
  · refine (canon_rowP_off 3 1 (by decide) _ _ _ s).trans ((canon_rowP_off 2 1 (by decide) _ _ _ s).trans ((canon_rowP_on 1 _ _ _ s).trans ?_))
    rw [castP_apply, fn_ort1]; rfl
  · refine (canon_rowP_off 3 2 (by decide) _ _ _ s).trans ((canon_rowP_on 2 _ _ _ s).trans ?_)
    rw [castP_apply, fn_ort2]; rfl
  · refine (canon_rowP_on 3 _ _ _ s).trans ?_
    rw [castP_apply, fn_ort3]; rfl

/-- Their images stored. -/
theorem outQ_apply (X : Vec Ideal S1x4x14336 .f32) (Z : Vec Ideal S16x8192 .f32) (k : Fin 4) (d : Fin 8192) :
    outQ X Z (ix3 0 k d) = image (fun k s => X (ix3 0 k s)) (fun k d => rowZ Z k (ix2 0 d)) k d := by
  obtain ⟨p, hp⟩ : ∃ p, p = rowP X := ⟨_, rfl⟩
  obtain ⟨z, hz⟩ : ∃ z : Fin 4 → FVec Ideal S1x8192 .f32, z = rowZ Z := ⟨_, rfl⟩
  have e : (fun k s => X (ix3 0 k s)) = fun k => fnP (p k) := by funext k; rw [hp, fn_rowP]
  have e' : (fun k d => rowZ Z k (ix2 0 d)) = fun k => fnZ (z k) := by rw [hz]; rfl
  rw [e, e', outQ, ← hp, ← hz, piecesQ]
  fin_cases k
  · refine (canon_rowQ_off 3 0 (by decide) _ _ _ d).trans ((canon_rowQ_off 2 0 (by decide) _ _ _ d).trans ((canon_rowQ_off 1 0 (by decide) _ _ _ d).trans
      ((canon_rowQ_on 0 _ _ _ d).trans ?_)))
    rw [castQ_apply, fn_img0]; rfl
  · refine (canon_rowQ_off 3 1 (by decide) _ _ _ d).trans ((canon_rowQ_off 2 1 (by decide) _ _ _ d).trans ((canon_rowQ_on 1 _ _ _ d).trans ?_))
    rw [castQ_apply, fn_img1]; rfl
  · refine (canon_rowQ_off 3 2 (by decide) _ _ _ d).trans ((canon_rowQ_on 2 _ _ _ d).trans ?_)
    rw [castQ_apply, fn_img2]; rfl
  · refine (canon_rowQ_on 3 _ _ _ d).trans ?_
    rw [castQ_apply, fn_img3]; rfl

/-! ## The two results -/

section

variable (m : (ℓ : Loc nD τ sig) → Buf (Elt Ideal) ℓ) (c : Dev nD)
variable (gs es : Fin 2 → Fin 112 → Fin 64 → ℝ) (g e : Fin 2 → Fin 14336 → Fin 8192 → ℝ) (q : Fin 2 → Fin 4 → Fin 8192 → ℝ)
variable (H : Holds m c gs es g e q)
include H

theorem finalP_apply (b : Fin 2) (k : Fin 4) (s : Fin 14336) :
    finalP m c (ix3 b k s) = orth (fun k => re (matP gs es g e q b k)) k s := by
  have ei : rowIdxP (ix3 b k s) = ix3 0 k s := by funext a; fin_cases a <;> rfl
  show outP (prodOf m c (lastPt b)) (rowIdxP (ix3 b k s)) = _
  rw [ei, outP_apply]
  refine congrArg (fun f => orth f k s) (funext fun k => funext fun s => ?_)
  exact prodOf_apply m c gs es g e q H b k s

theorem finalQ_apply (b : Fin 2) (k : Fin 4) (d : Fin 8192) :
    finalQ m c (ix3 b k d) = image (fun k => re (matP gs es g e q b k)) (fun k => re (times (matP gs es g e q b k) (matM gs es g e b))) k d := by
  have ei : rowIdxQ (ix3 b k d) = ix3 0 k d := by funext a; fin_cases a <;> rfl
  show outQ (prodOf m c (lastPt b)) (scr m c (lastPt b).val (lastPt b).isLt).2 (rowIdxQ (ix3 b k d)) = _
  rw [ei, outQ_apply]
  have e1 : (fun k s => prodOf m c (lastPt b) (ix3 0 k s)) = fun k => re (matP gs es g e q b k) := by
    funext k s; exact prodOf_apply m c gs es g e q H b k s
  have e2 : (fun k d => rowZ (scr m c (lastPt b).val (lastPt b).isLt).2 k (ix2 0 d))
      = fun k => re (times (matP gs es g e q b k) (matM gs es g e b)) := by
    funext k d; exact rowZ_last m c gs es g e q H b k d
  rw [e1, e2]

end

end Cert.KernelIdeal.Gen

end
-- ==== Proof.RefValue.lean ====
/- What the two result arrays of the ideal reference hold after a run, where its arguments hold real numbers. -/
module

public import proofs.«01_k».proof.Proof.Gram
public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.ReferenceIdeal.Gen

open Idealize.ShloMosaic Idealize.ShloMosaic.TcCoe Idealize.ShloMosaic.Tactic
open Cert.Gram

/-! ## The steps on the columns of the product, both batch entries at once -/

section Steps

variable {F : FTy → Type} [FloatOps F]

/-- The inner products of two columns. -/
def dotC (p q : FVec F S2x14336 .f32) : FVec F S2x1 .f32 :=
  shapeCast S2x1 (multiReduction .add [1] S2 (mulf p q) 0x00000000#32 reduces_S2x14336_S2 (.inl rfl) rfl) shapeCasts_S2_S2x1

/-- A column divided by numbers; -/
def divC (p : FVec F S2x14336 .f32) (n : FVec F S2x1 .f32) : FVec F S2x14336 .f32 := divf p (broadcastTo S2x14336 n broadcasts_S2x1_S2x14336)

/-- less multiples of another. -/
def subC (q : FVec F S2x14336 .f32) (d : FVec F S2x1 .f32) (p : FVec F S2x14336 .f32) : FVec F S2x14336 .f32 :=
  subf q (mulf (broadcastTo S2x14336 d broadcasts_S2x1_S2x14336) p)

variable (p0 p1 p2 p3 : FVec F S2x14336 .f32)

def ortC0 : FVec F S2x14336 .f32 := divC p0 (sqrt (dotC p0 p0))
def resC (p q : FVec F S2x14336 .f32) : FVec F S2x14336 .f32 := subC q (dotC p q) p
def resC1 : FVec F S2x14336 .f32 := resC (ortC0 p0) p1
def ortC1 : FVec F S2x14336 .f32 := divC (resC1 p0 p1) (sqrt (dotC (resC1 p0 p1) (resC1 p0 p1)))
def resC2 : FVec F S2x14336 .f32 := resC (ortC1 p0 p1) (resC (ortC0 p0) p2)
def ortC2 : FVec F S2x14336 .f32 := divC (resC2 p0 p1 p2) (sqrt (dotC (resC2 p0 p1 p2) (resC2 p0 p1 p2)))
def resC3 : FVec F S2x14336 .f32 := resC (ortC2 p0 p1 p2) (resC (ortC1 p0 p1) (resC (ortC0 p0) p3))
def ortC3 : FVec F S2x14336 .f32 := divC (resC3 p0 p1 p2 p3) (sqrt (dotC (resC3 p0 p1 p2 p3) (resC3 p0 p1 p2 p3)))

/-- The four stacked. -/
def stackC : FVec F S2x4x14336 .f32 :=
  concatenate S2x4x14336 1
    [⟨S2x1x14336, shapeCast S2x1x14336 (ortC0 p0) shapeCasts_S2x14336_S2x1x14336⟩,
     ⟨S2x1x14336, shapeCast S2x1x14336 (ortC1 p0 p1) shapeCasts_S2x14336_S2x1x14336⟩,
     ⟨S2x1x14336, shapeCast S2x1x14336 (ortC2 p0 p1 p2) shapeCasts_S2x14336_S2x1x14336⟩,
     ⟨S2x1x14336, shapeCast S2x1x14336 (ortC3 p0 p1 p2 p3) shapeCasts_S2x14336_S2x1x14336⟩]
    concatenates_S2x1x14336_S2x1x14336_S2x1x14336_S2x1x14336_S2x4x14336_d1

/-- The columns of the product. -/
def col0 (x : FVec F S2x14336x4 .f32) : FVec F S2x14336 .f32 :=
  shapeCast S2x14336 (extractStridedSlice S2x14336x1 ![0, 0, 0] x slices_S2x14336x4_o0_0_0_S2x14336x1) shapeCasts_S2x14336x1_S2x14336
def col1 (x : FVec F S2x14336x4 .f32) : FVec F S2x14336 .f32 :=
  shapeCast S2x14336 (extractStridedSlice S2x14336x1 ![0, 0, 1] x slices_S2x14336x4_o0_0_1_S2x14336x1) shapeCasts_S2x14336x1_S2x14336
def col2 (x : FVec F S2x14336x4 .f32) : FVec F S2x14336 .f32 :=
  shapeCast S2x14336 (extractStridedSlice S2x14336x1 ![0, 0, 2] x slices_S2x14336x4_o0_0_2_S2x14336x1) shapeCasts_S2x14336x1_S2x14336
def col3 (x : FVec F S2x14336x4 .f32) : FVec F S2x14336 .f32 :=
  shapeCast S2x14336 (extractStridedSlice S2x14336x1 ![0, 0, 3] x slices_S2x14336x4_o0_0_3_S2x14336x1) shapeCasts_S2x14336x1_S2x14336

/-- The first result's payload is the stack of the steps on the columns of the product. -/
theorem pay9_eq (v0 : Vec F S2x14336x8192 .fp8e5m2) (v3 : Vec F S2x112x64 .f32) (v4 : Vec F S2x14336x8192 .fp8e4m3) (v7 : Vec F S2x112x64 .f32)
    (v8 : Vec F S2x8192x4 .f32) :
    k0_pay9 (k0_pay4 v0 v3 v4 v7 v8) (k0_pay5 v0 v3 v4 v7 v8) (k0_pay6 v0 v3 v4 v7 v8) (k0_pay7 v0 v3 v4 v7 v8) (k0_pay8 v0 v3 v4 v7 v8)
      = stackC (col0 (k0_pay3 v0 v3 v4 v7 v8)) (col1 (k0_pay3 v0 v3 v4 v7 v8)) (col2 (k0_pay3 v0 v3 v4 v7 v8)) (col3 (k0_pay3 v0 v3 v4 v7 v8)) := rfl

end Steps

/-! ## Element by element -/

/-- A column of a batch entry as a function of its position, -/
def fnC (b : Fin 2) (p : FVec Ideal S2x14336 .f32) : Fin 14336 → EReal := fun s => p (ix2 b s)
/-- and its number. -/
def fnN (b : Fin 2) (n : FVec Ideal S2x1 .f32) : EReal := n (ix2 b 0)

theorem fn_dot (b : Fin 2) (p q : FVec Ideal S2x14336 .f32) : fnN b (dotC p q) = dot (fnC b p) (fnC b q) := by
  unfold fnN
  pointwise [dotC]
  rfl

theorem fn_sqrt (b : Fin 2) (n : FVec Ideal S2x1 .f32) : fnN b (sqrt n) = Ideal.sqrt (fnN b n) := rfl

theorem fn_div (b : Fin 2) (p : FVec Ideal S2x14336 .f32) (n : FVec Ideal S2x1 .f32) : fnC b (divC p n) = over (fnC b p) (fnN b n) := by
  funext s
  unfold fnC
  pointwise [divC]
  rfl

theorem fn_res (b : Fin 2) (p q : FVec Ideal S2x14336 .f32) : fnC b (resC p q) = less (fnC b q) (dot (fnC b p) (fnC b q)) (fnC b p) := by
  rw [← fn_dot]
  funext s
  unfold fnC
  pointwise [resC, subC]
  rfl

section

variable (b : Fin 2) (p0 p1 p2 p3 : FVec Ideal S2x14336 .f32)

theorem fn_ort0 : fnC b (ortC0 p0) = o0 (fnC b p0) := by rw [ortC0, fn_div, fn_sqrt, fn_dot]; rfl
theorem fn_res1 : fnC b (resC1 p0 p1) = r1 (fnC b p0) (fnC b p1) := by rw [resC1, fn_res, fn_ort0]; rfl
theorem fn_ort1 : fnC b (ortC1 p0 p1) = o1 (fnC b p0) (fnC b p1) := by rw [ortC1, fn_div, fn_sqrt, fn_dot, fn_res1]; rfl
theorem fn_res2 : fnC b (resC2 p0 p1 p2) = r2 (fnC b p0) (fnC b p1) (fnC b p2) := by rw [resC2, fn_res, fn_res, fn_ort0, fn_ort1]; rfl
theorem fn_ort2 : fnC b (ortC2 p0 p1 p2) = o2 (fnC b p0) (fnC b p1) (fnC b p2) := by rw [ortC2, fn_div, fn_sqrt, fn_dot, fn_res2]; rfl
theorem fn_res3 : fnC b (resC3 p0 p1 p2 p3) = r3 (fnC b p0) (fnC b p1) (fnC b p2) (fnC b p3) := by
  rw [resC3, fn_res, fn_res, fn_res, fn_ort0, fn_ort1, fn_ort2]; rfl
theorem fn_ort3 : fnC b (ortC3 p0 p1 p2 p3) = o3 (fnC b p0) (fnC b p1) (fnC b p2) (fnC b p3) := by
  rw [ortC3, fn_div, fn_sqrt, fn_dot, fn_res3]; rfl

/-- Row `k` of the stack. -/
theorem stackC_apply (k : Fin 4) (s : Fin 14336) :
    stackC p0 p1 p2 p3 (ix3 b k s) = orth (fun k => ![fnC b p0, fnC b p1, fnC b p2, fnC b p3] k) k s := by
  obtain ⟨x0, h0⟩ : ∃ x, x = ortC0 p0 := ⟨_, rfl⟩
  obtain ⟨x1, h1⟩ : ∃ x, x = ortC1 p0 p1 := ⟨_, rfl⟩
  obtain ⟨x2, h2⟩ : ∃ x, x = ortC2 p0 p1 p2 := ⟨_, rfl⟩
  obtain ⟨x3, h3⟩ : ∃ x, x = ortC3 p0 p1 p2 p3 := ⟨_, rfl⟩
  have E0 := congrFun (fn_ort0 b p0) s
  have E1 := congrFun (fn_ort1 b p0 p1) s
  have E2 := congrFun (fn_ort2 b p0 p1 p2) s
  have E3 := congrFun (fn_ort3 b p0 p1 p2 p3) s
  rw [stackC, ← h0, ← h1, ← h2, ← h3]
  rw [← h0] at E0; rw [← h1] at E1; rw [← h2] at E2; rw [← h3] at E3
  fin_cases k
  · refine Eq.trans ?_ E0; unfold fnC; pointwise
  · refine Eq.trans ?_ E1; unfold fnC; pointwise
  · refine Eq.trans ?_ E2; unfold fnC; pointwise
  · refine Eq.trans ?_ E3; unfold fnC; pointwise

theorem fn_cols (x : FVec Ideal S2x14336x4 .f32) :
    (fun k => (![fnC b (col0 x), fnC b (col1 x), fnC b (col2 x), fnC b (col3 x)] : Fin 4 → Fin 14336 → EReal) k) = fun k s => x (ix3 b s k) := by
  funext k s
  fin_cases k
  · show col0 x (ix2 b s) = x (ix3 b s 0); pointwise [col0]
  · show col1 x (ix2 b s) = x (ix3 b s 1); pointwise [col1]
  · show col2 x (ix2 b s) = x (ix3 b s 2); pointwise [col2]
  · show col3 x (ix2 b s) = x (ix3 b s 3); pointwise [col3]

end

/-! ## The payloads -/

section Payloads

variable (v0 : Vec Ideal S2x14336x8192 .fp8e5m2) (v3 : Vec Ideal S2x112x64 .f32) (v4 : Vec Ideal S2x14336x8192 .fp8e4m3)
  (v7 : Vec Ideal S2x112x64 .f32) (v8 : Vec Ideal S2x8192x4 .f32)

/-- The scaled sum of the codes. -/
theorem pay2_apply (b : Fin 2) (s : Fin 14336) (d : Fin 8192) :
    k0_pay2 v0 v3 v4 v7 (ix3 b s d) = v0 (ix3 b s d) * v3 (ix3 b ⟨s.val / 128, by omega⟩ ⟨d.val / 128, by omega⟩)
      + v4 (ix3 b s d) * v7 (ix3 b ⟨s.val / 128, by omega⟩ ⟨d.val / 128, by omega⟩) := by
  pointwise [k0_pay2]

theorem pay3_apply (b : Fin 2) (s : Fin 14336) (k : Fin 4) :
    k0_pay3 v0 v3 v4 v7 v8 (ix3 b s k) = ∑ d : Fin 8192, k0_pay2 v0 v3 v4 v7 (ix3 b s d) * v8 (ix3 b d k) := by
  obtain ⟨x, hx⟩ : ∃ x, x = k0_pay2 v0 v3 v4 v7 := ⟨_, rfl⟩
  rw [k0_pay3, ← hx]
  pointwise

theorem pay1_apply (x : FVec Ideal S2x14336x8192 .f32) (y : FVec Ideal S2x4x14336 .f32) (b : Fin 2) (k : Fin 4) (d : Fin 8192) :
    k0_pay1 x y (ix3 b k d) = ∑ s : Fin 14336, y (ix3 b k s) * x (ix3 b s d) := by
  pointwise [k0_pay1]

end Payloads

end Cert.ReferenceIdeal.Gen

end
-- ==== Proof.RefRun.lean ====
/- The ideal reference's run: its two results, where its arguments hold real numbers. -/
module

public import proofs.«01_k».proof.Proof.RefValue

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.Sem
open Idealize.ShloMosaic.Pipeline (Dat Cfg Window)
open Cert.Gram

variable (m : (ℓ : Loc nD τ sig) → Buf (Elt Ideal) ℓ) (c : Dev nD)

/-! ## The blocks are the whole arrays -/

theorem index0 (t : Fin cfg0.N) : win0_0.index t = ![0, 0, 0] := (by decide +kernel : ∀ t : Fin cfg0.N, win0_0.index t = ![0, 0, 0]) t
theorem index1 (t : Fin cfg0.N) : win0_1.index t = ![0, 0, 0] := (by decide +kernel : ∀ t : Fin cfg0.N, win0_1.index t = ![0, 0, 0]) t
theorem index2 (t : Fin cfg0.N) : win0_2.index t = ![0, 0, 0] := (by decide +kernel : ∀ t : Fin cfg0.N, win0_2.index t = ![0, 0, 0]) t
theorem index3 (t : Fin cfg0.N) : win0_3.index t = ![0, 0, 0] := (by decide +kernel : ∀ t : Fin cfg0.N, win0_3.index t = ![0, 0, 0]) t
theorem index4 (t : Fin cfg0.N) : win0_4.index t = ![0, 0, 0] := (by decide +kernel : ∀ t : Fin cfg0.N, win0_4.index t = ![0, 0, 0]) t
theorem index5 (t : Fin cfg0.N) : win0_5.index t = ![0, 0, 0] := (by decide +kernel : ∀ t : Fin cfg0.N, win0_5.index t = ![0, 0, 0]) t
theorem index6 (t : Fin cfg0.N) : win0_6.index t = ![0, 0, 0] := (by decide +kernel : ∀ t : Fin cfg0.N, win0_6.index t = ![0, 0, 0]) t

theorem iblk0_eq (t : Fin cfg0.N) : iblk m c 0 t = V m c main_v0 := by funext y; blk_ext [iblk, index0 t]
theorem iblk1_eq (t : Fin cfg0.N) : iblk m c 1 t = V m c main_arg1 := by funext y; blk_ext [iblk, index1 t]
theorem iblk2_eq (t : Fin cfg0.N) : iblk m c 2 t = V m c main_v1 := by funext y; blk_ext [iblk, index2 t]
theorem iblk3_eq (t : Fin cfg0.N) : iblk m c 3 t = V m c main_arg3 := by funext y; blk_ext [iblk, index3 t]
theorem iblk4_eq (t : Fin cfg0.N) : iblk m c 4 t = V m c main_arg4 := by funext y; blk_ext [iblk, index4 t]

/-- The scaled sum of the codes, -/
def sumM : FVec Ideal S2x14336x8192 .f32 := k0_pay2 (V m c main_v0) (V m c main_arg1) (V m c main_v1) (V m c main_arg3)
/-- its product with q, -/
def sumP : FVec Ideal S2x14336x4 .f32 := k0_pay3 (V m c main_v0) (V m c main_arg1) (V m c main_v1) (V m c main_arg3) (V m c main_arg4)
/-- the first result, -/
def finalP : FVec Ideal S2x4x14336 .f32 := stackC (col0 (sumP m c)) (col1 (sumP m c)) (col2 (sumP m c)) (col3 (sumP m c))
/-- and the second. -/
def finalQ : FVec Ideal S2x4x8192 .f32 := k0_pay1 (sumM m c) (finalP m c)

theorem ld_whole0 {e : EltTy} (x : Vec Ideal S2x14336x8192 e) : View.ld (Val := Elt Ideal) x r0_0 = x := by
  funext y; refine congrArg x (funext fun a => Fin.ext ((Rect.idx_unit_val _ _ _ y a).trans ?_)); fin_cases a <;> exact Nat.zero_add _
theorem ld_whole1 (x : Vec Ideal S2x112x64 .f32) : View.ld (Val := Elt Ideal) x r0_1 = x := by
  funext y; refine congrArg x (funext fun a => Fin.ext ((Rect.idx_unit_val _ _ _ y a).trans ?_)); fin_cases a <;> exact Nat.zero_add _
theorem ld_whole2 (x : Vec Ideal S2x8192x4 .f32) : View.ld (Val := Elt Ideal) x r0_2 = x := by
  funext y; refine congrArg x (funext fun a => Fin.ext ((Rect.idx_unit_val _ _ _ y a).trans ?_)); fin_cases a <;> exact Nat.zero_add _

theorem pay10_eq (t : Fin cfg0.N) : k0_pay10 (iblk m c 0 t) (iblk m c 1 t) (iblk m c 2 t) (iblk m c 3 t) (iblk m c 4 t) = finalP m c := by
  rw [iblk0_eq, iblk1_eq, iblk2_eq, iblk3_eq, iblk4_eq, k0_pay10, ld_whole0, ld_whole0, ld_whole1, ld_whole1, ld_whole2, pay9_eq]
  rfl

theorem out5_eq (t : Fin cfg0.N) : out0_5 (iblk m c 0 t) (iblk m c 1 t) (iblk m c 2 t) (iblk m c 3 t) (iblk m c 4 t) = finalP m c := by
  rw [out0_5, pay10_eq]
  exact View.canon_cons_unit_lit _ _ _ (fun a => by fin_cases a <;> rfl)

theorem out6_eq (t : Fin cfg0.N) : out0_6 (iblk m c 0 t) (iblk m c 1 t) (iblk m c 2 t) (iblk m c 3 t) (iblk m c 4 t) = finalQ m c := by
  rw [out0_6, pay10_eq, iblk0_eq, iblk1_eq, iblk2_eq, iblk3_eq, ld_whole0, ld_whole0, ld_whole1, ld_whole1]
  exact View.canon_cons_unit_lit _ _ _ (fun a => by fin_cases a <;> rfl)

theorem arr5 : (dats m 0 c).arrAt 5 cfg0.N = finalP m c := by
  refine (dats m 0 c).arrAt_eq_of_covers 5 _ (by decide +kernel) fun t hf y => ?_
  blk_simp
  rw [after0_5, out5_eq]
  blk_ext [index5 t]

theorem arr6 : (dats m 0 c).arrAt 6 cfg0.N = finalQ m c := by
  refine (dats m 0 c).arrAt_eq_of_covers 6 _ (by decide +kernel) fun t hf y => ?_
  blk_simp
  rw [after0_6, out6_eq]
  blk_ext [index6 t]

/-! ## The results in real numbers -/

section

variable (gs es : Fin 2 → Fin 112 → Fin 64 → ℝ) (g e : Fin 2 → Fin 14336 → Fin 8192 → ℝ) (q : Fin 2 → Fin 4 → Fin 8192 → ℝ)

/-- The arrays the reference reads hold the given reals. -/
structure Holds : Prop where
  gs : ∀ b v n, V m c main_arg1 (ix3 b v n) = ((gs b v n : ℝ) : EReal)
  es : ∀ b v n, V m c main_arg3 (ix3 b v n) = ((es b v n : ℝ) : EReal)
  g : ∀ b s d, V m c main_v0 (ix3 b s d) = ((g b s d : ℝ) : EReal)
  e : ∀ b s d, V m c main_v1 (ix3 b s d) = ((e b s d : ℝ) : EReal)
  q : ∀ b k d, V m c main_arg4 (ix3 b d k) = ((q b k d : ℝ) : EReal)

variable (H : Holds m c gs es g e q)
include H

theorem sumM_apply (b : Fin 2) (s : Fin 14336) (d : Fin 8192) : sumM m c (ix3 b s d) = ((matM gs es g e b s d : ℝ) : EReal) := by
  rw [sumM, pay2_apply, H.g, H.e, H.gs, H.es, ← EReal.coe_mul, ← EReal.coe_mul, ← EReal.coe_add]
  rfl

theorem sumP_apply (b : Fin 2) (s : Fin 14336) (k : Fin 4) : sumP m c (ix3 b s k) = ((matP gs es g e q b k s : ℝ) : EReal) := by
  have h := sumM_apply m c gs es g e q H b s
  rw [sumM] at h
  rw [sumP, pay3_apply, matP, ← sum_coe]
  refine Finset.sum_congr rfl fun d _ => ?_
  rw [h, H.q, ← EReal.coe_mul, mul_comm]

theorem finalP_apply (b : Fin 2) (k : Fin 4) (s : Fin 14336) : finalP m c (ix3 b k s) = orth (fun k => re (matP gs es g e q b k)) k s := by
  rw [finalP, stackC_apply, fn_cols]
  refine congrArg (fun f => orth f k s) (funext fun k => funext fun s => ?_)
  exact sumP_apply m c gs es g e q H b s k

theorem finalQ_apply (b : Fin 2) (k : Fin 4) (d : Fin 8192) :
    finalQ m c (ix3 b k d) = ∑ s, orth (fun k => re (matP gs es g e q b k)) k s * ((matM gs es g e b s d : ℝ) : EReal) := by
  rw [finalQ, pay1_apply]
  refine Finset.sum_congr rfl fun s _ => ?_
  rw [finalP_apply m c gs es g e q H, sumM_apply m c gs es g e q H]

end

end Cert.ReferenceIdeal.Gen

end
-- ==== Proof.Codes.lean ====
/- The fp8 codes: the number the predicate decodes from a code's bits is the number the code denotes. -/
module

public import Idealize.ShloMosaic.PureOps.Ideal
public import Idealize.ShloMosaic.Lib.Pointwise

@[expose] public section

set_option maxRecDepth 16384

noncomputable section

namespace Cert.Codes

open Idealize.ShloMosaic

/-- The parts of an f32 word made of the low seven bits of a code by a shift to the left: no sign, and at a shift of
    21 an e5m2 code's exponent and its fraction, at a shift of 20 an e4m3 code's. -/
theorem shifted5 : ∀ b : BitVec 8,
    (((b.signExtend 32 &&& 127#32) <<< 21).extractLsb' 31 1 == 1#1) = false
    ∧ ((b.signExtend 32 &&& 127#32) <<< 21).extractLsb' 23 8 = (b.extractLsb' 2 5).setWidth 8
    ∧ (((b.signExtend 32 &&& 127#32) <<< 21).extractLsb' 0 23).toNat = (b.extractLsb' 0 2).toNat * 2 ^ 21
    ∧ IntOp.cmpi .slt (b.signExtend 32) 0#32 = (b.extractLsb' 7 1)
    ∧ (IntOp.cmpi .ne (b.signExtend 32 &&& 124#32) 124#32 = 1#1 → (b.extractLsb' 2 5).toNat ≠ 31) := by decide +kernel

theorem shifted4 : ∀ b : BitVec 8,
    (((b.signExtend 32 &&& 127#32) <<< 20).extractLsb' 31 1 == 1#1) = false
    ∧ ((b.signExtend 32 &&& 127#32) <<< 20).extractLsb' 23 8 = (b.extractLsb' 3 4).setWidth 8
    ∧ (((b.signExtend 32 &&& 127#32) <<< 20).extractLsb' 0 23).toNat = (b.extractLsb' 0 3).toNat * 2 ^ 20
    ∧ IntOp.cmpi .slt (b.signExtend 32) 0#32 = (b.extractLsb' 7 1)
    ∧ (IntOp.cmpi .ne (b.signExtend 32 &&& 127#32) 127#32 = 1#1 → ¬ ((b.extractLsb' 3 4).toNat = 15 ∧ (b.extractLsb' 0 3).toNat = 7)) := by decide +kernel

/-- The value of an f32 word without a sign, of exponent below 255. -/
theorem f32_plain (w : BitVec 32) (x : BitVec 8) (f : Nat) (hs : (w.extractLsb' 31 1 == 1#1) = false) (hx : w.extractLsb' 23 8 = x)
    (hf : (w.extractLsb' 0 23).toNat = f) (h : x.toNat ≠ 255) :
    Ideal.ofBits .f32 w = ((if x.toNat = 0 then (f : ℝ) * (2 : ℝ) ^ (-149 : ℤ) else (2 ^ 23 + f : ℝ) * (2 : ℝ) ^ ((x.toNat : ℤ) - 150) : ℝ) : EReal) := by
  show Ideal.ieee 8 23 w = _
  unfold Ideal.ieee
  have hx' : (w.extractLsb' 23 8).toNat = x.toNat := by rw [hx]
  simp only [show 8 + 23 = 31 from rfl, hs, hx', hf, Bool.false_eq_true, if_false, one_mul]
  rw [if_neg (by simpa using h)]
  split_ifs with h0
  · rfl
  · refine congrArg Real.toEReal ?_
    norm_num [sub_sub]

theorem unit5 : Ideal.ofBits .f32 0x77800000#32 = (((2 : ℝ) ^ (112 : ℤ) : ℝ) : EReal) := by
  rw [f32_plain 0x77800000#32 239#8 0 (by decide) (by decide) (by decide) (by decide), if_neg (by decide)]
  refine congrArg _ ?_
  norm_num

theorem unit4 : Ideal.ofBits .f32 0x7B800000#32 = (((2 : ℝ) ^ (120 : ℤ) : ℝ) : EReal) := by
  rw [f32_plain 0x7B800000#32 247#8 0 (by decide) (by decide) (by decide) (by decide), if_neg (by decide)]
  refine congrArg _ ?_
  norm_num

/-- The sign a bit stands for. -/
def sgn (s : BitVec 1) : ℝ := if s = 1#1 then -1 else 1

theorem sgn_mul (s : BitVec 1) (r : ℝ) : (if s = 1#1 then -(r : EReal) else (r : EReal)) = ((sgn s * r : ℝ) : EReal) := by
  unfold sgn
  split_ifs
  · rw [neg_one_mul, EReal.coe_neg]
  · rw [one_mul]

/-- The number of an e5m2 code that is neither an infinity nor a NaN, by its sign, its exponent and its fraction; -/
theorem ieee5 (b : BitVec 8) (s : BitVec 1) (x f : Nat) (hs : b.extractLsb' 7 1 = s) (hx : (b.extractLsb' 2 5).toNat = x)
    (hf : (b.extractLsb' 0 2).toNat = f) (h : x ≠ 31) :
    Ideal.ofBits .fp8e5m2 b = ((sgn s * (if x = 0 then (f : ℝ) * (2 : ℝ) ^ (-16 : ℤ) else (4 + f : ℝ) * (2 : ℝ) ^ ((x : ℤ) - 17)) : ℝ) : EReal) := by
  show Ideal.ieee 5 2 b = _
  unfold Ideal.ieee
  simp only [show 5 + 2 = 7 from rfl, hs, hx, hf, beq_iff_eq]
  rw [if_neg (by simpa using h)]
  change (if x = 0 then ((sgn s * f * (2 : ℝ) ^ _ : ℝ) : EReal) else ((sgn s * _ * (2 : ℝ) ^ _ : ℝ) : EReal)) = _
  split_ifs with h0
  · rw [mul_assoc]; rfl
  · rw [mul_assoc]
    refine congrArg Real.toEReal ?_
    norm_num [sub_sub]

/-- and of an e4m3 code that is no NaN. -/
theorem ieee4 (b : BitVec 8) (s : BitVec 1) (x f : Nat) (hs : b.extractLsb' 7 1 = s) (hx : (b.extractLsb' 3 4).toNat = x)
    (hf : (b.extractLsb' 0 3).toNat = f) (h : ¬ (x = 15 ∧ f = 7)) :
    Ideal.ofBits .fp8e4m3 b = ((sgn s * (if x = 0 then (f : ℝ) * (2 : ℝ) ^ (-9 : ℤ) else (8 + f : ℝ) * (2 : ℝ) ^ ((x : ℤ) - 10)) : ℝ) : EReal) := by
  show Ideal.e4m3fn b = _
  unfold Ideal.e4m3fn
  simp only [hs, hx, hf, beq_iff_eq]
  rw [if_neg h]
  change (if x = 0 then ((sgn s * f * (2 : ℝ) ^ _ : ℝ) : EReal) else ((sgn s * _ * (2 : ℝ) ^ _ : ℝ) : EReal)) = _
  split_ifs with h0
  · rw [mul_assoc]
  · rw [mul_assoc]; push_cast
    rfl

/-- An e5m2 code that is neither an infinity nor a NaN: a real number, and the predicate's decoding of its bits. -/
theorem e5m2 (b : BitVec 8) (h : IntOp.cmpi .ne (b.signExtend 32 &&& 124#32) 124#32 = 1#1) :
    ∃ r : ℝ, Ideal.ofBits .fp8e5m2 b = (r : EReal)
      ∧ Ideal.ofBits .f32 ((b.signExtend 32 &&& 127#32) <<< 21)
        * (if IntOp.cmpi .slt (b.signExtend 32) 0#32 = 1#1 then -(Ideal.ofBits .f32 0x77800000#32) else Ideal.ofBits .f32 0x77800000#32) = (r : EReal) := by
  obtain ⟨h1, h2, h3, h4, h5⟩ := shifted5 b
  have hl := (b.extractLsb' 2 5).isLt
  have hx : ((b.extractLsb' 2 5).setWidth 8).toNat = (b.extractLsb' 2 5).toNat := by rw [BitVec.toNat_setWidth]; omega
  rw [f32_plain _ _ _ h1 h2 h3 (by omega), hx, h4, unit5, ieee5 b _ _ _ rfl rfl rfl (h5 h)]
  refine ⟨_, rfl, ?_⟩
  rw [sgn_mul, ← EReal.coe_mul]
  refine congrArg _ ?_
  generalize (b.extractLsb' 2 5).toNat = x
  generalize (b.extractLsb' 0 2).toNat = f
  split_ifs with h0
  · push_cast; norm_num; ring
  · rw [zpow_sub₀ two_ne_zero, zpow_sub₀ two_ne_zero]
    push_cast; norm_num; ring

/-- The same of an e4m3 code that is no NaN. -/
theorem e4m3 (b : BitVec 8) (h : IntOp.cmpi .ne (b.signExtend 32 &&& 127#32) 127#32 = 1#1) :
    ∃ r : ℝ, Ideal.ofBits .fp8e4m3 b = (r : EReal)
      ∧ Ideal.ofBits .f32 ((b.signExtend 32 &&& 127#32) <<< 20)
        * (if IntOp.cmpi .slt (b.signExtend 32) 0#32 = 1#1 then -(Ideal.ofBits .f32 0x7B800000#32) else Ideal.ofBits .f32 0x7B800000#32) = (r : EReal) := by
  obtain ⟨h1, h2, h3, h4, h5⟩ := shifted4 b
  have hl := (b.extractLsb' 3 4).isLt
  have hx : ((b.extractLsb' 3 4).setWidth 8).toNat = (b.extractLsb' 3 4).toNat := by rw [BitVec.toNat_setWidth]; omega
  rw [f32_plain _ _ _ h1 h2 h3 (by omega), hx, h4, unit4, ieee4 b _ _ _ rfl rfl rfl (h5 h)]
  refine ⟨_, rfl, ?_⟩
  rw [sgn_mul, ← EReal.coe_mul]
  refine congrArg _ ?_
  generalize (b.extractLsb' 3 4).toNat = x
  generalize (b.extractLsb' 0 3).toNat = f
  split_ifs with h0
  · push_cast; norm_num; ring
  · rw [zpow_sub₀ two_ne_zero, zpow_sub₀ two_ne_zero]
    push_cast; norm_num; ring

end Cert.Codes

end
-- ==== Proof.Pre.lean ====
/- What the precondition says of the arguments, in real numbers. -/
module

public import proofs.«01_k».proof.Proof.Gram
public import proofs.«01_k».proof.Proof.Codes
public import proofs.«01_k».proof.Proof.Gen.Pre_full_rank
public import Idealize.ShloMosaic.Lib.Pointwise
public import Idealize.ShloMosaic.Lib.ReduceAll

@[expose] public section

set_option maxRecDepth 16384

noncomputable section

namespace Cert.Pre_full_rank.Gen

open Idealize.ShloMosaic Cert.Pre_full_rank
open Cert.Gram

section Terms

variable {F : FTy → Type} [FloatOps F]

/-- The words of an array of codes, -/
def words (x : IVec S2x14336x8192 8) : IVec S2x14336x8192 32 := extsi 32 x natLt_8_32
/-- the word `w` everywhere, -/
def allW (w : BitVec 32) : IVec S2x14336x8192 32 := broadcastInDim S2x14336x8192 ![] bcast_S_S2x14336x8192 (constantI S_ 32 w)
/-- and the numbers the predicate decodes from the codes of an array. -/
def decode (shift unit : BitVec 32) (x : IVec S2x14336x8192 8) : FVec F S2x14336x8192 .f32 :=
  mulf (bitcastToFloat .f32 (Host.shli (andi (words x) (allW 127#32)) (allW shift)))
    (fn_where (F := F) (cmpi .slt (words x) (allW 0#32)) (Host.negf (constant S_ .f32 unit)) (constant S_ .f32 unit))

/-- The scaled sum of the codes, -/
def sumH (u w : FVec F S2x14336x8192 .f32) (gs es : FVec F S2x112x64 .f32) : FVec F S2x14336x8192 .f32 :=
  shapeCast S2x14336x8192
    (addf (mulf (shapeCast S2x112x128x64x128 u shapeCasts_S2x14336x8192_S2x112x128x64x128)
        (broadcastInDim S2x112x128x64x128 ![0, 1, 2, 3, 4] bcast_S2x112x1x64x1_S2x112x128x64x128_0_1_2_3_4
          (broadcastInDim S2x112x1x64x1 ![0, 1, 3] bcast_S2x112x64_S2x112x1x64x1_0_1_3 gs)))
      (mulf (shapeCast S2x112x128x64x128 w shapeCasts_S2x14336x8192_S2x112x128x64x128)
        (broadcastInDim S2x112x128x64x128 ![0, 1, 2, 3, 4] bcast_S2x112x1x64x1_S2x112x128x64x128_0_1_2_3_4
          (broadcastInDim S2x112x1x64x1 ![0, 1, 3] bcast_S2x112x64_S2x112x1x64x1_0_1_3 es))))
    shapeCasts_S2x112x128x64x128_S2x14336x8192

/-- and its product with q. -/
def prodH (x : FVec F S2x14336x8192 .f32) (q : FVec F S2x8192x4 .f32) : FVec F S2x14336x4 .f32 :=
  Host.dotGeneral dot_S2x14336x8192_S2x8192x4_S2x14336x4_2_1_1_2_0_0 (some .fp32) x q

/-- The inner products of two columns, -/
def dotH (p q : FVec F S2x14336 .f32) : FVec F S2x1 .f32 :=
  broadcastInDim S2x1 ![0] bcast_S2_S2x1_0 (Host.reduceAdd (mulf p q) (constant S_ .f32 0x00000000#32) reducesTo_S2x14336_S2_d1 h_S_)
/-- one number for a batch entry along its column, -/
def alongH (n : FVec F S2x1 .f32) : FVec F S2x14336 .f32 := broadcastInDim S2x14336 ![0, 1] bcast_S2x1_S2x14336_0_1 n
/-- a column of length one, -/
def unitH (p : FVec F S2x14336 .f32) : FVec F S2x14336 .f32 := Host.divf p (alongH (Host.sqrt (dotH p p)))
/-- and what is left of `q` off the direction `p`. -/
def resH (p q : FVec F S2x14336 .f32) : FVec F S2x14336 .f32 := subf q (mulf (alongH (dotH p q)) p)

variable (p0 p1 p2 p3 : FVec F S2x14336 .f32)

def ort0 : FVec F S2x14336 .f32 := unitH p0
def ort1 : FVec F S2x14336 .f32 := unitH (resH (ort0 p0) p1)
def ort2 : FVec F S2x14336 .f32 := unitH (resH (ort1 p0 p1) (resH (ort0 p0) p2))
def ort3 : FVec F S2x14336 .f32 := unitH (resH (ort2 p0 p1 p2) (resH (ort1 p0 p1) (resH (ort0 p0) p3)))

/-- The four stacked. -/
def stackH : FVec F S2x4x14336 .f32 :=
  concatenate S2x4x14336 1
    [⟨S2x1x14336, broadcastInDim S2x1x14336 ![0, 2] bcast_S2x14336_S2x1x14336_0_2 (ort0 p0)⟩,
     ⟨S2x1x14336, broadcastInDim S2x1x14336 ![0, 2] bcast_S2x14336_S2x1x14336_0_2 (ort1 p0 p1)⟩,
     ⟨S2x1x14336, broadcastInDim S2x1x14336 ![0, 2] bcast_S2x14336_S2x1x14336_0_2 (ort2 p0 p1 p2)⟩,
     ⟨S2x1x14336, broadcastInDim S2x1x14336 ![0, 2] bcast_S2x14336_S2x1x14336_0_2 (ort3 p0 p1 p2 p3)⟩]
    concatenates_S2x1x14336_S2x1x14336_S2x1x14336_S2x1x14336_S2x4x14336_d1

/-- The columns of the product. -/
def colH0 (x : FVec F S2x14336x4 .f32) : FVec F S2x14336 .f32 :=
  shapeCast S2x14336 (extractStridedSlice S2x14336x1 ![0, 0, 0] x slices_S2x14336x4_S2x14336x1_0_0_0) shapeCasts_S2x14336x1_S2x14336
def colH1 (x : FVec F S2x14336x4 .f32) : FVec F S2x14336 .f32 :=
  shapeCast S2x14336 (extractStridedSlice S2x14336x1 ![0, 0, 1] x slices_S2x14336x4_S2x14336x1_0_0_1) shapeCasts_S2x14336x1_S2x14336
def colH2 (x : FVec F S2x14336x4 .f32) : FVec F S2x14336 .f32 :=
  shapeCast S2x14336 (extractStridedSlice S2x14336x1 ![0, 0, 2] x slices_S2x14336x4_S2x14336x1_0_0_2) shapeCasts_S2x14336x1_S2x14336
def colH3 (x : FVec F S2x14336x4 .f32) : FVec F S2x14336 .f32 :=
  shapeCast S2x14336 (extractStridedSlice S2x14336x1 ![0, 0, 3] x slices_S2x14336x4_S2x14336x1_0_0_3) shapeCasts_S2x14336x1_S2x14336

/-- The stack of the columns of a product. -/
def rowsH (x : FVec F S2x14336x4 .f32) : FVec F S2x4x14336 .f32 := stackH (colH0 x) (colH1 x) (colH2 x) (colH3 x)

/-! The six bits of the predicate. -/

/-- No code of the array has all the bits of `w`; -/
def codesB (w : BitVec 32) (x : IVec S2x14336x8192 8) : IVec S_ 1 :=
  Host.reduce IntOp.andi (cmpi .ne (andi (words x) (allW w)) (allW w)) (constantI S_ 1 1#1) reducesTo_S2x14336x8192_S_d0_1_2 h_S_
/-- every scale, -/
def scalesB (x : FVec F S2x112x64 .f32) : IVec S_ 1 :=
  Host.reduce IntOp.andi (cmpf .olt (Host.absf x) (broadcastInDim S2x112x64 ![] bcast_S_S2x112x64 (constant S_ .f32 0x7F800000#32)))
    (constantI S_ 1 1#1) reducesTo_S2x112x64_S_d0_1_2 h_S_
/-- every element of q, -/
def qB (x : FVec F S2x8192x4 .f32) : IVec S_ 1 :=
  Host.reduce IntOp.andi (cmpf .olt (Host.absf x) (broadcastInDim S2x8192x4 ![] bcast_S_S2x8192x4 (constant S_ .f32 0x7F800000#32)))
    (constantI S_ 1 1#1) reducesTo_S2x8192x4_S_d0_1_2 h_S_
/-- and every element of the orthogonalized rows is finite. -/
def rowsB (x : FVec F S2x4x14336 .f32) : IVec S_ 1 :=
  Host.reduce IntOp.andi (cmpf .olt (Host.absf x) (broadcastInDim S2x4x14336 ![] bcast_S_S2x4x14336 (constant S_ .f32 0x7F800000#32)))
    (constantI S_ 1 1#1) reducesTo_S2x4x14336_S_d0_1_2 h_S_

theorem fn_eq (a0 : IVec S2x14336x8192 8) (a1 : FVec F S2x112x64 .f32) (a2 : IVec S2x14336x8192 8) (a3 : FVec F S2x112x64 .f32)
    (a4 : FVec F S2x8192x4 .f32) :
    fn (F := F) a0 a1 a2 a3 a4
      = (codesB 124#32 a0, codesB 127#32 a2, scalesB a1, scalesB a3, qB a4,
          rowsB (rowsH (prodH (sumH (decode 21#32 0x77800000#32 a0) (decode 20#32 0x7B800000#32 a2) a1 a3) a4))) := rfl

end Terms

/-! ## Element by element -/

/-- A column of a batch entry as a function of its position, -/
def fnH (b : Fin 2) (p : FVec Ideal S2x14336 .f32) : Fin 14336 → EReal := fun s => p (ix2 b s)

theorem dotH_apply (b : Fin 2) (p q : FVec Ideal S2x14336 .f32) : dotH p q (ix2 b 0) = dot (fnH b p) (fnH b q) := by
  pointwise [dotH]
  rfl

theorem fn_unit (b : Fin 2) (p : FVec Ideal S2x14336 .f32) : fnH b (unitH p) = over (fnH b p) (len (fnH b p)) := by
  rw [len, ← dotH_apply]
  funext s
  unfold fnH
  pointwise [unitH, alongH]
  rfl

theorem fn_resH (b : Fin 2) (p q : FVec Ideal S2x14336 .f32) : fnH b (resH p q) = less (fnH b q) (dot (fnH b p) (fnH b q)) (fnH b p) := by
  rw [← dotH_apply]
  funext s
  unfold fnH
  pointwise [resH, alongH]
  rfl

section

variable (b : Fin 2) (p0 p1 p2 p3 : FVec Ideal S2x14336 .f32)

theorem fn_ort0 : fnH b (ort0 p0) = o0 (fnH b p0) := by rw [ort0, fn_unit]; rfl
theorem fn_ort1 : fnH b (ort1 p0 p1) = o1 (fnH b p0) (fnH b p1) := by rw [ort1, fn_unit, fn_resH, fn_ort0]; rfl
theorem fn_ort2 : fnH b (ort2 p0 p1 p2) = o2 (fnH b p0) (fnH b p1) (fnH b p2) := by
  rw [ort2, fn_unit, fn_resH, fn_resH, fn_ort0, fn_ort1]; rfl
theorem fn_ort3 : fnH b (ort3 p0 p1 p2 p3) = o3 (fnH b p0) (fnH b p1) (fnH b p2) (fnH b p3) := by
  rw [ort3, fn_unit, fn_resH, fn_resH, fn_resH, fn_ort0, fn_ort1, fn_ort2]; rfl

/-- Row `k` of the stack. -/
theorem stackH_apply (k : Fin 4) (s : Fin 14336) :
    stackH p0 p1 p2 p3 (ix3 b k s) = orth (fun k => ![fnH b p0, fnH b p1, fnH b p2, fnH b p3] k) k s := by
  obtain ⟨x0, h0⟩ : ∃ x, x = ort0 p0 := ⟨_, rfl⟩
  obtain ⟨x1, h1⟩ : ∃ x, x = ort1 p0 p1 := ⟨_, rfl⟩
  obtain ⟨x2, h2⟩ : ∃ x, x = ort2 p0 p1 p2 := ⟨_, rfl⟩
  obtain ⟨x3, h3⟩ : ∃ x, x = ort3 p0 p1 p2 p3 := ⟨_, rfl⟩
  have E0 := congrFun (fn_ort0 b p0) s
  have E1 := congrFun (fn_ort1 b p0 p1) s
  have E2 := congrFun (fn_ort2 b p0 p1 p2) s
  have E3 := congrFun (fn_ort3 b p0 p1 p2 p3) s
  rw [stackH, ← h0, ← h1, ← h2, ← h3]
  rw [← h0] at E0; rw [← h1] at E1; rw [← h2] at E2; rw [← h3] at E3
  fin_cases k
  · refine Eq.trans ?_ E0; unfold fnH; pointwise
  · refine Eq.trans ?_ E1; unfold fnH; pointwise
  · refine Eq.trans ?_ E2; unfold fnH; pointwise
  · refine Eq.trans ?_ E3; unfold fnH; pointwise

theorem fn_colsH (x : FVec Ideal S2x14336x4 .f32) :
    (fun k => (![fnH b (colH0 x), fnH b (colH1 x), fnH b (colH2 x), fnH b (colH3 x)] : Fin 4 → Fin 14336 → EReal) k) = fun k s => x (ix3 b s k) := by
  funext k s
  fin_cases k
  · show colH0 x (ix2 b s) = x (ix3 b s 0); pointwise [colH0]
  · show colH1 x (ix2 b s) = x (ix3 b s 1); pointwise [colH1]
  · show colH2 x (ix2 b s) = x (ix3 b s 2); pointwise [colH2]
  · show colH3 x (ix2 b s) = x (ix3 b s 3); pointwise [colH3]

theorem rowsH_apply (x : FVec Ideal S2x14336x4 .f32) (k : Fin 4) (s : Fin 14336) :
    rowsH x (ix3 b k s) = orth (fun k s => x (ix3 b s k)) k s := by
  rw [rowsH, stackH_apply, fn_colsH]

end

theorem sumH_apply (u w : FVec Ideal S2x14336x8192 .f32) (gs es : FVec Ideal S2x112x64 .f32) (b : Fin 2) (s : Fin 14336) (d : Fin 8192) :
    sumH u w gs es (ix3 b s d) = u (ix3 b s d) * gs (ix3 b ⟨s.val / 128, by omega⟩ ⟨d.val / 128, by omega⟩)
      + w (ix3 b s d) * es (ix3 b ⟨s.val / 128, by omega⟩ ⟨d.val / 128, by omega⟩) := by
  pointwise [sumH]

theorem prodH_apply (x : FVec Ideal S2x14336x8192 .f32) (q : FVec Ideal S2x8192x4 .f32) (b : Fin 2) (s : Fin 14336) (k : Fin 4) :
    prodH x q (ix3 b s k) = ∑ d : Fin 8192, x (ix3 b s d) * q (ix3 b d k) := by
  pointwise [prodH]

theorem decode_apply (shift unit : BitVec 32) (x : IVec S2x14336x8192 8) (b : Fin 2) (s : Fin 14336) (d : Fin 8192) :
    decode (F := Ideal) shift unit x (ix3 b s d)
      = Ideal.ofBits .f32 (IntOp.shli .host ((x (ix3 b s d)).signExtend 32 &&& 127#32) shift)
        * (if IntOp.cmpi .slt ((x (ix3 b s d)).signExtend 32) 0#32 = 1#1 then -(Ideal.ofBits .f32 unit) else Ideal.ofBits .f32 unit) := by
  pointwise [decode, words, allW, fn_where]
  rfl

/-- An extended real of size below the infinity is a real number. -/
theorem cmp_lt_top (x : EReal) (h : Ideal.cmp .olt (max x (-x)) (Ideal.ofBits .f32 0x7F800000#32) = 1#1) : ∃ r : ℝ, x = (r : EReal) := by
  have ht : Ideal.ofBits .f32 0x7F800000#32 = ⊤ := by
    simp [Ideal.ofBits, Ideal.ieee]
  rw [ht] at h
  have hm : max x (-x) < ⊤ := by
    cases hd : decide (max x (-x) < ⊤) with
    | true => exact of_decide_eq_true hd
    | false =>
      have h' : BitVec.ofBool (decide (max x (-x) < ⊤)) = 1#1 := h
      rw [hd] at h'
      exact absurd h' (by decide)
  obtain ⟨h1, h2⟩ := max_lt_iff.1 hm
  exact ⟨x.toReal, (EReal.coe_toReal h1.ne fun hb => by rw [hb] at h2; exact absurd h2 (by simp)).symm⟩

theorem codesB_apply (w : BitVec 32) (x : IVec S2x14336x8192 8) (h : codesB w x = fun _ => 1#1) (b : Fin 2) (s : Fin 14336) (d : Fin 8192) :
    IntOp.cmpi .ne ((x (ix3 b s d)).signExtend 32 &&& w) w = 1#1 := by
  have := Host.reduce_andi_all _ _ _ _ ix0 (congrFun h ix0) (ix3 b s d)
  revert this
  pointwise [words, allW]
  exact id

theorem scalesB_apply (x : FVec Ideal S2x112x64 .f32) (h : scalesB x = fun _ => 1#1) (b : Fin 2) (v : Fin 112) (n : Fin 64) :
    ∃ r : ℝ, x (ix3 b v n) = (r : EReal) :=
  cmp_lt_top _ (Host.reduce_andi_all _ _ _ _ ix0 (congrFun h ix0) (ix3 b v n))

theorem qB_apply (x : FVec Ideal S2x8192x4 .f32) (h : qB x = fun _ => 1#1) (b : Fin 2) (d : Fin 8192) (k : Fin 4) :
    ∃ r : ℝ, x (ix3 b d k) = (r : EReal) :=
  cmp_lt_top _ (Host.reduce_andi_all _ _ _ _ ix0 (congrFun h ix0) (ix3 b d k))

theorem rowsB_apply (x : FVec Ideal S2x4x14336 .f32) (h : rowsB x = fun _ => 1#1) (b : Fin 2) (k : Fin 4) (s : Fin 14336) :
    ∃ r : ℝ, x (ix3 b k s) = (r : EReal) :=
  cmp_lt_top _ (Host.reduce_andi_all _ _ _ _ ix0 (congrFun h ix0) (ix3 b k s))

/-- Under the precondition the arguments hold real numbers, whose orthogonalized product is finite. -/
theorem reals (a0 : IVec S2x14336x8192 8) (a1 : FVec Ideal S2x112x64 .f32) (a2 : IVec S2x14336x8192 8) (a3 : FVec Ideal S2x112x64 .f32)
    (a4 : FVec Ideal S2x8192x4 .f32) (h0 : (fn (F := Ideal) a0 a1 a2 a3 a4).1 = fun _ => 1#1)
    (h1 : (fn (F := Ideal) a0 a1 a2 a3 a4).2.1 = fun _ => 1#1) (h2 : (fn (F := Ideal) a0 a1 a2 a3 a4).2.2.1 = fun _ => 1#1)
    (h3 : (fn (F := Ideal) a0 a1 a2 a3 a4).2.2.2.1 = fun _ => 1#1) (h4 : (fn (F := Ideal) a0 a1 a2 a3 a4).2.2.2.2.1 = fun _ => 1#1)
    (h5 : (fn (F := Ideal) a0 a1 a2 a3 a4).2.2.2.2.2 = fun _ => 1#1) :
    ∃ (gs es : Fin 2 → Fin 112 → Fin 64 → ℝ) (g e : Fin 2 → Fin 14336 → Fin 8192 → ℝ) (q : Fin 2 → Fin 4 → Fin 8192 → ℝ),
      (∀ b v n, a1 (ix3 b v n) = (gs b v n : EReal)) ∧ (∀ b v n, a3 (ix3 b v n) = (es b v n : EReal))
      ∧ (∀ b s d, Ideal.ofBits .fp8e5m2 (a0 (ix3 b s d)) = (g b s d : EReal)) ∧ (∀ b s d, Ideal.ofBits .fp8e4m3 (a2 (ix3 b s d)) = (e b s d : EReal))
      ∧ (∀ b k d, a4 (ix3 b d k) = (q b k d : EReal))
      ∧ ∀ b k s, ∃ r : ℝ, orth (fun k => re (matP gs es g e q b k)) k s = (r : EReal) := by
  rw [fn_eq] at h0 h1 h2 h3 h4 h5
  dsimp only at h0 h1 h2 h3 h4 h5
  choose g hg hg' using fun b s d => Codes.e5m2 (a0 (ix3 b s d)) (codesB_apply 124#32 a0 h0 b s d)
  choose e he he' using fun b s d => Codes.e4m3 (a2 (ix3 b s d)) (codesB_apply 127#32 a2 h1 b s d)
  choose gs hgs using scalesB_apply _ h2
  choose es hes using scalesB_apply _ h3
  choose q hq using fun b k d => qB_apply _ h4 b d k
  refine ⟨gs, es, g, e, q, hgs, hes, hg, he, hq, fun b k s => ?_⟩
  obtain ⟨r, hr⟩ := rowsB_apply _ h5 b k s
  refine ⟨r, Eq.trans ?_ hr⟩
  rw [rowsH_apply]
  refine congrArg (fun f => orth f k s) (funext fun k => funext fun s => ?_)
  rw [prodH_apply, re, matP, ← sum_coe]
  refine Finset.sum_congr rfl fun d _ => ?_
  have hG := (decode_apply 21#32 0x77800000#32 a0 b s d).trans (hg' b s d)
  have hE := (decode_apply 20#32 0x7B800000#32 a2 b s d).trans (he' b s d)
  rw [sumH_apply, hG, hE, hgs, hes, hq, ← EReal.coe_mul, ← EReal.coe_mul, ← EReal.coe_add, ← EReal.coe_mul, mul_comm (q b k d)]
  rfl

end Cert.Pre_full_rank.Gen

end
-- ==== Proof.Agree.lean ====
/- Under the precondition the ideal kernel and the ideal reference end with the same two results. -/
module

public import proofs.«01_k».proof.Defs
public import proofs.«01_k».proof.Proof.Rows
public import proofs.«01_k».proof.Proof.RefRun
public import proofs.«01_k».proof.Proof.Pre

@[expose] public section

noncomputable section

namespace Cert.Agree

open Idealize.ShloMosaic Idealize.ShloMosaic.TcCoe Idealize.ShloMosaic.Tactic Idealize.SL.Sem
open Cert.Gram

/-- The kernel's memory, -/
abbrev MemK := (ℓ : Loc Cert.KernelIdeal.nD Cert.KernelIdeal.τ Cert.KernelIdeal.sig) → Buf (Elt Ideal) ℓ
/-- and the reference's. -/
abbrev MemR := (ℓ : Loc Cert.ReferenceIdeal.nD Cert.ReferenceIdeal.τ Cert.ReferenceIdeal.sig) → Buf (Elt Ideal) ℓ

variable (m : MemK) (m' : MemR) (c : Dev Cert.KernelIdeal.nD)

/-! ## What the host operations leave in the arrays the two regions read -/

theorem kernel_g : Cert.KernelIdeal.Gen.V m c Cert.KernelIdeal.main_v0
    = bitcastToFloat (F := Ideal) .fp8e5m2 (m ((c.tc : Thread Cert.KernelIdeal.nD Cert.KernelIdeal.τ).loc Cert.KernelIdeal.main_arg0)) := by
  show StableHlo.after Cert.KernelIdeal.Gen.hostOps0 _ (Proc.devRef .tc Cert.KernelIdeal.main_v0) = _
  after_results

theorem kernel_e : Cert.KernelIdeal.Gen.V m c Cert.KernelIdeal.main_v1
    = bitcastToFloat (F := Ideal) .fp8e4m3 (m ((c.tc : Thread Cert.KernelIdeal.nD Cert.KernelIdeal.τ).loc Cert.KernelIdeal.main_arg2)) := by
  show StableHlo.after Cert.KernelIdeal.Gen.hostOps0 _ (Proc.devRef .tc Cert.KernelIdeal.main_v1) = _
  after_results

theorem kernel_q (b : Fin 2) (k : Fin 4) (d : Fin 8192) : Cert.KernelIdeal.Gen.V m c Cert.KernelIdeal.main_v2 (ix3 b k d)
    = m ((c.tc : Thread Cert.KernelIdeal.nD Cert.KernelIdeal.τ).loc Cert.KernelIdeal.main_arg4) (ix3 b d k) := by
  show StableHlo.after Cert.KernelIdeal.Gen.hostOps0 _ (Proc.devRef .tc Cert.KernelIdeal.main_v2) _ = _
  after_results
  pointwise

theorem reference_g : Cert.ReferenceIdeal.Gen.V m' c Cert.ReferenceIdeal.main_v0
    = bitcastToFloat (F := Ideal) .fp8e5m2 (m' ((c.tc : Thread Cert.ReferenceIdeal.nD Cert.ReferenceIdeal.τ).loc Cert.ReferenceIdeal.main_arg0)) := by
  show StableHlo.after Cert.ReferenceIdeal.Gen.hostOps0 _ (Proc.devRef .tc Cert.ReferenceIdeal.main_v0) = _
  after_results

theorem reference_e : Cert.ReferenceIdeal.Gen.V m' c Cert.ReferenceIdeal.main_v1
    = bitcastToFloat (F := Ideal) .fp8e4m3 (m' ((c.tc : Thread Cert.ReferenceIdeal.nD Cert.ReferenceIdeal.τ).loc Cert.ReferenceIdeal.main_arg2)) := by
  show StableHlo.after Cert.ReferenceIdeal.Gen.hostOps0 _ (Proc.devRef .tc Cert.ReferenceIdeal.main_v1) = _
  after_results

/-! ## The two results -/

/-- The reference's arguments are the kernel's. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable (gs es : Fin 2 → Fin 112 → Fin 64 → ℝ) (g e : Fin 2 → Fin 14336 → Fin 8192 → ℝ) (q : Fin 2 → Fin 4 → Fin 8192 → ℝ)

/-- Where both hold the same reals and the orthogonalized rows are finite, the results agree: the first results are the
    same rows, and the kernel's second, which takes the steps of the orthogonalization on the images of the rows, is the
    product of the orthogonalized rows with the matrix, which the reference forms. -/
theorem of_reals (K : Cert.KernelIdeal.Gen.Holds m c gs es g e q) (R : Cert.ReferenceIdeal.Gen.Holds m' c gs es g e q)
    (h : ∀ b k s, ∃ r : ℝ, orth (fun k => re (matP gs es g e q b k)) k s = (r : EReal)) :
    Cert.ReferenceIdeal.Gen.finalP m' c = Cert.KernelIdeal.Gen.finalP m c ∧ Cert.ReferenceIdeal.Gen.finalQ m' c = Cert.KernelIdeal.Gen.finalQ m c := by
  constructor
  · refine funext fun y => ?_
    obtain ⟨b, k, i, rfl⟩ : ∃ (b : Fin 2) (k : Fin 4) (i : Fin 14336), y = ix3 b k i := ⟨y 0, y 1, y 2, eq_ix3 y⟩
    exact (Cert.ReferenceIdeal.Gen.finalP_apply m' c gs es g e q R b k i).trans (Cert.KernelIdeal.Gen.finalP_apply m c gs es g e q K b k i).symm
  · refine funext fun y => ?_
    obtain ⟨b, k, d, rfl⟩ : ∃ (b : Fin 2) (k : Fin 4) (d : Fin 8192), y = ix3 b k d := ⟨y 0, y 1, y 2, eq_ix3 y⟩
    refine (Cert.ReferenceIdeal.Gen.finalQ_apply m' c gs es g e q R b k d).trans (Eq.trans ?_ (Cert.KernelIdeal.Gen.finalQ_apply m c gs es g e q K b k d).symm)
    obtain ⟨o, ho, hi⟩ := image_eq (κ := Fin 8192) (matP gs es g e q b) (h b)
    rw [hi (matM gs es g e b) k, ho]
    show ∑ s, ((o k s : ℝ) : EReal) * ((matM gs es g e b s d : ℝ) : EReal) = ((∑ s, o k s * matM gs es g e b s d : ℝ) : EReal)
    rw [← sum_coe]
    exact Finset.sum_congr rfl fun s _ => (EReal.coe_mul _ _).symm

/-- The results agree where the precondition holds. -/
theorem results (hs : ∀ c, Same m m' c) (hp : Cert.Pre_KernelIdeal_full_rank m) :
    Cert.ReferenceIdeal.Gen.finalP m' c = Cert.KernelIdeal.Gen.finalP m c ∧ Cert.ReferenceIdeal.Gen.finalQ m' c = Cert.KernelIdeal.Gen.finalQ m c := by
  obtain ⟨s0, s1, s2, s3, s4⟩ := hs c
  obtain ⟨h0, h1, h2, h3, h4, h5⟩ := hp c
  obtain ⟨gs, es, g, e, q, hgs, hes, hg, he, hq, h⟩ := Cert.Pre_full_rank.Gen.reals _ _ _ _ _ h0 h1 h2 h3 h4 h5
  refine of_reals m m' c gs es g e q ⟨?_, ?_, ?_, ?_, ?_⟩ ⟨?_, ?_, ?_, ?_, ?_⟩ h
  · exact fun b v n => (congrFun (Cert.KernelIdeal.Gen.V_main_arg1 m c) _).trans (hgs b v n)
  · exact fun b v n => (congrFun (Cert.KernelIdeal.Gen.V_main_arg3 m c) _).trans (hes b v n)
  · exact fun b s d => (congrFun (kernel_g m c) _).trans (hg b s d)
  · exact fun b s d => (congrFun (kernel_e m c) _).trans (he b s d)
  · exact fun b k d => (kernel_q m c b k d).trans (hq b k d)
  · exact fun b v n => (congrFun ((Cert.ReferenceIdeal.Gen.V_main_arg1 m' c).trans s1) _).trans (hgs b v n)
  · exact fun b v n => (congrFun ((Cert.ReferenceIdeal.Gen.V_main_arg3 m' c).trans s3) _).trans (hes b v n)
  · exact fun b s d => (congrFun ((reference_g m' c).trans (congrArg _ s0)) _).trans (hg b s d)
  · exact fun b s d => (congrFun ((reference_e m' c).trans (congrArg _ s2)) _).trans (he b s d)
  · exact fun b k d => (congrFun ((Cert.ReferenceIdeal.Gen.V_main_arg4 m' c).trans s4) _).trans (hq b k d)

/-- The claim: both programs run, with the kernel's results in both memories and their arguments unchanged. -/
theorem algebraic : Cert.algebraic_KernelIdeal_ReferenceIdeal_pre_full_rank := by
  intro m g m' g' hp hs
  refine ⟨fun c => Cert.KernelIdeal.Gen.finalP m c, fun c => Cert.KernelIdeal.Gen.finalQ m c, ?_, ?_⟩
  · exact (θ_run _ _ _).mono (fun r h c => ⟨(h.1 c).1, (h.1 c).2, h.2.1 c⟩)
      (θ_run_and (Cert.KernelIdeal.Gen.run_value m g) (Cert.KernelIdeal.Gen.frame m g))
  · refine (θ_run _ _ _).mono (fun r h c => ?_) (Cert.ReferenceIdeal.Value.run_blocks m' g')
    obtain ⟨hP, hQ⟩ := results m m' c hs hp
    exact ⟨(h c).1.trans ((Cert.ReferenceIdeal.Gen.arr5 m' c).trans hP), (h c).2.1.trans ((Cert.ReferenceIdeal.Gen.arr6 m' c).trans hQ), (h c).2.2⟩

end Cert.Agree

end
-- ==== Proof.RqTiles.lean ====
/- The work of the call `requant` at one grid point, block by block, written once for every block: what the body computes is
   these functions at each of the 128 blocks of 128 by 128 errors. -/
module

public import proofs.«01_k».proof.Proof.Gen.RequantIdeal.Frame.Runs

@[expose] public section

noncomputable section

namespace Cert.RequantIdeal.Gen

open Idealize.ShloMosaic Idealize.ShloMosaic.TcCoe

variable {F : FTy → Type} [FloatOps F]

/-! ## What a block reads -/

/-- The offsets of the scale of row block `r` (of the two of a point) and column block `n`, as the kernel computes them. -/
def scaleOff (i : grid0.Coords) (r : BitVec 32) (n : ℕ) : Fin 3 → ℕ :=
  ![(Scalar.indexCast (BitVec.ofNat 32 (i 0).val)).toNat,
    (Scalar.indexCast (Scalar.addi (Scalar.muli (BitVec.ofNat 32 (i 1).val) 2#32) r)).toNat, n]

/-- In closed form: batch entry, row block, column block. -/
theorem scaleOff_eq (i : grid0.Coords) (r : Fin 2) (n : ℕ) :
    scaleOff i (BitVec.ofNat 32 r.val) n = ![(i 0).val, 2 * (i 1).val + r.val, n] := by
  have h := k0_off1_eq i r
  have h0 := congrFun h 0
  have h1 := congrFun h 1
  funext a
  fin_cases a
  · exact h0
  · exact h1
  · rfl

theorem scaleOff_inb (i : grid0.Coords) (r : Fin 2) (n : ℕ) (hn : n < 64) :
    ∀ a, (scaleOff i (BitVec.ofNat 32 r.val) n) a + S1x1x1.size a ≤ S2x112x64.size a := by
  rw [scaleOff_eq]
  have h0 : (i 0).val < 2 := (i 0).isLt
  have h1 : (i 1).val < 56 := (i 1).isLt
  have hr := r.isLt
  intro a
  fin_cases a <;> simp [S1x1x1, S2x112x64, Shape.size] <;> omega

/-- Block `s` is in row block `s / 64` of the point, -/
def rowOf (s : Fin 128) : Fin 2 := ⟨s.val / 64, by omega⟩
/-- in tile `s % 64 / 2` of 256 columns, -/
def tileOf (s : Fin 128) : Fin 32 := ⟨s.val % 64 / 2, by omega⟩
/-- in its half `s % 2`. -/
def halfOf (s : Fin 128) : Fin 2 := ⟨s.val % 2, by omega⟩

/-- A scale, read from its table in scalar memory. -/
def rdScale (i : grid0.Coords) (a : Memref sig .tc .smem S2x112x64 .f32) (ha : a.IsWhole) (x : Vec F S2x112x64 .f32) (s : Fin 128) : Elt F .f32 :=
  View.readAt (Elt F) a.view (Rect.unit (s := S2x112x64) (scaleOff i (BitVec.ofNat 32 (rowOf s).val) (s.val % 64)) S1x1x1.size
    (scaleOff_inb i (rowOf s) _ (by omega))).toLoadRect (ha.unread x) (Shape.Idx.first (show 0 < S1x1x1.numel by decide))

theorem blockOff_inb (s : Fin 128) : ∀ a, (![0, 128 * (s.val / 64), 128 * (s.val % 64)] : Fin 3 → ℕ) a + S1x128x128.size a ≤ S1x256x8192.size a := by
  have := s.isLt
  intro a
  fin_cases a <;> simp [S1x128x128, S1x256x8192, Shape.size] <;> omega

/-- The rectangle of a block in the codes of a point. -/
def blockRect (s : Fin 128) : Rect S1x256x8192 :=
  Rect.unit (s := S1x256x8192) ![0, 128 * (s.val / 64), 128 * (s.val % 64)] S1x128x128.size (blockOff_inb s)

/-- A block of codes. -/
def rdCodes {e : EltTy} (a : Memref sig .tc .vmem S1x256x8192 e) (ha : a.IsWhole) (x : Vec F S1x256x8192 e) (s : Fin 128) : Vec F S1x128x128 e :=
  View.readAt (Elt F) a.view (Rect.unit (s := S1x256x8192) ![0, 128 * (s.val / 64), 128 * (s.val % 64)] S1x128x128.size (blockOff_inb s)).toLoadRect (ha.unread x)

theorem tileOff_inb (t : Fin 32) : ∀ a, (![0, 256 * t.val] : Fin 2 → ℕ) a + S32x256.size a ≤ S32x8192.size a := by
  have := t.isLt
  intro a
  fin_cases a <;> simp [S32x256, S32x8192, Shape.size]
  omega

/-- A tile of the limbs of q_new. -/
def rdLimbs (a : Memref sig .tc .vmem S32x8192 .bf16) (ha : a.IsWhole) (x : Vec F S32x8192 .bf16) (t : Fin 32) : Vec F S32x256 .bf16 :=
  View.readAt (Elt F) a.view (Rect.unit (s := S32x8192) ![0, 256 * t.val] S32x256.size (tileOff_inb t)).toLoadRect (ha.unread x)

/-- The limbs of q_new, stored. -/
def limbPiece (q : Vec F S1x4x8192 .f32) : View.Piece (Elt F) S32x8192 .bf16 :=
  ⟨Rect.unit (s := S32x8192) ![0, 0] S32x8192.size inb_S32x8192_S32x8192_0_0, k0_pay2 q⟩

/-- A tile of them, read back. -/
def rdLimbs' (a : Memref sig .tc .vmem S32x8192 .bf16) (q : Vec F S1x4x8192 .f32) (t : Fin 32) : Vec F S32x256 .bf16 :=
  a.view.readCov (Val := Elt F) [limbPiece q] (Rect.unit (s := S32x8192) ![0, 256 * t.val] S32x256.size (tileOff_inb t)).toLoadRect

/-- The whole block of p. -/
def rdP (a : Memref sig .tc .vmem S1x4x256 .f32) (ha : a.IsWhole) (x : Vec F S1x4x256 .f32) : Vec F S1x4x256 .f32 :=
  View.readAt (Elt F) a.view (Rect.unit (s := S1x4x256) ![0, 0, 0] S1x4x256.size inb_S1x4x256_S1x4x256_0_0_0).toLoadRect (ha.unread x)

/-- The whole block of q_new. -/
def rdQ (a : Memref sig .tc .vmem S1x4x8192 .f32) (ha : a.IsWhole) (x : Vec F S1x4x8192 .f32) : Vec F S1x4x8192 .f32 :=
  View.readAt (Elt F) a.view (Rect.unit (s := S1x4x8192) ![0, 0, 0] S1x4x8192.size inb_S1x4x8192_S1x4x8192_0_0_0).toLoadRect (ha.unread x)

/-! ## What a block computes -/

theorem slices_half (c : Fin 2) : S128x256.Slices ![0, 128 * c.val] S128x128 := by
  fin_cases c
  · exact slices_S128x256_o0_0_S128x128
  · exact slices_S128x256_o0_128_S128x128

theorem slices_rows (r : Fin 2) : S256x32.Slices ![128 * r.val, 0] S128x32 := by
  fin_cases r
  · exact slices_S256x32_o0_0_S128x32
  · exact slices_S256x32_o128_0_S128x32

/-- The product of p and q_new on a tile. -/
def prodTile (l : FVec F S256x32 .bf16) (q : FVec F S32x256 .bf16) (r : Fin 2) : FVec F S128x256 .f32 :=
  matmul dot_S128x32_S32x256_S128x256_1_0_0_1_n_n none (extractStridedSlice S128x32 ![128 * r.val, 0] l (slices_rows r)) q
    (constant S128x256 .f32 0x00000000#32)

/-- The error of a block. -/
def errOf (pq : FVec F S128x256 .f32) (g : FVec F S1x128x128 .fp8e5m2) (gs : Elt F .f32) (e : FVec F S1x128x128 .fp8e4m3) (es : Elt F .f32)
    (c : Fin 2) : FVec F S128x128 .f32 :=
  subf (addf (mulf (extf .f32 (shapeCast S128x128 g shapeCasts_S1x128x128_S128x128) bitsLt_fp8e5m2_f32) (broadcast S128x128 gs))
      (mulf (extf .f32 (shapeCast S128x128 e shapeCasts_S1x128x128_S128x128) bitsLt_fp8e4m3_f32) (broadcast S128x128 es)))
    (extractStridedSlice S128x128 ![0, 128 * c.val] pq (slices_half c))

/-- Its largest absolute value, divided by 448. -/
def amaxOf (err : FVec F S128x128 .f32) : FVec F S1x1 .f32 :=
  mulf (broadcast S1x1 (extractAt ![0, 0, 0] (shapeCast S1x1x1 (multiReduction .maximumf [1, 2] S1
      (shapeCast S1x128x128 (absf err) shapeCasts_S128x128_S1x128x128) 0xFF800000#32 reduces_S1x128x128_S1 (.inl rfl) rfl)
      shapeCasts_S1_S1x1x1) inpos_S1x1x1_p0_0_0))
    (broadcast S1x1 (Scalar.ofBits .f32 0x3B124925#32))

/-- The exponent field of that number. -/
def fieldOf (a : FVec F S1x1 .f32) : IVec S1x1 32 :=
  let k : IVec S1x256 32 := iota .tc S1x256 32 [1] iota_S1x256_d1_w32
  let v : IVec S1x1 32 := broadcast S1x1 (extractAt ![0, 0, 0] (shapeCast S1x1x1 (multiReductionI .maxsi [1, 2] S1
    (shapeCast S1x1x256 (select (cmpf .ole (k0_pay4 (F := F)) (broadcastTo S1x256 a broadcasts_S1x1_S1x256)) k (broadcast S1x256 0#32))
      shapeCasts_S1x256_S1x1x256) 2147483648#32 reduces_S1x1x256_S1 rfl) shapeCasts_S1_S1x1x1) inpos_S1x1x1_p0_0_0)
  select (ori (cmpi .eq v (broadcast S1x1 0#32)) (cmpi .eq v (broadcast S1x1 255#32))) (broadcast S1x1 126#32) v

/-- The scale of a block, -/
def scaleOf (f : IVec S1x1 32) : FVec F S1x1x1x1 .f32 :=
  shapeCast S1x1x1x1 (bitcastToFloat .f32 (shli (addi f (broadcast S1x1 1#32)) (broadcast S1x1 23#32))) shapeCasts_S1x1_S1x1x1x1

/-- and its codes. -/
def codesOf (err : FVec F S128x128 .f32) (f : IVec S1x1 32) : FVec F S1x128x128 .fp8e4m3 :=
  shapeCast S1x128x128 (truncf .fp8e4m3 (minimumf (broadcast S128x128 (Scalar.ofBits .f32 0x43E00000#32 : F .f32))
      (maximumf (broadcast S128x128 (Scalar.ofBits .f32 0xC3E00000#32 : F .f32))
        (mulf err (broadcastTo S128x128 (bitcastToFloat .f32 (shli (maxsi (subi (broadcast S1x1 253#32) f) (broadcast S1x1 0#32)) (broadcast S1x1 23#32)))
          broadcasts_S1x1_S128x128)))) bitsLt_fp8e4m3_f32) shapeCasts_S128x128_S1x128x128

/-- The error of block `s`. -/
def errAt (p : Vec F S1x4x256 .f32) (q : Fin 32 → Vec F S32x256 .bf16) (g : Fin 128 → Vec F S1x128x128 .fp8e5m2) (gs : Fin 128 → Elt F .f32)
    (e : Fin 128 → Vec F S1x128x128 .fp8e4m3) (es : Fin 128 → Elt F .f32) (s : Fin 128) : FVec F S128x128 .f32 :=
  errOf (prodTile (k0_pay3 p) (q (tileOf s)) (rowOf s)) (g s) (gs s) (e s) (es s) (halfOf s)

/-! ## The stores -/

/-- The stores into the codes of the first `n` blocks, last first. -/
def pieces6 (err : Fin 128 → FVec F S128x128 .f32) : (n : ℕ) → n ≤ 128 → List (View.Piece (Elt F) S1x256x8192 .fp8e4m3)
  | 0, _ => []
  | n + 1, h => ⟨Rect.unit (s := S1x256x8192) ![0, 128 * (n / 64), 128 * (n % 64)] S1x128x128.size (blockOff_inb ⟨n, h⟩),
      codesOf (err ⟨n, h⟩) (fieldOf (amaxOf (err ⟨n, h⟩)))⟩ :: pieces6 err n (by omega)

theorem scaleAt_inb (s : Fin 128) : ∀ a, (![0, 0, s.val / 64, s.val % 64] : Fin 4 → ℕ) a + S1x1x1x1.size a ≤ S1x1x2x64.size a := by
  have := s.isLt
  intro a
  fin_cases a <;> simp [S1x1x1x1, S1x1x2x64, Shape.size] <;> omega

/-- The stores into the scales of the first `n` blocks, last first. -/
def pieces7 (err : Fin 128 → FVec F S128x128 .f32) : (n : ℕ) → n ≤ 128 → List (View.Piece (Elt F) S1x1x2x64 .f32)
  | 0, _ => []
  | n + 1, h => ⟨Rect.unit (s := S1x1x2x64) ![0, 0, n / 64, n % 64] S1x1x1x1.size (scaleAt_inb ⟨n, h⟩),
      scaleOf (fieldOf (amaxOf (err ⟨n, h⟩)))⟩ :: pieces7 err n (by omega)

end Cert.RequantIdeal.Gen

end
-- ==== Proof.Exponent.lean ====
/- The binary exponent of a number, found as the largest power of two that does not exceed it and found from a logarithm:
   the two scales agree, and so do the two inverse scales. -/
module

public import proofs.«01_k».proof.Proof.Codes
public import Idealize.ShloMosaic.Lib.SortNet.Extract

@[expose] public section

set_option maxRecDepth 16384

noncomputable section

namespace Cert.Exponent

open Idealize.ShloMosaic

/-- The f32 word whose exponent field is `n` and whose fraction is zero. -/
def word (n : ℕ) : BitVec 32 := BitVec.ofNat 32 n <<< 23

/-- The number it stands for. -/
def pw (n : ℕ) : EReal := Ideal.ofBits .f32 (word n)

theorem word_facts : ∀ n : Fin 256, ((word n.val).extractLsb' 31 1 == 1#1) = false
    ∧ (word n.val).extractLsb' 23 8 = BitVec.ofNat 8 n.val ∧ ((word n.val).extractLsb' 0 23).toNat = 0
    ∧ (BitVec.ofNat 8 n.val).toNat = n.val := by decide +kernel

theorem pw_lt (n : ℕ) (h : n < 255) : pw n = ((if n = 0 then 0 else (2 : ℝ) ^ ((n : ℤ) - 127) : ℝ) : EReal) := by
  obtain ⟨h1, h2, h3, h4⟩ := word_facts ⟨n, by omega⟩
  unfold pw
  rw [Codes.f32_plain (word n) (BitVec.ofNat 8 n) 0 h1 h2 h3 (by rw [h4]; exact Nat.ne_of_lt h)]
  refine congrArg Real.toEReal ?_
  dsimp only at h4
  rw [h4]
  by_cases h0 : n = 0
  · simp [h0]
  · rw [if_neg h0, if_neg h0]
    have : ((n : ℤ) - 127) = 23 + ((n : ℤ) - 150) := by ring
    rw [this, zpow_add₀ two_ne_zero]
    norm_num

theorem pw_zero : pw 0 = 0 := by rw [pw_lt 0 (by omega), if_pos rfl, EReal.coe_zero]

theorem pw_pos (n : ℕ) (h : n < 255) (h0 : n ≠ 0) : pw n = (((2 : ℝ) ^ ((n : ℤ) - 127) : ℝ) : EReal) := by rw [pw_lt n h, if_neg h0]

theorem pw_top : pw 255 = ⊤ := by
  unfold pw
  show Ideal.ieee 8 23 (word 255) = ⊤
  unfold Ideal.ieee
  rw [if_pos (by decide +kernel), if_pos (by decide +kernel), if_neg (by decide +kernel)]

/-- The largest `k` with `pw k` at most `a`, as a word. -/
def largest (a : EReal) : BitVec 32 :=
  (Finset.univ : Finset (Fin 256)).fold IntOp.maxsi 2147483648#32
    (fun k => Scalar.select (Ideal.cmp .ole (pw k.val) a) (BitVec.ofNat 32 k.val) 0#32)

theorem select_ole (x a : EReal) (u v : BitVec 32) : Scalar.select (Ideal.cmp .ole x a) u v = if x ≤ a then u else v := by
  unfold Scalar.select Ideal.cmp
  by_cases h : x ≤ a <;> simp [h]

theorem toInt_small : ∀ n : Fin 256, (BitVec.ofNat 32 n.val).toInt = (n.val : ℤ) := by decide +kernel

theorem largest_eq (a : EReal) (n : ℕ) (hn : n < 256) (h1 : n = 0 ∨ pw n ≤ a) (h2 : ∀ k, k < 256 → n < k → ¬ pw k ≤ a) :
    largest a = BitVec.ofNat 32 n := by
  obtain ⟨-, hle, hmem⟩ := SortNet.fold_maxsi_spec
    (fun k : Fin 256 => Scalar.select (Ideal.cmp .ole (pw k.val) a) (BitVec.ofNat 32 k.val) 0#32) Finset.univ 2147483648#32
  change (∀ i ∈ _, _ ≤ (largest a).toInt) at hle
  change largest a = _ ∨ ∃ i ∈ _, largest a = _ at hmem
  have hn' := hle ⟨n, hn⟩ (Finset.mem_univ _)
  have hnn : (n : ℤ) ≤ (largest a).toInt := by
    refine le_trans (le_of_eq ?_) hn'
    dsimp only
    rw [select_ole]
    rcases h1 with rfl | h
    · split_ifs <;> rfl
    · rw [if_pos h]; exact (toInt_small ⟨n, hn⟩).symm
  refine BitVec.eq_of_toInt_eq (le_antisymm ?_ ?_)
  · rw [toInt_small ⟨n, hn⟩]
    dsimp only
    rcases hmem with h | ⟨k, -, h⟩
    · rw [h]; exact le_trans (by decide) (Int.natCast_nonneg n)
    · rw [h, select_ole]
      by_cases hk : pw k.val ≤ a
      · rw [if_pos hk, toInt_small k]
        by_contra hlt
        exact h2 k.val k.isLt (by omega) hk
      · rw [if_neg hk]; exact Int.natCast_nonneg n
  · rw [toInt_small ⟨n, hn⟩]; exact hnn

/-- The exponent field the scales are made of: that of a half where the number is zero, tiny or infinite. -/
def field (e : BitVec 32) : BitVec 32 := Scalar.select (IntOp.ori (IntOp.cmpi .eq e 0#32) (IntOp.cmpi .eq e 255#32)) 126#32 e

def kScale (a : EReal) : EReal := Ideal.ofBits .f32 (IntOp.shli .vector (IntOp.addi (field (largest a)) 1#32) 23#32)
def kInv (a : EReal) : EReal := Ideal.ofBits .f32 (IntOp.shli .vector (IntOp.maxsi (IntOp.subi 253#32 (field (largest a))) 0#32) 23#32)

theorem field_mid : ∀ n : Fin 255, n.val ≠ 0 → field (BitVec.ofNat 32 n.val) = BitVec.ofNat 32 n.val := by decide +kernel
theorem field_end : field (BitVec.ofNat 32 0) = BitVec.ofNat 32 126 ∧ field (BitVec.ofNat 32 255) = BitVec.ofNat 32 126 := by decide +kernel

theorem words : ∀ n : Fin 255, IntOp.shli .vector (IntOp.addi (BitVec.ofNat 32 n.val) 1#32) 23#32 = word (n.val + 1)
    ∧ IntOp.shli .vector (IntOp.maxsi (IntOp.subi 253#32 (BitVec.ofNat 32 n.val)) 0#32) 23#32 = word (253 - n.val) := by decide +kernel

theorem k_of (a : EReal) (n : ℕ) (hn : n < 255) (h : field (largest a) = BitVec.ofNat 32 n) : kScale a = pw (n + 1) ∧ kInv a = pw (253 - n) := by
  unfold kScale kInv
  rw [h]
  obtain ⟨h1, h2⟩ := words ⟨n, hn⟩
  exact ⟨congrArg (Ideal.ofBits .f32) h1, congrArg (Ideal.ofBits .f32) h2⟩

/-! ## From a logarithm -/

def rExp (a : EReal) : EReal :=
  Scalar.select (IntOp.ori (Ideal.cmp .olt a (Ideal.ofBits .f32 0x00800000#32)) (Ideal.cmp .oeq a (Ideal.ofBits .f32 0x7F800000#32)))
    (Ideal.ofBits .f32 0x00000000#32)
    (Ideal.liftRound Int.floor (Ideal.div (Ideal.log a) (Ideal.log (Ideal.ofBits .f32 0x40000000#32))) + Ideal.ofBits .f32 0x3F800000#32)

def rScale (a : EReal) : EReal :=
  Scalar.select (Ideal.cmp .ogt (rExp a) (Ideal.ofBits .f32 0x42FE0000#32)) (Ideal.ofBits .f32 0x7F800000#32) (Ideal.exp2 (rExp a))

def rInv (a : EReal) : EReal :=
  Scalar.select (Ideal.cmp .ogt (rExp a) (Ideal.ofBits .f32 0x42FC0000#32)) (Ideal.ofBits .f32 0x00000000#32)
    (Ideal.exp2 (Ideal.ofBits .f32 0x00000000#32 - rExp a))

theorem c_tiny : Ideal.ofBits .f32 0x00800000#32 = (((2 : ℝ) ^ (-126 : ℤ) : ℝ) : EReal) :=
  (congrArg (Ideal.ofBits .f32) (by decide : 0x00800000#32 = word 1)).trans (pw_pos 1 (by omega) (by omega))
theorem c_inf : Ideal.ofBits .f32 0x7F800000#32 = (⊤ : EReal) :=
  (congrArg (Ideal.ofBits .f32) (by decide : 0x7F800000#32 = word 255)).trans pw_top
theorem c_zero : Ideal.ofBits .f32 0x00000000#32 = (0 : EReal) :=
  (congrArg (Ideal.ofBits .f32) (by decide : 0x00000000#32 = word 0)).trans pw_zero
theorem c_two : Ideal.ofBits .f32 0x40000000#32 = ((2 : ℝ) : EReal) :=
  (congrArg (Ideal.ofBits .f32) (by decide : 0x40000000#32 = word 128)).trans ((pw_pos 128 (by omega) (by omega)).trans (congrArg Real.toEReal (by norm_num)))
theorem c_one : Ideal.ofBits .f32 0x3F800000#32 = ((1 : ℝ) : EReal) :=
  (congrArg (Ideal.ofBits .f32) (by decide : 0x3F800000#32 = word 127)).trans ((pw_pos 127 (by omega) (by omega)).trans (congrArg Real.toEReal (by norm_num)))
theorem c_127 : Ideal.ofBits .f32 0x42FE0000#32 = ((127 : ℝ) : EReal) := by
  rw [Codes.f32_plain 0x42FE0000#32 133#8 0x7E0000 (by decide) (by decide) (by decide) (by decide), if_neg (by decide)]
  exact congrArg Real.toEReal (by norm_num)
theorem c_126 : Ideal.ofBits .f32 0x42FC0000#32 = ((126 : ℝ) : EReal) := by
  rw [Codes.f32_plain 0x42FC0000#32 133#8 0x7C0000 (by decide) (by decide) (by decide) (by decide), if_neg (by decide)]
  exact congrArg Real.toEReal (by norm_num)

theorem sel (p : Prop) [Decidable p] {α : Type} (x y : α) : Scalar.select (BitVec.ofBool (decide p)) x y = if p then x else y := by
  unfold Scalar.select
  by_cases h : p <;> simp [h]

theorem ori_ofBool (a b : Bool) : IntOp.ori (BitVec.ofBool a) (BitVec.ofBool b) = BitVec.ofBool (a || b) := by
  cases a <;> cases b <;> rfl

theorem rExp_eq (a : EReal) : rExp a = if a < (((2 : ℝ) ^ (-126 : ℤ) : ℝ) : EReal) ∨ a = ⊤ then 0 else
    Ideal.liftRound Int.floor (Ideal.div (Ideal.log a) (Ideal.log ((2 : ℝ) : EReal))) + ((1 : ℝ) : EReal) := by
  unfold rExp
  rw [c_tiny, c_inf, c_zero, c_two, c_one]
  unfold Ideal.cmp
  rw [ori_ofBool, ← Bool.decide_or, sel]

theorem r_of (a : EReal) (e : ℤ) (h : rExp a = ((e : ℝ) : EReal)) :
    rScale a = (if 127 < e then (⊤ : EReal) else (((2 : ℝ) ^ e : ℝ) : EReal))
      ∧ rInv a = (if 126 < e then (0 : EReal) else (((2 : ℝ) ^ (-e) : ℝ) : EReal)) := by
  unfold rScale rInv
  rw [h, c_127, c_126, c_inf, c_zero]
  unfold Ideal.cmp
  rw [sel, sel, zero_sub, ← EReal.coe_neg, Ideal.exp2_coe, Ideal.exp2_coe]
  have e1 : (((127 : ℝ) : EReal) < ((e : ℝ) : EReal)) ↔ 127 < e := by rw [EReal.coe_lt_coe_iff]; exact_mod_cast Iff.rfl
  have e2 : (((126 : ℝ) : EReal) < ((e : ℝ) : EReal)) ↔ 126 < e := by rw [EReal.coe_lt_coe_iff]; exact_mod_cast Iff.rfl
  have p1 : Real.rpow 2 (e : ℝ) = (2 : ℝ) ^ e := Real.rpow_intCast 2 e
  have p2 : Real.rpow 2 (-(e : ℝ)) = (2 : ℝ) ^ (-e) := by
    have := Real.rpow_intCast 2 (-e)
    rw [Int.cast_neg] at this
    exact this
  rw [p1, p2]
  exact ⟨if_congr e1 rfl rfl, if_congr e2 rfl rfl⟩

theorem agree_end (a : EReal) (h : a < (((2 : ℝ) ^ (-126 : ℤ) : ℝ) : EReal) ∨ a = ⊤) : kScale a = rScale a ∧ kInv a = rInv a := by
  have hr : rExp a = (((0 : ℤ) : ℝ) : EReal) := by rw [rExp_eq, if_pos h]; norm_num
  have hf : field (largest a) = BitVec.ofNat 32 126 := by
    rcases h with h | h
    · rw [largest_eq a 0 (by omega) (.inl rfl) ?_]
      · exact field_end.1
      · intro k hk h0 hle
        have hlt := lt_of_le_of_lt hle h
        rcases Nat.lt_or_ge k 255 with h255 | h255
        · rw [pw_pos k h255 (by omega), EReal.coe_lt_coe_iff] at hlt
          have := (zpow_lt_zpow_iff_right₀ (one_lt_two : (1 : ℝ) < 2)).mp hlt
          omega
        · obtain rfl : k = 255 := by omega
          rw [pw_top] at hlt
          exact not_top_lt hlt
    · rw [largest_eq a 255 (by omega) (.inr (by rw [h]; exact le_top)) (fun k hk h' => by omega)]
      exact field_end.2
  obtain ⟨k1, k2⟩ := k_of a 126 (by omega) hf
  obtain ⟨r1, r2⟩ := r_of a 0 hr
  rw [k1, k2, r1, r2, if_neg (by omega), if_neg (by omega), pw_pos 127 (by omega) (by omega)]
  exact ⟨congrArg Real.toEReal (by norm_num), congrArg Real.toEReal (by norm_num)⟩

theorem agree_mid (r : ℝ) (h : (2 : ℝ) ^ (-126 : ℤ) ≤ r) : kScale (r : EReal) = rScale (r : EReal) ∧ kInv (r : EReal) = rInv (r : EReal) := by
  have hpos : 0 < r := lt_of_lt_of_le (zpow_pos two_pos _) h
  obtain ⟨j, hj1, hj2⟩ : ∃ j : ℤ, (2 : ℝ) ^ j ≤ r ∧ r < (2 : ℝ) ^ (j + 1) := exists_mem_Ico_zpow hpos one_lt_two
  have hj : -126 ≤ j := by
    have := (zpow_lt_zpow_iff_right₀ (one_lt_two : (1 : ℝ) < 2)).mp (lt_of_le_of_lt h hj2)
    omega
  have hlog : ⌊Real.log r / Real.log 2⌋ = j := by
    have h2 : 0 < Real.log 2 := Real.log_pos one_lt_two
    rw [Int.floor_eq_iff, le_div_iff₀ h2, div_lt_iff₀ h2]
    have t1 := Real.log_le_log (zpow_pos two_pos _) hj1
    have t2 := Real.log_lt_log hpos hj2
    rw [Real.log_zpow] at t1 t2
    push_cast at t2
    exact ⟨t1, t2⟩
  have hr : rExp (r : EReal) = (((j + 1 : ℤ) : ℝ) : EReal) := by
    rw [rExp_eq, if_neg, Ideal.log_coe, Ideal.log_coe, if_neg (not_le.mpr hpos), if_neg (by norm_num)]
    · unfold Ideal.div
      have h2 : Real.log 2 ≠ 0 := (Real.log_pos one_lt_two).ne'
      rw [if_neg (by exact_mod_cast h2), ← EReal.coe_inv, ← EReal.coe_mul]
      show (((⌊Real.log r * (Real.log 2)⁻¹⌋ : ℤ) : ℝ) : EReal) + ((1 : ℝ) : EReal) = _
      rw [← div_eq_mul_inv, hlog, ← EReal.coe_add]
      exact congrArg Real.toEReal (by push_cast; ring)
    · rintro (hc | hc)
      · rw [EReal.coe_lt_coe_iff] at hc; exact absurd hc (not_lt.mpr h)
      · exact EReal.coe_ne_top r hc
  obtain ⟨r1, r2⟩ := r_of _ (j + 1) hr
  have hnle : ∀ k : ℕ, k < 256 → (k = 255 ∨ j + 127 < (k : ℤ)) → k ≠ 0 → ¬ pw k ≤ (r : EReal) := by
    intro k hk hc h0 hle
    rcases Nat.lt_or_ge k 255 with h255 | h255
    · rw [pw_pos k h255 h0, EReal.coe_le_coe_iff] at hle
      have := (zpow_lt_zpow_iff_right₀ (one_lt_two : (1 : ℝ) < 2)).mp (lt_of_le_of_lt hle hj2)
      omega
    · obtain rfl : k = 255 := by omega
      rw [pw_top, top_le_iff] at hle
      exact EReal.coe_ne_top r hle
  have main : ∀ n : ℕ, n < 255 → n ≠ 0 → (n : ℤ) ≤ j + 127 → (n = 254 ∨ (n : ℤ) = j + 127) → kScale (r : EReal) = pw (n + 1) ∧ kInv (r : EReal) = pw (253 - n) := by
    intro n hn h0 hle hc
    refine k_of _ n hn ?_
    rw [largest_eq (r : EReal) n (by omega) (.inr ?_) ?_]
    · exact field_mid ⟨n, hn⟩ h0
    · rw [pw_pos n hn h0, EReal.coe_le_coe_iff]
      exact le_trans (zpow_le_zpow_right₀ one_le_two (by omega)) hj1
    · intro k hk hlt
      exact hnle k hk (by omega) (by omega)
  rw [r1, r2]
  rcases le_or_gt (j + 127) 253 with hc | hc
  · obtain ⟨k1, k2⟩ := main (j + 127).toNat (by omega) (by omega) (by omega) (by omega)
    rw [k1, k2, if_neg (by omega), pw_pos _ (by omega) (by omega)]
    refine ⟨congrArg Real.toEReal (congrArg _ (by omega)), ?_⟩
    rcases eq_or_ne (j + 127) 253 with he | he
    · rw [if_pos (by omega), show 253 - (j + 127).toNat = 0 by omega, pw_zero]
    · rw [if_neg (by omega), pw_pos _ (by omega) (by omega)]
      exact congrArg Real.toEReal (congrArg _ (by omega))
  · obtain ⟨k1, k2⟩ := main 254 (by omega) (by omega) (by omega) (.inl rfl)
    rw [k1, k2, if_pos (by omega), if_pos (by omega)]
    exact ⟨pw_top, pw_zero⟩

/-- The two scales and the two inverse scales of any number agree. -/
theorem agree (a : EReal) : kScale a = rScale a ∧ kInv a = rInv a := by
  by_cases h : a < (((2 : ℝ) ^ (-126 : ℤ) : ℝ) : EReal) ∨ a = ⊤
  · exact agree_end a h
  · rw [not_or, not_lt] at h
    obtain ⟨h1, h2⟩ := h
    induction a using EReal.rec with
    | bot => exact absurd h1 (by simp)
    | top => exact absurd rfl h2
    | coe r => exact agree_mid r (EReal.coe_le_coe_iff.mp h1)

end Cert.Exponent

end
-- ==== Proof.RqSpec.lean ====
/- What the call `requant` computes, as a function of its arguments' elements: the error, the largest error of a block of 128 by
   128, and from it the block's scale and its codes. -/
module

public import proofs.«01_k».proof.Proof.Exponent

@[expose] public section

noncomputable section

namespace Cert.Quant

open Idealize.ShloMosaic

variable (g e : Fin 2 → Fin 14336 → Fin 8192 → EReal) (gs es : Fin 2 → Fin 112 → Fin 64 → EReal)
  (p : Fin 2 → Fin 4 → Fin 14336 → EReal) (q : Fin 2 → Fin 4 → Fin 8192 → EReal)

/-- The row, or column, `j` of block `n`. -/
def at128 {N M : ℕ} (h : 128 * N ≤ M) (n : Fin N) (j : Fin 128) : Fin M := ⟨n.val * 128 + j.val, by have := n.isLt; have := j.isLt; omega⟩

/-- The error, an element of block row `R` and block column `C`. -/
def err (b : Fin 2) (R : Fin 112) (C : Fin 64) (i j : Fin 128) : EReal :=
  (g b (at128 (by decide) R i) (at128 (by decide) C j) * gs b R C + e b (at128 (by decide) R i) (at128 (by decide) C j) * es b R C)
    - ∑ k : Fin 4, p b k (at128 (by decide) R i) * q b k (at128 (by decide) C j)

/-- The largest absolute value of a block, divided by 448. -/
def amaxOf (f : Fin 128 → Fin 128 → EReal) : EReal :=
  (Finset.univ : Finset (Fin 128 × Fin 128)).fold max (Ideal.ofBits .f32 0xFF800000#32) (fun k => max (f k.1 k.2) (-f k.1 k.2))
    * Ideal.ofBits .f32 0x3B124925#32

/-- A code: the element times the inverse scale, between -448 and 448. -/
def clip (x : EReal) : EReal := min (Ideal.ofBits .f32 0x43E00000#32) (max (Ideal.ofBits .f32 0xC3E00000#32) x)

/-- The code at an element. -/
def code (b : Fin 2) (R : Fin 112) (C : Fin 64) (i j : Fin 128) : EReal :=
  clip (err g e gs es p q b R C i j * Exponent.kInv (amaxOf (err g e gs es p q b R C)))

/-- The scale of a block. -/
def scale (b : Fin 2) (R : Fin 112) (C : Fin 64) : EReal := Exponent.kScale (amaxOf (err g e gs es p q b R C))

end Cert.Quant

end
-- ==== Proof.RqTilesAt.lean ====
/- The block functions of the call `requant`, element by element in the extended reals. -/
module

public import proofs.«01_k».proof.Proof.RqTiles
public import proofs.«01_k».proof.Proof.RqSpec
public import Idealize.ShloMosaic.Lib.Pointwise

@[expose] public section

set_option maxRecDepth 16384

noncomputable section

namespace Cert.RequantIdeal.Gen

open Idealize.ShloMosaic Idealize.ShloMosaic.TcCoe

theorem concatP (x0 x1 x2 x3 x4 x5 x6 x7 : FVec Ideal S4x256 .f32) (k : Fin 32) (d : Fin 256) :
    concatenate S32x256 0 [⟨S4x256, x0⟩, ⟨S4x256, x1⟩, ⟨S4x256, x2⟩, ⟨S4x256, x3⟩, ⟨S4x256, x4⟩, ⟨S4x256, x5⟩, ⟨S4x256, x6⟩, ⟨S4x256, x7⟩]
      concatenates_S4x256_S4x256_S4x256_S4x256_S4x256_S4x256_S4x256_S4x256_S32x256_d0 (ix2 k d)
      = (![x0, x1, x2, x3, x4, x5, x6, x7] : Fin 8 → FVec Ideal S4x256 .f32) ⟨k.val / 4, by omega⟩ (ix2 ⟨k.val % 4, by omega⟩ d) := by
  fin_cases k <;> pointwise <;> rfl

theorem concatQ (x0 x1 x2 x3 x4 x5 x6 x7 : FVec Ideal S4x8192 .f32) (k : Fin 32) (d : Fin 8192) :
    concatenate S32x8192 0 [⟨S4x8192, x0⟩, ⟨S4x8192, x1⟩, ⟨S4x8192, x2⟩, ⟨S4x8192, x3⟩, ⟨S4x8192, x4⟩, ⟨S4x8192, x5⟩, ⟨S4x8192, x6⟩, ⟨S4x8192, x7⟩]
      concatenates_S4x8192_S4x8192_S4x8192_S4x8192_S4x8192_S4x8192_S4x8192_S4x8192_S32x8192_d0 (ix2 k d)
      = (![x0, x1, x2, x3, x4, x5, x6, x7] : Fin 8 → FVec Ideal S4x8192 .f32) ⟨k.val / 4, by omega⟩ (ix2 ⟨k.val % 4, by omega⟩ d) := by
  fin_cases k <;> pointwise <;> rfl

/-- The limbs of a finite number: itself, then zeros. -/
theorem limb_sub {x : EReal} (hx : x ≠ ⊤ ∧ x ≠ ⊥) : x - x = 0 := EReal.sub_self hx.1 hx.2

theorem block_div (b : Fin 8) (j : Fin 4) : (⟨(4 * b.val + j.val) / 4, by omega⟩ : Fin 8) = b := Fin.ext (by dsimp only; omega)
theorem block_mod (b : Fin 8) (j : Fin 4) : (⟨(4 * b.val + j.val) % 4, by omega⟩ : Fin 4) = j := Fin.ext (by dsimp only; omega)

theorem castP (p : Vec Ideal S1x4x256 .f32) (j : Fin 4) (i : Fin 256) : shapeCast S4x256 p shapeCasts_S1x4x256_S4x256 (ix2 j i) = p (ix3 0 j i) := by
  pointwise
theorem castQ (q : Vec Ideal S1x4x8192 .f32) (j : Fin 4) (i : Fin 8192) : shapeCast S4x8192 q shapeCasts_S1x4x8192_S4x8192 (ix2 j i) = q (ix3 0 j i) := by
  pointwise

theorem transP (x : FVec Ideal S32x256 .f32) (i : Fin 256) (k : Fin 32) :
    transpose S256x32 [1, 0] x transposes_S32x256_p1_0_S256x32 (ix2 i k) = x (ix2 k i) := by
  pointwise

/-- The left limbs of a finite p: the number itself or zero. -/
theorem limbsP_apply (p : Vec Ideal S1x4x256 .f32) (hp : ∀ y, p y ≠ (⊤ : EReal) ∧ p y ≠ (⊥ : EReal)) (i : Fin 256) (b : Fin 8) (j : Fin 4) :
    k0_pay3 p (ix2 i ⟨4 * b.val + j.val, by omega⟩)
      = (![p (ix3 0 j i), p (ix3 0 j i), 0, p (ix3 0 j i), 0, 0, 0, 0] : Fin 8 → EReal) b := by
  have h : (p (ix3 0 j i) : EReal) - p (ix3 0 j i) = 0 := limb_sub (hp _)
  have hc := castP p j i
  refine (transP _ _ _).trans ((concatP _ _ _ _ _ _ _ _ _ _).trans ?_)
  rw [block_div, block_mod]
  fin_cases b
  · exact hc
  · exact hc
  · exact (congrArg₂ (fun u v : EReal => u - v) hc hc).trans h
  · exact hc
  · exact (congrArg₂ (fun u v : EReal => u - v) hc hc).trans h
  · exact ((congrArg₂ (fun u v : EReal => u - v - (u - v)) hc hc).trans (by rw [h]; exact sub_zero 0))
  · exact (congrArg₂ (fun u v : EReal => u - v) hc hc).trans h
  · exact ((congrArg₂ (fun u v : EReal => u - v - (u - v)) hc hc).trans (by rw [h]; exact sub_zero 0))

/-- The right limbs of a finite q_new. -/
theorem limbsQ_apply (q : Vec Ideal S1x4x8192 .f32) (hq : ∀ y, q y ≠ (⊤ : EReal) ∧ q y ≠ (⊥ : EReal)) (d : Fin 8192) (b : Fin 8) (j : Fin 4) :
    k0_pay2 q (ix2 ⟨4 * b.val + j.val, by omega⟩ d)
      = (![q (ix3 0 j d), 0, q (ix3 0 j d), 0, 0, q (ix3 0 j d), 0, 0] : Fin 8 → EReal) b := by
  have h : (q (ix3 0 j d) : EReal) - q (ix3 0 j d) = 0 := limb_sub (hq _)
  have hc := castQ q j d
  refine (congrFun (shapeCast_id _ _) _).trans ((concatQ _ _ _ _ _ _ _ _ _ _).trans ?_)
  rw [block_div, block_mod]
  fin_cases b
  · exact hc
  · exact (congrArg₂ (fun u v : EReal => u - v) hc hc).trans h
  · exact hc
  · exact ((congrArg₂ (fun u v : EReal => u - v - (u - v)) hc hc).trans (by rw [h]; exact sub_zero 0))
  · exact (congrArg₂ (fun u v : EReal => u - v) hc hc).trans h
  · exact hc
  · exact ((congrArg₂ (fun u v : EReal => u - v - (u - v)) hc hc).trans (by rw [h]; exact sub_zero 0))
  · exact (congrArg₂ (fun u v : EReal => u - v) hc hc).trans h

theorem sum_limbs (f : Fin 32 → EReal) : ∑ k, f k = ∑ b : Fin 8, ∑ j : Fin 4, f ⟨4 * b.val + j.val, by omega⟩ := by
  rw [← Fintype.sum_prod_type' (f := fun (b : Fin 8) (j : Fin 4) => f ⟨4 * b.val + j.val, by omega⟩)]
  refine (Fintype.sum_equiv (finProdFinEquiv (m := 8) (n := 4)) _ _ fun x => congrArg f (Fin.ext ?_)).symm
  show 4 * x.1.val + x.2.val = x.2.val + 4 * x.1.val
  omega

theorem prodTile_apply (l : FVec Ideal S256x32 .bf16) (q : FVec Ideal S32x256 .bf16) (r : Fin 2) (a : Fin 128) (d : Fin 256) :
    prodTile l q r (ix2 a d) = ∑ k : Fin 32, l (ix2 ⟨128 * r.val + a.val, by omega⟩ k) * q (ix2 k d) := by
  fin_cases r <;> pointwise [prodTile] <;> simp

/-- The product of finite p and q_new on a tile: the sum over the four ranks. -/
theorem prodTile_limbs (p : Vec Ideal S1x4x256 .f32) (hp : ∀ y, p y ≠ (⊤ : EReal) ∧ p y ≠ (⊥ : EReal)) (Q : FVec Ideal S32x256 .bf16) (q : Fin 4 → Fin 256 → EReal)
    (hQ : ∀ (d : Fin 256) (b : Fin 8) (j : Fin 4), Q (ix2 ⟨4 * b.val + j.val, by omega⟩ d) = (![q j d, 0, q j d, 0, 0, q j d, 0, 0] : Fin 8 → EReal) b)
    (r : Fin 2) (a : Fin 128) (d : Fin 256) :
    prodTile (k0_pay3 p) Q r (ix2 a d) = ∑ j : Fin 4, p (ix3 0 j ⟨128 * r.val + a.val, by omega⟩) * q j d := by
  rw [prodTile_apply, sum_limbs]
  simp only [limbsP_apply p hp, hQ]
  simp [Fin.sum_univ_succ]

theorem errOf_apply (pq : FVec Ideal S128x256 .f32) (g : FVec Ideal S1x128x128 .fp8e5m2) (gs : Elt Ideal .f32) (e : FVec Ideal S1x128x128 .fp8e4m3)
    (es : Elt Ideal .f32) (c : Fin 2) (a d : Fin 128) :
    errOf pq g gs e es c (ix2 a d) = ((g (ix3 0 a d) * gs + e (ix3 0 a d) * es) - pq (ix2 a ⟨128 * c.val + d.val, by omega⟩) : EReal) := by
  fin_cases c <;> pointwise [errOf] <;> simp <;> rfl

theorem amaxOf_apply (err : FVec Ideal S128x128 .f32) : amaxOf err (ix2 0 0) = Quant.amaxOf (fun i j => err (ix2 i j)) := by
  pointwise [amaxOf]
  rfl

theorem fold_one {α : Type} (op : α → α → α) [Std.Commutative op] [Std.Associative op] (b : α) (f : Fin 1 × Fin 256 → α) :
    (Finset.univ : Finset (Fin 1 × Fin 256)).fold op b f = (Finset.univ : Finset (Fin 256)).fold op b (fun k => f (0, k)) := by
  refine Eq.trans ?_ (Finset.fold_map (g := ⟨fun k : Fin 256 => ((0 : Fin 1), k), fun a b h => (Prod.mk.inj h).2⟩))
  refine congrArg (fun s => Finset.fold op b f s) (Finset.ext fun x => ?_)
  simp only [Finset.mem_univ, Finset.mem_map, Function.Embedding.coeFn_mk, true_and, true_iff]
  exact ⟨x.2, Prod.ext (Subsingleton.elim _ _) rfl⟩

theorem maxAll (X : IVec S1x256 32) :
    (extractAt ![0, 0, 0] (shapeCast S1x1x1 (multiReductionI .maxsi [1, 2] S1 (shapeCast S1x1x256 X shapeCasts_S1x256_S1x1x256) 2147483648#32
      reduces_S1x1x256_S1 rfl) shapeCasts_S1_S1x1x1) inpos_S1x1x1_p0_0_0)
      = (Finset.univ : Finset (Fin 256)).fold IntOp.maxsi 2147483648#32 (fun k => X (ix2 0 k)) := by
  pointwise
  exact fold_one IntOp.maxsi _ fun x => X (ix2 0 x.2)

theorem tableAt (k : Fin 256) : (k0_pay4 (F := Ideal) (ix2 0 k) : EReal) = Exponent.pw k.val := by
  pointwise [k0_pay4]
  rfl

theorem fieldOf_apply (a : FVec Ideal S1x1 .f32) : fieldOf a (ix2 0 0) = Exponent.field (Exponent.largest (a (ix2 0 0))) := by
  rw [fieldOf]
  dsimp only
  rw [maxAll]
  have h : ∀ k : Fin 256, select (cmpf .ole (k0_pay4 (F := Ideal)) (broadcastTo S1x256 a broadcasts_S1x1_S1x256)) (iota .tc S1x256 32 [1] iota_S1x256_d1_w32)
      (broadcast S1x256 0#32) (ix2 0 k) = Scalar.select (Ideal.cmp .ole (Exponent.pw k.val) (a (ix2 0 0))) (BitVec.ofNat 32 k.val) 0#32 := by
    intro k
    rw [← tableAt k]
    obtain ⟨x, hx⟩ : ∃ x, x = k0_pay4 (F := Ideal) := ⟨_, rfl⟩
    rw [← hx]
    pointwise
  simp only [h]
  rfl

theorem scaleOf_apply (f : IVec S1x1 32) (y : S1x1x1x1.Idx) :
    scaleOf (F := Ideal) f y = Ideal.ofBits .f32 (IntOp.shli .vector (IntOp.addi (f (ix2 0 0)) 1#32) 23#32) := by
  pointwise [scaleOf]

theorem codesOf_apply (err : FVec Ideal S128x128 .f32) (f : IVec S1x1 32) (a d : Fin 128) :
    codesOf err f (ix3 0 a d) = Quant.clip (err (ix2 a d) * Ideal.ofBits .f32 (IntOp.shli .vector (IntOp.maxsi (IntOp.subi 253#32 (f (ix2 0 0))) 0#32) 23#32)) := by
  pointwise [codesOf]
  rfl

end Cert.RequantIdeal.Gen

end
-- ==== Proof.RqPiecesA.lean ====
/- What the run of the call `requant` found at the first point of a batch entry: the stores are the uniform block functions. -/
module

public import proofs.«01_k».proof.Proof.Gen.RequantIdeal.Frame.RunA
public import proofs.«01_k».proof.Proof.RqTiles

@[expose] public section

set_option maxRecDepth 16384

noncomputable section

namespace Cert.RequantIdeal.Gen

open Idealize.ShloMosaic Idealize.ShloMosaic.TcCoe Idealize.ShloMosaic.Tactic

variable {F : FTy → Type} [FloatOps F]

/-- The store of the limbs of q_new. -/
theorem runA_limbs (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x256 .f32) (harg6 : arg6.IsWhole) (arg7 : Memref sig .tc .vmem S1x4x8192 .f32) (harg7 : arg7.IsWhole) (arg8 : Memref sig .tc .vmem S1x256x8192 .fp8e4m3) (harg8 : arg8.IsWhole) (arg9 : Memref sig .tc .vmem S1x1x2x64 .f32) (harg9 : arg9.IsWhole) (arg10 : Memref sig .tc .vmem S32x8192 .bf16) (harg10 : arg10.IsWhole) (hc0 : cond0_0 i)
    (x0 : Vec F S2x112x64 .f32) (x1 : Vec F S2x112x64 .f32) (x2 : Vec F S1x256x8192 .fp8e5m2) (x3 : Vec F S1x256x8192 .fp8e4m3) (x4 : Vec F S1x4x256 .f32) (x5 : Vec F S1x4x8192 .f32) :
    (kernelRun0_A c i arg2 harg2 arg3 harg3 arg4 harg4 arg5 harg5 arg6 harg6 arg7 harg7 arg8 harg8 arg9 harg9 arg10 harg10 hc0 x0 x1 x2 x3 x4 x5).2.2.1 = [limbPiece (rdQ arg7 harg7 x5)] := by
  sl_kernel_rfl

/-- The stores of codes. -/
theorem runA_codes (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x256 .f32) (harg6 : arg6.IsWhole) (arg7 : Memref sig .tc .vmem S1x4x8192 .f32) (harg7 : arg7.IsWhole) (arg8 : Memref sig .tc .vmem S1x256x8192 .fp8e4m3) (harg8 : arg8.IsWhole) (arg9 : Memref sig .tc .vmem S1x1x2x64 .f32) (harg9 : arg9.IsWhole) (arg10 : Memref sig .tc .vmem S32x8192 .bf16) (harg10 : arg10.IsWhole) (hc0 : cond0_0 i)
    (x0 : Vec F S2x112x64 .f32) (x1 : Vec F S2x112x64 .f32) (x2 : Vec F S1x256x8192 .fp8e5m2) (x3 : Vec F S1x256x8192 .fp8e4m3) (x4 : Vec F S1x4x256 .f32) (x5 : Vec F S1x4x8192 .f32) :
    (kernelRun0_A c i arg2 harg2 arg3 harg3 arg4 harg4 arg5 harg5 arg6 harg6 arg7 harg7 arg8 harg8 arg9 harg9 arg10 harg10 hc0 x0 x1 x2 x3 x4 x5).1 = pieces6 (errAt (rdP arg6 harg6 x4) (rdLimbs' arg10 (rdQ arg7 harg7 x5)) (rdCodes arg4 harg4 x2) (rdScale i arg2 harg2 x0) (rdCodes arg5 harg5 x3) (rdScale i arg3 harg3 x1)) 128 le_rfl := by
  sl_kernel_rfl

/-- The stores of scales. -/
theorem runA_scales (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x256 .f32) (harg6 : arg6.IsWhole) (arg7 : Memref sig .tc .vmem S1x4x8192 .f32) (harg7 : arg7.IsWhole) (arg8 : Memref sig .tc .vmem S1x256x8192 .fp8e4m3) (harg8 : arg8.IsWhole) (arg9 : Memref sig .tc .vmem S1x1x2x64 .f32) (harg9 : arg9.IsWhole) (arg10 : Memref sig .tc .vmem S32x8192 .bf16) (harg10 : arg10.IsWhole) (hc0 : cond0_0 i)
    (x0 : Vec F S2x112x64 .f32) (x1 : Vec F S2x112x64 .f32) (x2 : Vec F S1x256x8192 .fp8e5m2) (x3 : Vec F S1x256x8192 .fp8e4m3) (x4 : Vec F S1x4x256 .f32) (x5 : Vec F S1x4x8192 .f32) :
    (kernelRun0_A c i arg2 harg2 arg3 harg3 arg4 harg4 arg5 harg5 arg6 harg6 arg7 harg7 arg8 harg8 arg9 harg9 arg10 harg10 hc0 x0 x1 x2 x3 x4 x5).2.1 = pieces7 (errAt (rdP arg6 harg6 x4) (rdLimbs' arg10 (rdQ arg7 harg7 x5)) (rdCodes arg4 harg4 x2) (rdScale i arg2 harg2 x0) (rdCodes arg5 harg5 x3) (rdScale i arg3 harg3 x1)) 128 le_rfl := by
  sl_kernel_rfl

end Cert.RequantIdeal.Gen

end
-- ==== Proof.RqPiecesB.lean ====
/- What the run of the call `requant` found at a later point of a batch entry: the stores are the uniform block functions. -/
module

public import proofs.«01_k».proof.Proof.Gen.RequantIdeal.Frame.RunB
public import proofs.«01_k».proof.Proof.RqTiles

@[expose] public section

set_option maxRecDepth 16384

noncomputable section

namespace Cert.RequantIdeal.Gen

open Idealize.ShloMosaic Idealize.ShloMosaic.TcCoe Idealize.ShloMosaic.Tactic

variable {F : FTy → Type} [FloatOps F]

/-- The stores of codes. -/
theorem runB_codes (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x256 .f32) (harg6 : arg6.IsWhole) (arg7 : Memref sig .tc .vmem S1x4x8192 .f32) (harg7 : arg7.IsWhole) (arg8 : Memref sig .tc .vmem S1x256x8192 .fp8e4m3) (harg8 : arg8.IsWhole) (arg9 : Memref sig .tc .vmem S1x1x2x64 .f32) (harg9 : arg9.IsWhole) (arg10 : Memref sig .tc .vmem S32x8192 .bf16) (harg10 : arg10.IsWhole) (hc0 : ¬cond0_0 i)
    (x0 : Vec F S2x112x64 .f32) (x1 : Vec F S2x112x64 .f32) (x2 : Vec F S1x256x8192 .fp8e5m2) (x3 : Vec F S1x256x8192 .fp8e4m3) (x4 : Vec F S1x4x256 .f32) (x5 : Vec F S1x4x8192 .f32) (xs0 : Vec F S32x8192 .bf16) :
    (kernelRun0_B c i arg2 harg2 arg3 harg3 arg4 harg4 arg5 harg5 arg6 harg6 arg7 harg7 arg8 harg8 arg9 harg9 arg10 harg10 hc0 x0 x1 x2 x3 x4 x5 xs0).1 = pieces6 (errAt (rdP arg6 harg6 x4) (rdLimbs arg10 harg10 xs0) (rdCodes arg4 harg4 x2) (rdScale i arg2 harg2 x0) (rdCodes arg5 harg5 x3) (rdScale i arg3 harg3 x1)) 128 le_rfl := by
  sl_kernel_rfl

/-- The stores of scales. -/
theorem runB_scales (c : Dev nD) (i : grid0.Coords) (arg2 : Memref sig .tc .smem S2x112x64 .f32) (harg2 : arg2.IsWhole) (arg3 : Memref sig .tc .smem S2x112x64 .f32) (harg3 : arg3.IsWhole) (arg4 : Memref sig .tc .vmem S1x256x8192 .fp8e5m2) (harg4 : arg4.IsWhole) (arg5 : Memref sig .tc .vmem S1x256x8192 .fp8e4m3) (harg5 : arg5.IsWhole) (arg6 : Memref sig .tc .vmem S1x4x256 .f32) (harg6 : arg6.IsWhole) (arg7 : Memref sig .tc .vmem S1x4x8192 .f32) (harg7 : arg7.IsWhole) (arg8 : Memref sig .tc .vmem S1x256x8192 .fp8e4m3) (harg8 : arg8.IsWhole) (arg9 : Memref sig .tc .vmem S1x1x2x64 .f32) (harg9 : arg9.IsWhole) (arg10 : Memref sig .tc .vmem S32x8192 .bf16) (harg10 : arg10.IsWhole) (hc0 : ¬cond0_0 i)
    (x0 : Vec F S2x112x64 .f32) (x1 : Vec F S2x112x64 .f32) (x2 : Vec F S1x256x8192 .fp8e5m2) (x3 : Vec F S1x256x8192 .fp8e4m3) (x4 : Vec F S1x4x256 .f32) (x5 : Vec F S1x4x8192 .f32) (xs0 : Vec F S32x8192 .bf16) :
    (kernelRun0_B c i arg2 harg2 arg3 harg3 arg4 harg4 arg5 harg5 arg6 harg6 arg7 harg7 arg8 harg8 arg9 harg9 arg10 harg10 hc0 x0 x1 x2 x3 x4 x5 xs0).2.1 = pieces7 (errAt (rdP arg6 harg6 x4) (rdLimbs arg10 harg10 xs0) (rdCodes arg4 harg4 x2) (rdScale i arg2 harg2 x0) (rdCodes arg5 harg5 x3) (rdScale i arg3 harg3 x1)) 128 le_rfl := by
  sl_kernel_rfl

end Cert.RequantIdeal.Gen

end
-- ==== Proof.RqAt.lean ====
/- What a grid point of the call `requant` reads and leaves, element by element in the extended reals. -/
module

public import proofs.«01_k».proof.Proof.RqTilesAt
public import proofs.«01_k».proof.Proof.RqPiecesA
public import proofs.«01_k».proof.Proof.RqPiecesB
public import Idealize.ShloMosaic.Lib.Pipeline.ValueKit

@[expose] public section

set_option maxRecDepth 16384

noncomputable section

namespace Cert.RequantIdeal.Gen

open Idealize.ShloMosaic Idealize.ShloMosaic.TcCoe Idealize.ShloMosaic.Tactic

/-! ## The reads -/

/-- The row, in a point's rows, of row `a` of block `s`, -/
def rowAt (s : Fin 128) (a : Fin 128) : Fin 256 := ⟨128 * (s.val / 64) + a.val, by omega⟩
/-- the column, -/
def colAt (s : Fin 128) (d : Fin 128) : Fin 8192 := ⟨128 * (s.val % 64) + d.val, by omega⟩
/-- and the block's column. -/
def colOf (s : Fin 128) : Fin 64 := ⟨s.val % 64, by omega⟩

theorem rdScale_apply (i : grid0.Coords) (m : Memref sig .tc .smem S2x112x64 .f32) (hm : m.IsWhole) (x : Vec Ideal S2x112x64 .f32) (s : Fin 128)
    (b : Fin 2) (v : Fin 112) (hb : b.val = (i 0).val) (hv : v.val = 2 * (i 1).val + (rowOf s).val) :
    rdScale i m hm x s = x (ix3 b v (colOf s)) := by
  unfold rdScale
  rw [View.readAt_eq_ld, hm.read_unread]
  refine congrArg x (funext fun a => Fin.ext ?_)
  refine (Rect.idx_unit_val _ _ _ _ a).trans ?_
  have h := congrFun (scaleOff_eq i (rowOf s) (s.val % 64)) a
  fin_cases a
  · have h' : scaleOff i (BitVec.ofNat 32 (rowOf s).val) (s.val % 64) 0 = (i 0).val := h
    show scaleOff i (BitVec.ofNat 32 (rowOf s).val) (s.val % 64) 0 + 0 = b.val; omega
  · have h' : scaleOff i (BitVec.ofNat 32 (rowOf s).val) (s.val % 64) 1 = 2 * (i 1).val + (rowOf s).val := h
    show scaleOff i (BitVec.ofNat 32 (rowOf s).val) (s.val % 64) 1 + 0 = v.val; omega
  · rfl

theorem rdCodes_apply {e : EltTy} (m : Memref sig .tc .vmem S1x256x8192 e) (hm : m.IsWhole) (x : Vec Ideal S1x256x8192 e) (s a d : Fin 128) :
    rdCodes m hm x s (ix3 0 a d) = x (ix3 0 (rowAt s a) (colAt s d)) := by
  unfold rdCodes
  rw [View.readAt_eq_ld, hm.read_unread]
  refine congrArg x (funext fun k => Fin.ext ?_)
  refine (Rect.idx_unit_val _ _ _ _ k).trans ?_
  fin_cases k <;> rfl

theorem rdP_eq (m : Memref sig .tc .vmem S1x4x256 .f32) (hm : m.IsWhole) (x : Vec Ideal S1x4x256 .f32) : rdP m hm x = x := by
  unfold rdP
  rw [View.readAt_eq_ld, hm.read_unread]
  exact View.ld_unit_lit _ x (fun a => by fin_cases a <;> rfl)

theorem rdQ_eq (m : Memref sig .tc .vmem S1x4x8192 .f32) (hm : m.IsWhole) (x : Vec Ideal S1x4x8192 .f32) : rdQ m hm x = x := by
  unfold rdQ
  rw [View.readAt_eq_ld, hm.read_unread]
  exact View.ld_unit_lit _ x (fun a => by fin_cases a <;> rfl)

theorem ld_tile (x : Vec Ideal S32x8192 .bf16) (t : Fin 32) (k : Fin 32) (d : Fin 256) :
    View.ld (Val := Elt Ideal) x (Rect.unit (s := S32x8192) ![0, 256 * t.val] S32x256.size (tileOff_inb t)) (ix2 k d)
      = x (ix2 k ⟨256 * t.val + d.val, by omega⟩) := by
  refine congrArg x (funext fun a => Fin.ext ?_)
  refine (Rect.idx_unit_val _ _ _ _ a).trans ?_
  fin_cases a
  · exact Nat.zero_add _
  · rfl

theorem rdLimbs_apply (m : Memref sig .tc .vmem S32x8192 .bf16) (hm : m.IsWhole) (x : Vec Ideal S32x8192 .bf16) (t : Fin 32) (k : Fin 32) (d : Fin 256) :
    rdLimbs m hm x t (ix2 k d) = x (ix2 k ⟨256 * t.val + d.val, by omega⟩) := by
  unfold rdLimbs
  rw [View.readAt_eq_ld, hm.read_unread]
  exact ld_tile x t k d

theorem canon_limbs (q : Vec Ideal S1x4x8192 .f32) : View.canon (Val := Elt Ideal) [limbPiece q] = k0_pay2 q :=
  View.canon_cons_unit_lit _ _ _ (fun a => by fin_cases a <;> rfl)

theorem rdLimbs'_apply (m : Memref sig .tc .vmem S32x8192 .bf16) (q : Vec Ideal S1x4x8192 .f32) (t : Fin 32) (k : Fin 32) (d : Fin 256) :
    rdLimbs' m q t (ix2 k d) = k0_pay2 q (ix2 k ⟨256 * t.val + d.val, by omega⟩) := by
  unfold rdLimbs'
  rw [View.readCov_eq_canon', canon_limbs]
  exact ld_tile (k0_pay2 q) t k d

/-! ## The errors of a block -/

section Errors

variable (g e : Fin 256 → Fin 8192 → EReal) (gs es : Fin 2 → Fin 64 → EReal) (p : Fin 4 → Fin 256 → EReal) (q : Fin 4 → Fin 8192 → EReal)

/-- The errors of block `s` of a point, of the codes, scales and factors it is given. -/
def errPt (s a d : Fin 128) : EReal :=
  (g (rowAt s a) (colAt s d) * gs (rowOf s) (colOf s) + e (rowAt s a) (colAt s d) * es (rowOf s) (colOf s))
    - ∑ k : Fin 4, p k (rowAt s a) * q k (colAt s d)

variable (P : Vec Ideal S1x4x256 .f32) (Q : Fin 32 → Vec Ideal S32x256 .bf16) (G : Fin 128 → Vec Ideal S1x128x128 .fp8e5m2) (GS : Fin 128 → Elt Ideal .f32)
  (E : Fin 128 → Vec Ideal S1x128x128 .fp8e4m3) (ES : Fin 128 → Elt Ideal .f32)

theorem errAt_apply (hf : ∀ y, P y ≠ (⊤ : EReal) ∧ P y ≠ (⊥ : EReal)) (hP : ∀ k a, P (ix3 0 k a) = p k a)
    (hQ : ∀ (t : Fin 32) (d : Fin 256) (b : Fin 8) (j : Fin 4), Q t (ix2 ⟨4 * b.val + j.val, by omega⟩ d)
      = (![q j ⟨256 * t.val + d.val, by omega⟩, 0, q j ⟨256 * t.val + d.val, by omega⟩, 0, 0, q j ⟨256 * t.val + d.val, by omega⟩, 0, 0] : Fin 8 → EReal) b)
    (hG : ∀ s a d, G s (ix3 0 a d) = g (rowAt s a) (colAt s d)) (hE : ∀ s a d, E s (ix3 0 a d) = e (rowAt s a) (colAt s d))
    (hGS : ∀ s, GS s = gs (rowOf s) (colOf s)) (hES : ∀ s, ES s = es (rowOf s) (colOf s)) (s a d : Fin 128) :
    errAt P Q G GS E ES s (ix2 a d) = errPt g e gs es p q s a d := by
  unfold errAt errPt
  rw [errOf_apply, hG, hE, hGS, hES,
    prodTile_limbs P hf (Q (tileOf s)) (fun j d => q j ⟨256 * (tileOf s).val + d.val, by have := (tileOf s).isLt; omega⟩) (hQ (tileOf s))]
  refine congrArg (fun u : EReal => _ - u) (Finset.sum_congr rfl fun k _ => ?_)
  rw [hP]
  refine congrArg₂ (fun u v : EReal => u * v) (congrArg (p k) (Fin.ext rfl)) (congrArg (q k) (Fin.ext ?_))
  show 256 * (s.val % 64 / 2) + (128 * (s.val % 2) + d.val) = 128 * (s.val % 64) + d.val
  omega

end Errors

/-! ## The stores -/

theorem pieces6_sub (err : Fin 128 → FVec Ideal S128x128 .f32) : ∀ (n : ℕ) (h : n ≤ 128), ∀ p ∈ pieces6 err n h,
    ∃ s : Fin 128, p = ⟨blockRect s, codesOf (err s) (fieldOf (amaxOf (err s)))⟩
  | 0, _, p, hp => by simp [pieces6] at hp
  | n + 1, h, p, hp => by
    rcases List.mem_cons.mp hp with rfl | hp
    · exact ⟨⟨n, h⟩, rfl⟩
    · exact pieces6_sub err n (by omega) p hp

/-- The store of the scale of block `s`. -/
def scalePiece (err : FVec Ideal S128x128 .f32) (s : Fin 128) : View.Piece (Elt Ideal) S1x1x2x64 .f32 :=
  ⟨Rect.unit (s := S1x1x2x64) ![0, 0, s.val / 64, s.val % 64] S1x1x1x1.size (scaleAt_inb s), scaleOf (F := Ideal) (fieldOf (amaxOf err))⟩

theorem pieces7_sub (err : Fin 128 → FVec Ideal S128x128 .f32) : ∀ (n : ℕ) (h : n ≤ 128), ∀ p ∈ pieces7 err n h,
    ∃ s : Fin 128, p = scalePiece (err s) s
  | 0, _, p, hp => by simp [pieces7] at hp
  | n + 1, h, p, hp => by
    rcases List.mem_cons.mp hp with rfl | hp
    · exact ⟨⟨n, h⟩, rfl⟩
    · exact pieces7_sub err n (by omega) p hp

/-- The block of an index. -/
def blkOf (R : Fin 256) (C : Fin 8192) : Fin 128 := ⟨64 * (R.val / 128) + C.val / 128, by omega⟩

theorem canon6 (err : Fin 128 → FVec Ideal S128x128 .f32) (x : Fin 128 → Fin 128 → Fin 128 → EReal) (hx : ∀ s a d, err s (ix2 a d) = x s a d)
    (L : List (View.Piece (Elt Ideal) S1x256x8192 .fp8e4m3)) (hL : L = pieces6 err 128 le_rfl) (hc : ∀ y, ∃ p ∈ L, y ∈ p.1.set) (R : Fin 256) (C : Fin 8192) :
    View.canon (Val := Elt Ideal) L (ix3 0 R C)
      = Quant.clip (x (blkOf R C) ⟨R.val % 128, by omega⟩ ⟨C.val % 128, by omega⟩ * Exponent.kInv (Quant.amaxOf (x (blkOf R C)))) := by
  let G : S1x256x8192.Idx → Elt Ideal .fp8e4m3 := fun y => Quant.clip (x (blkOf (y 1) (y 2))
      ⟨(y 1).val % 128, by omega⟩ ⟨(y 2).val % 128, by omega⟩ * Exponent.kInv (Quant.amaxOf (x (blkOf (y 1) (y 2)))))
  have hp : ∀ p ∈ L, ∀ z : p.1.shape.Idx, p.2 z = G (p.1.emb z) := by
    rw [hL]
    intro p hp z
    obtain ⟨s, rfl⟩ := pieces6_sub err 128 le_rfl p hp
    obtain ⟨k, a, d, rfl⟩ : ∃ (k : Fin 1) (a d : Fin 128), z = ix3 k a d := ⟨z 0, z 1, z 2, eq_ix3 z⟩
    obtain rfl : k = 0 := Subsingleton.elim _ _
    have hs := s.isLt
    have ha := a.isLt
    have hd := d.isLt
    have h1 : (((blockRect s).emb (ix3 0 a d)) 1).val = 128 * (s.val / 64) + a.val :=
      ValueKit.rect_emb_unit_val (s := S1x256x8192) ![0, 128 * (s.val / 64), 128 * (s.val % 64)] S1x128x128.size (blockOff_inb s) (ix3 0 a d) 1
    have h2 : (((blockRect s).emb (ix3 0 a d)) 2).val = 128 * (s.val % 64) + d.val :=
      ValueKit.rect_emb_unit_val (s := S1x256x8192) ![0, 128 * (s.val / 64), 128 * (s.val % 64)] S1x128x128.size (blockOff_inb s) (ix3 0 a d) 2
    have e1 : blkOf (((blockRect s).emb (ix3 0 a d)) 1) (((blockRect s).emb (ix3 0 a d)) 2) = s :=
      Fin.ext (by show 64 * ((((blockRect s).emb (ix3 0 a d)) 1).val / 128) + (((blockRect s).emb (ix3 0 a d)) 2).val / 128 = s.val; rw [h1, h2]; omega)
    refine (codesOf_apply (err s) _ a d).trans ?_
    rw [fieldOf_apply, amaxOf_apply, hx]
    have hfun : (fun i j => err s (ix2 i j)) = x s := funext fun i => funext fun j => hx s i j
    rw [hfun]
    show _ = Quant.clip (x (blkOf (((blockRect s).emb (ix3 0 a d)) 1) (((blockRect s).emb (ix3 0 a d)) 2)) _ _ * _)
    rw [e1]
    refine congrArg (fun u : EReal => Quant.clip (u * Exponent.kInv (Quant.amaxOf (x s)))) (congrArg₂ (x s) (Fin.ext ?_) (Fin.ext ?_))
    · show a.val = (((blockRect s).emb (ix3 0 a d)) 1).val % 128; rw [h1]; omega
    · show d.val = (((blockRect s).emb (ix3 0 a d)) 2).val % 128; rw [h2]; omega
  exact View.canon_apply_of_pieces G L hp (ix3 0 R C) (hc _)

theorem canon7 (err : Fin 128 → FVec Ideal S128x128 .f32) (x : Fin 128 → Fin 128 → Fin 128 → EReal) (hx : ∀ s a d, err s (ix2 a d) = x s a d)
    (L : List (View.Piece (Elt Ideal) S1x1x2x64 .f32)) (hL : L = pieces7 err 128 le_rfl) (hc : ∀ y, ∃ p ∈ L, y ∈ p.1.set) (r : Fin 2) (C : Fin 64) :
    View.canon (Val := Elt Ideal) L (ix4 0 0 r C) = Exponent.kScale (Quant.amaxOf (x ⟨64 * r.val + C.val, by omega⟩)) := by
  let G : S1x1x2x64.Idx → Elt Ideal .f32 := fun y => Exponent.kScale (Quant.amaxOf (x
      ⟨64 * (y 2).val + (y 3).val, by have : (y 2).val < 2 := (y 2).isLt; have : (y 3).val < 64 := (y 3).isLt; omega⟩))
  have hp : ∀ p ∈ L, ∀ z : p.1.shape.Idx, p.2 z = G (p.1.emb z) := by
    rw [hL]
    intro p hp z
    obtain ⟨s, rfl⟩ := pieces7_sub err 128 le_rfl p hp
    have hs := s.isLt
    have z2 : (z 2).val < 1 := (z 2).isLt
    have z3 : (z 3).val < 1 := (z 3).isLt
    refine (scaleOf_apply _ z).trans ?_
    rw [fieldOf_apply, amaxOf_apply]
    have hfun : (fun i j => err s (ix2 i j)) = x s := funext fun i => funext fun j => hx s i j
    rw [hfun]
    refine congrArg (fun u => Exponent.kScale (Quant.amaxOf (x u))) (Fin.ext ?_)
    have h2 : (((scalePiece (err s) s).1.emb z) 2).val = s.val / 64 + (z 2).val :=
      ValueKit.rect_emb_unit_val (s := S1x1x2x64) ![0, 0, s.val / 64, s.val % 64] S1x1x1x1.size (scaleAt_inb s) z 2
    have h3 : (((scalePiece (err s) s).1.emb z) 3).val = s.val % 64 + (z 3).val :=
      ValueKit.rect_emb_unit_val (s := S1x1x2x64) ![0, 0, s.val / 64, s.val % 64] S1x1x1x1.size (scaleAt_inb s) z 3
    show s.val = 64 * _ + _
    rw [h2, h3]
    omega
  exact View.canon_apply_of_pieces G L hp (ix4 0 0 r C) (hc _)

end Cert.RequantIdeal.Gen

end
-- ==== Proof.RqValue.lean ====
/- What the two result arrays of the ideal kernel of the call `requant` hold after a run, where p and q_new are finite. -/
module

public import proofs.«01_k».proof.Proof.RqAt
public import proofs.«01_k».proof.Proof.Gen.RequantIdeal.Value

@[expose] public section

set_option maxRecDepth 16384

noncomputable section

namespace Cert.RequantIdeal.Gen

open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ) (c : Dev nD)

/-! ## The blocks of a point -/

theorem coords0 (t : Fin cfg0.N) : (grid0.coords t 0).val = t.val / 56 := by
  have e0 : (grid0.coords t 0).val = t.val / 56 % 2 := Pipeline.Grid.coords_val t 0 (by decide) rfl
  have hN : cfg0.N = 112 := N_0
  have ht := t.isLt
  omega

theorem coords1 (t : Fin cfg0.N) : (grid0.coords t 1).val = t.val % 56 := by
  have e1 : (grid0.coords t 1).val = t.val / 1 % 56 := Pipeline.Grid.coords_val t 1 (by decide) rfl
  omega

theorem index0 (t : Fin cfg0.N) : win0_0.index t = ![0, 0, 0] := (by decide +kernel : ∀ t : Fin grid0.N, win0_0.index t = ![0, 0, 0]) t
theorem index1 (t : Fin cfg0.N) : win0_1.index t = ![0, 0, 0] := (by decide +kernel : ∀ t : Fin grid0.N, win0_1.index t = ![0, 0, 0]) t
theorem index2 (t : Fin cfg0.N) : win0_2.index t = ![t.val / 56, t.val % 56, 0] :=
  (by decide +kernel : ∀ t : Fin grid0.N, win0_2.index t = ![t.val / 56, t.val % 56, 0]) t
theorem index3 (t : Fin cfg0.N) : win0_3.index t = ![t.val / 56, t.val % 56, 0] :=
  (by decide +kernel : ∀ t : Fin grid0.N, win0_3.index t = ![t.val / 56, t.val % 56, 0]) t
theorem index4 (t : Fin cfg0.N) : win0_4.index t = ![t.val / 56, 0, t.val % 56] :=
  (by decide +kernel : ∀ t : Fin grid0.N, win0_4.index t = ![t.val / 56, 0, t.val % 56]) t
theorem index5 (t : Fin cfg0.N) : win0_5.index t = ![t.val / 56, 0, 0] :=
  (by decide +kernel : ∀ t : Fin grid0.N, win0_5.index t = ![t.val / 56, 0, 0]) t
theorem index6 (t : Fin cfg0.N) : win0_6.index t = ![t.val / 56, t.val % 56, 0] :=
  (by decide +kernel : ∀ t : Fin grid0.N, win0_6.index t = ![t.val / 56, t.val % 56, 0]) t
theorem index7 (t : Fin cfg0.N) : win0_7.index t = ![t.val / 56, t.val % 56, 0, 0] :=
  (by decide +kernel : ∀ t : Fin grid0.N, win0_7.index t = ![t.val / 56, t.val % 56, 0, 0]) t

theorem iblk0_apply (t : Fin cfg0.N) (b : Fin 2) (v : Fin 112) (n : Fin 64) : iblk m c 0 t (ix3 b v n) = V m c main_arg1 (ix3 b v n) := by
  blk_ext [iblk, index0 t]

theorem iblk1_apply (t : Fin cfg0.N) (b : Fin 2) (v : Fin 112) (n : Fin 64) : iblk m c 1 t (ix3 b v n) = V m c main_arg3 (ix3 b v n) := by
  blk_ext [iblk, index1 t]

theorem iblk2_apply (t : Fin cfg0.N) (j : Fin 256) (d : Fin 8192) (b : Fin 2) (s : Fin 14336) (hb : b.val = t.val / 56)
    (hs : s.val = 256 * (t.val % 56) + j.val) : iblk m c 2 t (ix3 0 j d) = V m c main_v0 (ix3 b s d) := by
  blk_ext [iblk, index2 t]

theorem iblk3_apply (t : Fin cfg0.N) (j : Fin 256) (d : Fin 8192) (b : Fin 2) (s : Fin 14336) (hb : b.val = t.val / 56)
    (hs : s.val = 256 * (t.val % 56) + j.val) : iblk m c 3 t (ix3 0 j d) = V m c main_v1 (ix3 b s d) := by
  blk_ext [iblk, index3 t]

theorem iblk4_apply (t : Fin cfg0.N) (k : Fin 4) (j : Fin 256) (b : Fin 2) (s : Fin 14336) (hb : b.val = t.val / 56)
    (hs : s.val = 256 * (t.val % 56) + j.val) : iblk m c 4 t (ix3 0 k j) = V m c main_arg4 (ix3 b k s) := by
  blk_ext [iblk, index4 t]

theorem iblk5_apply (t : Fin cfg0.N) (k : Fin 4) (d : Fin 8192) (b : Fin 2) (hb : b.val = t.val / 56) :
    iblk m c 5 t (ix3 0 k d) = V m c main_arg5 (ix3 b k d) := by
  blk_ext [iblk, index5 t]

/-- The batch entry of a point, -/
def bOf (t : Fin cfg0.N) : Fin 2 := ⟨t.val / 56, by have h := t.isLt; have hN : cfg0.N = 112 := N_0; omega⟩
/-- the row of its matrix at a row of the point, -/
def sOf (t : Fin cfg0.N) (j : Fin 256) : Fin 14336 := ⟨256 * (t.val % 56) + j.val, by omega⟩
/-- and the row block. -/
def vOf (t : Fin cfg0.N) (r : Fin 2) : Fin 112 := ⟨2 * (t.val % 56) + r.val, by omega⟩

/-- The block of q_new is the same at all points of a batch entry. -/
theorem iblk5_eq (t t' : Fin cfg0.N) (h : t.val / 56 = t'.val / 56) : iblk m c 5 t = iblk m c 5 t' := by
  funext y
  obtain ⟨k, j, d, rfl⟩ : ∃ (k : Fin 1) (j : Fin 4) (d : Fin 8192), y = ix3 k j d := ⟨y 0, y 1, y 2, eq_ix3 y⟩
  obtain rfl : k = 0 := Subsingleton.elim _ _
  rw [iblk5_apply m c t j d (bOf t) rfl, iblk5_apply m c t' j d (bOf t) h]

/-! ## The limbs of q_new, kept from the first point of a batch entry on -/

theorem limbs_kept : ∀ (n : ℕ) (hn : n < cfg0.N), (outsAt0 m c n hn).2.2 = k0_pay2 (iblk m c 5 ⟨n, hn⟩) := by
  have first : ∀ t : Fin cfg0.N, t.val % 56 = 0 → (outsAt0 m c t.val t.isLt).2.2 = k0_pay2 (iblk m c 5 t) := by
    intro t h0
    rw [outsAt0_A m c t h0]
    dsimp only
    unfold sout0_A_0
    rw [View.read_writes_eq_canon _ _ _ (scover0_A_0 c _ _ _ _ _ _ _ _ _ _ _ _ _ _ _ _ _ _ _ _ _ _ _ _ _ _), runA_limbs, rdQ_eq]
    exact canon_limbs _
  intro n
  induction n with
  | zero => exact fun hn => first ⟨0, hn⟩ rfl
  | succ n ih =>
    intro hn
    by_cases h0 : (n + 1) % 56 = 0
    · exact first ⟨n + 1, hn⟩ h0
    · have h := congrArg (fun x => x.2.2) (outsAt0_B m c ⟨n + 1, hn⟩ h0)
      refine h.trans ?_
      refine (ih (by omega)).trans (congrArg k0_pay2 (iblk5_eq m c _ _ ?_))
      show n / 56 = (n + 1) / 56
      omega

/-! ## A point's codes and scales -/

/-- The errors of block `s` of a point. -/
abbrev errT (t : Fin cfg0.N) (s a d : Fin 128) : EReal :=
  errPt (fun R C => V m c main_v0 (ix3 (bOf t) (sOf t R) C)) (fun R C => V m c main_v1 (ix3 (bOf t) (sOf t R) C))
    (fun r n => V m c main_arg1 (ix3 (bOf t) (vOf t r) n)) (fun r n => V m c main_arg3 (ix3 (bOf t) (vOf t r) n))
    (fun k a => V m c main_arg4 (ix3 (bOf t) k (sOf t a))) (fun k d => V m c main_arg5 (ix3 (bOf t) k d)) s a d

/-- p and q_new are finite. -/
structure Fin4 : Prop where
  p : ∀ b k s, V m c main_arg4 (ix3 b k s) ≠ (⊤ : EReal) ∧ V m c main_arg4 (ix3 b k s) ≠ (⊥ : EReal)
  q : ∀ b k d, V m c main_arg5 (ix3 b k d) ≠ (⊤ : EReal) ∧ V m c main_arg5 (ix3 b k d) ≠ (⊥ : EReal)

variable (H : Fin4 m c)
include H

theorem fin_p (t : Fin cfg0.N) (y : S1x4x256.Idx) : iblk m c 4 t y ≠ (⊤ : EReal) ∧ iblk m c 4 t y ≠ (⊥ : EReal) := by
  obtain ⟨k, j, d, rfl⟩ : ∃ (k : Fin 1) (j : Fin 4) (d : Fin 256), y = ix3 k j d := ⟨y 0, y 1, y 2, eq_ix3 y⟩
  obtain rfl : k = 0 := Subsingleton.elim _ _
  rw [iblk4_apply m c t j d (bOf t) (sOf t d) rfl rfl]
  exact H.p _ _ _

theorem fin_q (t : Fin cfg0.N) (y : S1x4x8192.Idx) : iblk m c 5 t y ≠ (⊤ : EReal) ∧ iblk m c 5 t y ≠ (⊥ : EReal) := by
  obtain ⟨k, j, d, rfl⟩ : ∃ (k : Fin 1) (j : Fin 4) (d : Fin 8192), y = ix3 k j d := ⟨y 0, y 1, y 2, eq_ix3 y⟩
  obtain rfl : k = 0 := Subsingleton.elim _ _
  rw [iblk5_apply m c t j d (bOf t) rfl]
  exact H.q _ _ _

/-- The errors, from any buffers that hold the point's blocks and any tiles of the limbs of its q_new. -/
theorem errT_of (t : Fin cfg0.N) (a2 : Memref sig .tc .smem S2x112x64 .f32) (h2 : a2.IsWhole) (a3 : Memref sig .tc .smem S2x112x64 .f32) (h3 : a3.IsWhole)
    (a4 : Memref sig .tc .vmem S1x256x8192 .fp8e5m2) (h4 : a4.IsWhole) (a5 : Memref sig .tc .vmem S1x256x8192 .fp8e4m3) (h5 : a5.IsWhole)
    (a6 : Memref sig .tc .vmem S1x4x256 .f32) (h6 : a6.IsWhole) (Q : Fin 32 → Vec Ideal S32x256 .bf16)
    (hQ : ∀ (u : Fin 32) (k : Fin 32) (d : Fin 256), Q u (ix2 k d) = k0_pay2 (iblk m c 5 t) (ix2 k ⟨256 * u.val + d.val, by omega⟩)) (s a d : Fin 128) :
    errAt (rdP a6 h6 (iblk m c 4 t)) Q (rdCodes a4 h4 (iblk m c 2 t)) (rdScale (grid0.coords t) a2 h2 (iblk m c 0 t)) (rdCodes a5 h5 (iblk m c 3 t))
      (rdScale (grid0.coords t) a3 h3 (iblk m c 1 t)) s (ix2 a d) = errT m c t s a d := by
  rw [rdP_eq]
  refine errAt_apply _ _ _ _ _ _ _ _ _ _ _ _ (fin_p m c H t) (fun k a => iblk4_apply m c t k a (bOf t) (sOf t a) rfl rfl) (fun u d b j => ?_)
    (fun s a d => (rdCodes_apply a4 h4 _ s a d).trans (iblk2_apply m c t _ _ (bOf t) (sOf t _) rfl rfl))
    (fun s a d => (rdCodes_apply a5 h5 _ s a d).trans (iblk3_apply m c t _ _ (bOf t) (sOf t _) rfl rfl))
    (fun s => (rdScale_apply _ a2 h2 _ s (bOf t) (vOf t (rowOf s)) (coords0 t).symm (by rw [coords1]; rfl)).trans (iblk0_apply m c t _ _ _))
    (fun s => (rdScale_apply _ a3 h3 _ s (bOf t) (vOf t (rowOf s)) (coords0 t).symm (by rw [coords1]; rfl)).trans (iblk1_apply m c t _ _ _)) s a d
  rw [hQ, limbsQ_apply _ (fin_q m c H t), iblk5_apply m c t j _ (bOf t) rfl]

theorem codes_pt (t : Fin cfg0.N) (R : Fin 256) (C : Fin 8192) : (outsAt0 m c t.val t.isLt).1 (ix3 0 R C)
    = Quant.clip (errT m c t (blkOf R C) ⟨R.val % 128, by omega⟩ ⟨C.val % 128, by omega⟩ * Exponent.kInv (Quant.amaxOf (errT m c t (blkOf R C)))) := by
  by_cases h0 : t.val % 56 = 0
  · rw [outsAt0_A m c t h0]
    dsimp only
    unfold out0_A_6
    rw [View.read_writes_eq_canon _ _ _ (cover0_A_6 c _ _ _ _ _ _ _ _ _ _ _ _ _ _ _ _ _ _ _ _ _ _ _ _ _ _)]
    refine canon6 _ _ (fun s a d => errT_of m c H t _ _ _ _ _ _ _ _ _ _ _ (fun u k d => ?_) s a d) _ (runA_codes c _ _ _ _ _ _ _ _ _ _ _ _ _ _ _ _ _ _ _ _ _ _ _ _ _ _) (cover0_A_6 c _ _ _ _ _ _ _ _ _ _ _ _ _ _ _ _ _ _ _ _ _ _ _ _ _ _) R C
    rw [rdLimbs'_apply, rdQ_eq]
  · have hn : t.val - 1 < cfg0.N := lt_of_le_of_lt (Nat.sub_le _ _) t.isLt
    rw [outsAt0_B m c t h0]
    dsimp only
    unfold out0_B_6
    rw [View.read_writes_eq_canon _ _ _ (cover0_B_6 c _ _ _ _ _ _ _ _ _ _ _ _ _ _ _ _ _ _ _ _ _ _ _ _ _ _ _)]
    refine canon6 _ _ (fun s a d => errT_of m c H t _ _ _ _ _ _ _ _ _ _ _ (fun u k d => ?_) s a d) _ (runB_codes c _ _ _ _ _ _ _ _ _ _ _ _ _ _ _ _ _ _ _ _ _ _ _ _ _ _ _) (cover0_B_6 c _ _ _ _ _ _ _ _ _ _ _ _ _ _ _ _ _ _ _ _ _ _ _ _ _ _ _) R C
    rw [rdLimbs_apply, limbs_kept m c (t.val - 1) hn, iblk5_eq m c ⟨t.val - 1, hn⟩ t (by dsimp only; omega)]

theorem scales_pt (t : Fin cfg0.N) (r : Fin 2) (C : Fin 64) : (outsAt0 m c t.val t.isLt).2.1 (ix4 0 0 r C)
    = Exponent.kScale (Quant.amaxOf (errT m c t ⟨64 * r.val + C.val, by omega⟩)) := by
  by_cases h0 : t.val % 56 = 0
  · rw [outsAt0_A m c t h0]
    dsimp only
    unfold out0_A_7
    rw [View.read_writes_eq_canon _ _ _ (cover0_A_7 c _ _ _ _ _ _ _ _ _ _ _ _ _ _ _ _ _ _ _ _ _ _ _ _ _ _)]
    refine canon7 _ _ (fun s a d => errT_of m c H t _ _ _ _ _ _ _ _ _ _ _ (fun u k d => ?_) s a d) _ (runA_scales c _ _ _ _ _ _ _ _ _ _ _ _ _ _ _ _ _ _ _ _ _ _ _ _ _ _) (cover0_A_7 c _ _ _ _ _ _ _ _ _ _ _ _ _ _ _ _ _ _ _ _ _ _ _ _ _ _) r C
    rw [rdLimbs'_apply, rdQ_eq]
  · have hn : t.val - 1 < cfg0.N := lt_of_le_of_lt (Nat.sub_le _ _) t.isLt
    rw [outsAt0_B m c t h0]
    dsimp only
    unfold out0_B_7
    rw [View.read_writes_eq_canon _ _ _ (cover0_B_7 c _ _ _ _ _ _ _ _ _ _ _ _ _ _ _ _ _ _ _ _ _ _ _ _ _ _ _)]
    refine canon7 _ _ (fun s a d => errT_of m c H t _ _ _ _ _ _ _ _ _ _ _ (fun u k d => ?_) s a d) _ (runB_scales c _ _ _ _ _ _ _ _ _ _ _ _ _ _ _ _ _ _ _ _ _ _ _ _ _ _ _) (cover0_B_7 c _ _ _ _ _ _ _ _ _ _ _ _ _ _ _ _ _ _ _ _ _ _ _ _ _ _ _) r C
    rw [rdLimbs_apply, limbs_kept m c (t.val - 1) hn, iblk5_eq m c ⟨t.val - 1, hn⟩ t (by dsimp only; omega)]
omit H

/-! ## The two arrays -/

/-- An array as a function of its three positions. -/
def fn3 {a b c : ℕ} (x : (⟨3, ![a, b, c]⟩ : Shape).Idx → EReal) : Fin a → Fin b → Fin c → EReal := fun i j k => x (ix3 i j k)

/-- The code of an element, -/
def codeOf (b : Fin 2) (R : Fin 112) (C : Fin 64) (i j : Fin 128) : EReal :=
  Quant.code (fn3 (V m c main_v0)) (fn3 (V m c main_v1)) (fn3 (V m c main_arg1)) (fn3 (V m c main_arg3)) (fn3 (V m c main_arg4)) (fn3 (V m c main_arg5)) b R C i j
/-- and the scale of a block. -/
def scaleAt (b : Fin 2) (R : Fin 112) (C : Fin 64) : EReal :=
  Quant.scale (fn3 (V m c main_v0)) (fn3 (V m c main_v1)) (fn3 (V m c main_arg1)) (fn3 (V m c main_arg3)) (fn3 (V m c main_arg4)) (fn3 (V m c main_arg5)) b R C

theorem errT_eq (t : Fin cfg0.N) (s : Fin 128) (R : Fin 112) (hR : R.val = 2 * (t.val % 56) + s.val / 64) :
    errT m c t s = Quant.err (fn3 (V m c main_v0)) (fn3 (V m c main_v1)) (fn3 (V m c main_arg1)) (fn3 (V m c main_arg3)) (fn3 (V m c main_arg4))
      (fn3 (V m c main_arg5)) (bOf t) R (colOf s) := by
  funext a d
  have e1 : sOf t (rowAt s a) = Quant.at128 (by decide) R a :=
    Fin.ext (by show 256 * (t.val % 56) + (128 * (s.val / 64) + a.val) = R.val * 128 + a.val; omega)
  have e2 : colAt s d = Quant.at128 (by decide) (colOf s) d :=
    Fin.ext (by show 128 * (s.val % 64) + d.val = s.val % 64 * 128 + d.val; omega)
  have e3 : vOf t (rowOf s) = R := Fin.ext (by show 2 * (t.val % 56) + s.val / 64 = R.val; omega)
  unfold errT errPt Quant.err fn3
  dsimp only
  rw [e1, e2, e3]

/-- The codes, -/
def finalC : Vec Ideal S2x14336x8192 .fp8e4m3 := fun y =>
  codeOf m c (y 0) ⟨(y 1).val / 128, by have : (y 1).val < 14336 := (y 1).isLt; omega⟩ ⟨(y 2).val / 128, by have : (y 2).val < 8192 := (y 2).isLt; omega⟩
    ⟨(y 1).val % 128, by omega⟩ ⟨(y 2).val % 128, by omega⟩
/-- and the scales. -/
def finalS : Vec Ideal S2x56x2x64 .f32 := fun y =>
  scaleAt m c (y 0) ⟨(y 1).val * 2 + (y 2).val, by have : (y 1).val < 56 := (y 1).isLt; have : (y 2).val < 2 := (y 2).isLt; omega⟩ (y 3)

include H

theorem arr6 : (dats m 0 c).arrAt 6 cfg0.N = finalC m c := by
  refine (dats m 0 c).arrAt_eq_of_covers 6 _ (by decide +kernel) fun t hf y => ?_
  blk_simp
  rw [after0_6]
  have e0 : (((win0_6.blk t).view.emb y) 0).val = t.val / 56 := by blk_simp [index6]
  have e1 : (((win0_6.blk t).view.emb y) 1).val = 256 * (t.val % 56) + (y 1).val := by
    blk_simp [index6]
    exact congrArg (fun n : ℕ => n + (y 1).val) (Nat.mul_comm _ _)
  have e2 : (((win0_6.blk t).view.emb y) 2).val = (y 2).val := by blk_simp [index6]
  generalize (win0_6.blk t).view.emb y = z at e0 e1 e2 ⊢
  obtain ⟨k, R, C, rfl⟩ : ∃ (k : Fin 1) (R : Fin 256) (C : Fin 8192), y = ix3 k R C := ⟨y 0, y 1, y 2, eq_ix3 y⟩
  obtain rfl : k = 0 := Subsingleton.elim _ _
  have e1' : (z 1).val = 256 * (t.val % 56) + R.val := e1
  have e2' : (z 2).val = C.val := e2
  have hR := R.isLt
  have hC := C.isLt
  refine (codes_pt m c H t R C).trans ?_
  have hz1 : (z 1).val < 14336 := (z 1).isLt
  have hz2 : (z 2).val < 8192 := (z 2).isLt
  rw [errT_eq m c t (blkOf R C) ⟨(z 1).val / 128, by omega⟩ (by
    show (z 1).val / 128 = 2 * (t.val % 56) + (64 * (R.val / 128) + C.val / 128) / 64; omega)]
  unfold finalC codeOf Quant.code
  have b1 : bOf t = z 0 := Fin.ext e0.symm
  have b2 : colOf (blkOf R C) = ⟨(z 2).val / 128, by omega⟩ :=
    Fin.ext (by show (64 * (R.val / 128) + C.val / 128) % 64 = (z 2).val / 128; omega)
  have b3 : (⟨R.val % 128, by omega⟩ : Fin 128) = ⟨(z 1).val % 128, by omega⟩ := Fin.ext (by show R.val % 128 = (z 1).val % 128; omega)
  have b4 : (⟨C.val % 128, by omega⟩ : Fin 128) = ⟨(z 2).val % 128, by omega⟩ := Fin.ext (by show C.val % 128 = (z 2).val % 128; omega)
  rw [b1, b2, b3, b4]

theorem arr7 : (dats m 0 c).arrAt 7 cfg0.N = finalS m c := by
  refine (dats m 0 c).arrAt_eq_of_covers 7 _ (by decide +kernel) fun t hf y => ?_
  blk_simp
  rw [after0_7]
  have e0 : (((win0_7.blk t).view.emb y) 0).val = t.val / 56 := by blk_simp [index7]
  have e1 : (((win0_7.blk t).view.emb y) 1).val = t.val % 56 := by blk_simp [index7]
  have e2 : (((win0_7.blk t).view.emb y) 2).val = (y 2).val := by blk_simp [index7]
  have e3 : (((win0_7.blk t).view.emb y) 3).val = (y 3).val := by blk_simp [index7]
  generalize (win0_7.blk t).view.emb y = z at e0 e1 e2 e3 ⊢
  obtain ⟨k, l, r, C, rfl⟩ : ∃ (k l : Fin 1) (r : Fin 2) (C : Fin 64), y = ix4 k l r C := ⟨y 0, y 1, y 2, y 3, eq_ix4 y⟩
  obtain rfl : k = 0 := Subsingleton.elim _ _
  obtain rfl : l = 0 := Subsingleton.elim _ _
  have e2' : (z 2).val = r.val := e2
  have e3' : (z 3).val = C.val := e3
  have hr := r.isLt
  have hC := C.isLt
  refine (scales_pt m c H t r C).trans ?_
  have hz1 : (z 1).val < 56 := (z 1).isLt
  rw [errT_eq m c t ⟨64 * r.val + C.val, by omega⟩ ⟨(z 1).val * 2 + (z 2).val, by omega⟩ (by
    show (z 1).val * 2 + (z 2).val = 2 * (t.val % 56) + (64 * r.val + C.val) / 64; omega)]
  unfold finalS scaleAt Quant.scale
  have b1 : bOf t = z 0 := Fin.ext e0.symm
  have b2 : colOf ⟨64 * r.val + C.val, by omega⟩ = z 3 := Fin.ext (by show (64 * r.val + C.val) % 64 = (z 3).val; omega)
  rw [b1, b2]

end Cert.RequantIdeal.Gen

end
-- ==== Proof.RqRef.lean ====
/- What the two result arrays of the ideal reference of the call `requant` hold after a run. -/
module

public import proofs.«01_k».proof.Proof.RqSpec
public import proofs.«01_k».proof.Proof.Gen.RequantReferenceIdeal.Frame
public import Idealize.ShloMosaic.Lib.Pipeline.ValueKit
public import Idealize.ShloMosaic.Lib.Pointwise

@[expose] public section

set_option maxRecDepth 16384

noncomputable section

namespace Cert.RequantReferenceIdeal.Gen

open Idealize.ShloMosaic Idealize.ShloMosaic.TcCoe Idealize.ShloMosaic.Tactic
open Idealize.SL Idealize.SL.RA Idealize.SL.Sem
open Idealize.ShloMosaic.Pipeline (Dat Cfg Window)

/-! ## The payloads, element by element -/

section Payloads

variable (v0 : Vec Ideal S2x14336x8192 .fp8e5m2) (v4 : Vec Ideal S2x112x64 .f32) (v8 : Vec Ideal S2x14336x8192 .fp8e4m3)
  (v12 : Vec Ideal S2x112x64 .f32) (v18 : Vec Ideal S2x4x14336 .f32) (v19 : Vec Ideal S2x4x8192 .f32)

/-- An array as a function of its three positions. -/
def fn3 {a b c : ℕ} (x : (⟨3, ![a, b, c]⟩ : Shape).Idx → EReal) : Fin a → Fin b → Fin c → EReal := fun i j k => x (ix3 i j k)

theorem pay4_apply (b : Fin 2) (R : Fin 112) (i : Fin 128) (C : Fin 64) (j : Fin 128) :
    k0_pay4 v0 v4 v8 v12 v18 v19 (ix5 b R i C j) = Quant.err (fn3 v0) (fn3 v8) (fn3 v4) (fn3 v12) (fn3 v18) (fn3 v19) b R C i j := by
  pointwise [k0_pay4]
  rfl

/-- A fold over the elements of a block, taken over its rows and columns. -/
theorem fold_block (v : S2x112x128x64x128.Idx → EReal) (w : EReal) (b : Fin 2) (R : Fin 112) (C : Fin 64) :
    (Finset.univ.filter fun i => reduces_S2x112x128x64x128_S2x112x64.drop i = ix3 b R C).fold max w v
      = (Finset.univ : Finset (Fin 128 × Fin 128)).fold max w fun k => v (ix5 b R k.1 C k.2) :=
  Finset.fold_filter_eq_fold_of_fiber max _ (fun k : Fin 128 × Fin 128 => ix5 b R k.1 C k.2)
    (fun _ _ e => Prod.ext (congrFun e 2) (congrFun e 4)) (fun i => by
      constructor
      · intro e
        refine ⟨(i 2, i 4), ?_⟩
        funext a; apply Fin.ext
        match a with
        | ⟨0, _⟩ => exact (congrArg Fin.val (congrFun e 0)).symm
        | ⟨1, _⟩ => exact (congrArg Fin.val (congrFun e 1)).symm
        | ⟨2, _⟩ => rfl
        | ⟨3, _⟩ => exact (congrArg Fin.val (congrFun e 2)).symm
        | ⟨4, _⟩ => rfl
      · rintro ⟨k, rfl⟩
        funext a; apply Fin.ext
        match a with
        | ⟨0, _⟩ => rfl
        | ⟨1, _⟩ => rfl
        | ⟨2, _⟩ => rfl) w v

/-- The largest element of a block. -/
theorem max_block (x : FVec Ideal S2x112x128x64x128 .f32) (b : Fin 2) (R : Fin 112) (C : Fin 64) :
    multiReduction .maximumf [2, 4] S2x112x64 x 0xFF800000#32 reduces_S2x112x128x64x128_S2x112x64 (.inl rfl) rfl (ix3 b R C)
      = (Finset.univ : Finset (Fin 128 × Fin 128)).fold max (Ideal.ofBits .f32 0xFF800000#32) fun k => x (ix5 b R k.1 C k.2) := by
  pointwise
  exact fold_block _ _ b R C

theorem abs_apply (x : FVec Ideal S2x112x128x64x128 .f32) (k : S2x112x128x64x128.Idx) : (absf x k : EReal) = max (x k : EReal) (-(x k : EReal)) := rfl

theorem amax_mul (y : FVec Ideal S2x112x64 .f32) (k : S2x112x64.Idx) :
    (mulf y (broadcast S2x112x64 (Scalar.ofBits .f32 0x3B124925#32)) k : EReal) = (y k : EReal) * Ideal.ofBits .f32 0x3B124925#32 := rfl

theorem amaxOf_of (f : Fin 128 → Fin 128 → EReal) (v : Fin 128 × Fin 128 → EReal) (h : ∀ k, v k = max (f k.1 k.2) (-f k.1 k.2)) (M : EReal)
    (hM : M = (Finset.univ : Finset (Fin 128 × Fin 128)).fold max (Ideal.ofBits .f32 0xFF800000#32 : EReal) v) :
    M * Ideal.ofBits .f32 0x3B124925#32 = Quant.amaxOf f := by
  rw [hM, funext h, Quant.amaxOf]

theorem amax_block (x : FVec Ideal S2x112x128x64x128 .f32) (b : Fin 2) (R : Fin 112) (C : Fin 64) :
    mulf (multiReduction .maximumf [2, 4] S2x112x64 (absf x) 0xFF800000#32 reduces_S2x112x128x64x128_S2x112x64 (.inl rfl) rfl)
        (broadcast S2x112x64 (Scalar.ofBits .f32 0x3B124925#32)) (ix3 b R C)
      = Quant.amaxOf fun i j => x (ix5 b R i C j) := by
  rw [amax_mul]
  exact amaxOf_of _ _ (fun k => abs_apply x (ix5 b R k.1 C k.2)) _ (max_block (absf x) b R C)

theorem pay5_apply (b : Fin 2) (R : Fin 112) (C : Fin 64) :
    k0_pay5 v0 v4 v8 v12 v18 v19 (ix3 b R C) = Quant.amaxOf (Quant.err (fn3 v0) (fn3 v8) (fn3 v4) (fn3 v12) (fn3 v18) (fn3 v19) b R C) := by
  obtain ⟨x, hx⟩ : ∃ x, x = k0_pay4 v0 v4 v8 v12 v18 v19 := ⟨_, rfl⟩
  have h : (Quant.err (fn3 v0) (fn3 v8) (fn3 v4) (fn3 v12) (fn3 v18) (fn3 v19) b R C) = fun i j => x (ix5 b R i C j) := by
    funext i j
    rw [hx, pay4_apply]
  rw [h, k0_pay5, ← hx]
  exact amax_block x b R C

theorem pay1_apply (b : Fin 2) (R : Fin 112) (C : Fin 64) :
    k0_pay1 (k0_pay6 v0 v4 v8 v12 v18 v19) (k0_pay7 v0 v4 v8 v12 v18 v19) (ix3 b R C) = Exponent.rExp (k0_pay5 v0 v4 v8 v12 v18 v19 (ix3 b R C)) := by
  obtain ⟨x, hx⟩ : ∃ x, x = k0_pay5 v0 v4 v8 v12 v18 v19 := ⟨_, rfl⟩
  rw [k0_pay6, k0_pay7, ← hx]
  pointwise [k0_pay1]
  unfold Exponent.rExp
  rw [Exponent.c_zero, Exponent.c_one]
  rfl

theorem pay3_apply (b : Fin 2) (i : Fin 56) (r : Fin 2) (C : Fin 64) :
    k0_pay3 (k0_pay6 v0 v4 v8 v12 v18 v19) (k0_pay7 v0 v4 v8 v12 v18 v19) (ix4 b i r C)
      = Quant.scale (fn3 v0) (fn3 v8) (fn3 v4) (fn3 v12) (fn3 v18) (fn3 v19) b ⟨i.val * 2 + r.val, by omega⟩ C := by
  obtain ⟨x, hx⟩ : ∃ x, x = k0_pay1 (k0_pay6 v0 v4 v8 v12 v18 v19) (k0_pay7 v0 v4 v8 v12 v18 v19) := ⟨_, rfl⟩
  have h := pay1_apply v0 v4 v8 v12 v18 v19 b ⟨i.val * 2 + r.val, by omega⟩ C
  rw [pay5_apply, ← hx] at h
  rw [Quant.scale, (Exponent.agree _).1, Exponent.rScale, ← h, k0_pay3, ← hx]
  pointwise
  rfl

theorem pay2_apply (b : Fin 2) (R : Fin 112) (i : Fin 128) (C : Fin 64) (j : Fin 128) :
    k0_pay2 (k0_pay4 v0 v4 v8 v12 v18 v19) (k0_pay6 v0 v4 v8 v12 v18 v19) (k0_pay7 v0 v4 v8 v12 v18 v19)
        (ix3 b (Quant.at128 (by decide) R i) (Quant.at128 (by decide) C j))
      = Quant.code (fn3 v0) (fn3 v8) (fn3 v4) (fn3 v12) (fn3 v18) (fn3 v19) b R C i j := by
  obtain ⟨x, hx⟩ : ∃ x, x = k0_pay1 (k0_pay6 v0 v4 v8 v12 v18 v19) (k0_pay7 v0 v4 v8 v12 v18 v19) := ⟨_, rfl⟩
  have h := pay1_apply v0 v4 v8 v12 v18 v19 b R C
  rw [pay5_apply, ← hx] at h
  obtain ⟨y, hy⟩ : ∃ y, y = k0_pay4 v0 v4 v8 v12 v18 v19 := ⟨_, rfl⟩
  have h4 := pay4_apply v0 v4 v8 v12 v18 v19 b R i C j
  rw [← hy] at h4
  rw [Quant.code, (Exponent.agree _).2, Exponent.rInv, ← h, ← h4, k0_pay2, ← hx, ← hy]
  unfold Quant.at128
  pointwise
  rfl

end Payloads

/-! ## The two arrays -/

variable (m : (ℓ : Loc nD τ sig) → Buf (Elt Ideal) ℓ) (ρ : Dev nD → PrngReg) (c : Dev nD)

theorem index0 (t : Fin cfg0.N) : win0_0.index t = ![0, 0, 0] := (by decide +kernel : ∀ t : Fin cfg0.N, win0_0.index t = ![0, 0, 0]) t
theorem index1 (t : Fin cfg0.N) : win0_1.index t = ![0, 0, 0] := (by decide +kernel : ∀ t : Fin cfg0.N, win0_1.index t = ![0, 0, 0]) t
theorem index2 (t : Fin cfg0.N) : win0_2.index t = ![0, 0, 0] := (by decide +kernel : ∀ t : Fin cfg0.N, win0_2.index t = ![0, 0, 0]) t
theorem index3 (t : Fin cfg0.N) : win0_3.index t = ![0, 0, 0] := (by decide +kernel : ∀ t : Fin cfg0.N, win0_3.index t = ![0, 0, 0]) t
theorem index4 (t : Fin cfg0.N) : win0_4.index t = ![0, 0, 0] := (by decide +kernel : ∀ t : Fin cfg0.N, win0_4.index t = ![0, 0, 0]) t
theorem index5 (t : Fin cfg0.N) : win0_5.index t = ![0, 0, 0] := (by decide +kernel : ∀ t : Fin cfg0.N, win0_5.index t = ![0, 0, 0]) t
theorem index6 (t : Fin cfg0.N) : win0_6.index t = ![0, 0, 0] := (by decide +kernel : ∀ t : Fin cfg0.N, win0_6.index t = ![0, 0, 0]) t
theorem index7 (t : Fin cfg0.N) : win0_7.index t = ![0, 0, 0, 0] := (by decide +kernel : ∀ t : Fin cfg0.N, win0_7.index t = ![0, 0, 0, 0]) t

theorem iblk0_eq (t : Fin cfg0.N) : iblk m c 0 t = V m c (Pipeline.arrRef spec0 0) := by funext y; blk_ext [iblk, index0 t]
theorem iblk1_eq (t : Fin cfg0.N) : iblk m c 1 t = V m c (Pipeline.arrRef spec0 1) := by funext y; blk_ext [iblk, index1 t]
theorem iblk2_eq (t : Fin cfg0.N) : iblk m c 2 t = V m c (Pipeline.arrRef spec0 2) := by funext y; blk_ext [iblk, index2 t]
theorem iblk3_eq (t : Fin cfg0.N) : iblk m c 3 t = V m c (Pipeline.arrRef spec0 3) := by funext y; blk_ext [iblk, index3 t]
theorem iblk4_eq (t : Fin cfg0.N) : iblk m c 4 t = V m c (Pipeline.arrRef spec0 4) := by funext y; blk_ext [iblk, index4 t]
theorem iblk5_eq (t : Fin cfg0.N) : iblk m c 5 t = V m c (Pipeline.arrRef spec0 5) := by funext y; blk_ext [iblk, index5 t]

theorem ld_whole0 {e : EltTy} (x : Vec Ideal S2x14336x8192 e) : View.ld (Val := Elt Ideal) x r0_0 = x := by
  funext y; refine congrArg x (funext fun a => Fin.ext ((Rect.idx_unit_val _ _ _ y a).trans ?_)); fin_cases a <;> exact Nat.zero_add _
theorem ld_whole1 (x : Vec Ideal S2x112x64 .f32) : View.ld (Val := Elt Ideal) x r0_1 = x := by
  funext y; refine congrArg x (funext fun a => Fin.ext ((Rect.idx_unit_val _ _ _ y a).trans ?_)); fin_cases a <;> exact Nat.zero_add _
theorem ld_whole2 (x : Vec Ideal S2x4x14336 .f32) : View.ld (Val := Elt Ideal) x r0_2 = x := by
  funext y; refine congrArg x (funext fun a => Fin.ext ((Rect.idx_unit_val _ _ _ y a).trans ?_)); fin_cases a <;> exact Nat.zero_add _
theorem ld_whole3 (x : Vec Ideal S2x4x8192 .f32) : View.ld (Val := Elt Ideal) x r0_3 = x := by
  funext y; refine congrArg x (funext fun a => Fin.ext ((Rect.idx_unit_val _ _ _ y a).trans ?_)); fin_cases a <;> exact Nat.zero_add _

/-- The codes, -/
def finalC : FVec Ideal S2x14336x8192 .fp8e4m3 :=
  k0_pay2 (k0_pay4 (V m c main_v0) (V m c main_arg1) (V m c main_v1) (V m c main_arg3) (V m c main_arg4) (V m c main_arg5))
    (k0_pay6 (V m c main_v0) (V m c main_arg1) (V m c main_v1) (V m c main_arg3) (V m c main_arg4) (V m c main_arg5))
    (k0_pay7 (V m c main_v0) (V m c main_arg1) (V m c main_v1) (V m c main_arg3) (V m c main_arg4) (V m c main_arg5))
/-- and the scales. -/
def finalS : FVec Ideal S2x56x2x64 .f32 :=
  k0_pay3 (k0_pay6 (V m c main_v0) (V m c main_arg1) (V m c main_v1) (V m c main_arg3) (V m c main_arg4) (V m c main_arg5))
    (k0_pay7 (V m c main_v0) (V m c main_arg1) (V m c main_v1) (V m c main_arg3) (V m c main_arg4) (V m c main_arg5))

theorem out6_eq (t : Fin cfg0.N) : out0_6 (iblk m c 0 t) (iblk m c 1 t) (iblk m c 2 t) (iblk m c 3 t) (iblk m c 4 t) (iblk m c 5 t) = finalC m c := by
  rw [iblk0_eq, iblk1_eq, iblk2_eq, iblk3_eq, iblk4_eq, iblk5_eq, out0_6, k0_pay8, k0_pay9]
  simp only [ld_whole0, ld_whole1, ld_whole2, ld_whole3]
  exact View.canon_cons_unit_lit _ _ _ (fun a => by fin_cases a <;> rfl)

theorem out7_eq (t : Fin cfg0.N) : out0_7 (iblk m c 0 t) (iblk m c 1 t) (iblk m c 2 t) (iblk m c 3 t) (iblk m c 4 t) (iblk m c 5 t) = finalS m c := by
  rw [iblk0_eq, iblk1_eq, iblk2_eq, iblk3_eq, iblk4_eq, iblk5_eq, out0_7, k0_pay8, k0_pay9]
  simp only [ld_whole0, ld_whole1, ld_whole2, ld_whole3]
  exact View.canon_cons_unit_lit _ _ _ (fun a => by fin_cases a <;> rfl)

theorem arr6 : (dats m 0 c).arrAt 6 cfg0.N = finalC m c := by
  refine (dats m 0 c).arrAt_eq_of_covers 6 _ (by decide +kernel) fun t hf y => ?_
  blk_simp
  rw [after0_6, out6_eq]
  blk_ext [index6 t]

theorem arr7 : (dats m 0 c).arrAt 7 cfg0.N = finalS m c := by
  refine (dats m 0 c).arrAt_eq_of_covers 7 _ (by decide +kernel) fun t hf y => ?_
  blk_simp
  rw [after0_7, out7_eq]
  blk_ext [index7 t]

/-- Every run ends with the two arrays, the arguments unchanged. -/
theorem run_arrays : θ_run defs (onTc (τ := τ) (main (F := Ideal))) ⟨m, fun _ => 0, ρ⟩ fun r => ∀ c : Dev nD,
      r.2.mem ((c : Thread nD τ).loc main_v2_0) = finalC m c
      ∧ r.2.mem ((c : Thread nD τ).loc main_v2_1) = finalS m c :=
  (θ_run defs _ _).mono (fun _ h c => ⟨((h c).1 6).trans (arr6 m c), ((h c).1 7).trans (arr7 m c)⟩) (run_main m ρ)

end Cert.RequantReferenceIdeal.Gen

end
-- ==== Proof.RqAgree.lean ====
/- Under the precondition the ideal kernel and the ideal reference of the call `requant` end with the same codes and the same scales. -/
module

public import proofs.«01_k».proof.Defs
public import proofs.«01_k».proof.Proof.RqValue
public import proofs.«01_k».proof.Proof.RqRef
public import proofs.«01_k».proof.Proof.Pre
public import proofs.«01_k».proof.Proof.Gen.Pre_finite_factors

@[expose] public section

set_option maxRecDepth 16384

noncomputable section

namespace Cert.Pre_finite_factors.Gen

open Idealize.ShloMosaic Cert.Pre_finite_factors

section Terms

variable {F : FTy → Type} [FloatOps F]

/-- Every element of p, -/
def pB (x : FVec F S2x4x14336 .f32) : IVec S_ 1 :=
  Host.reduce IntOp.andi (cmpf .olt (Host.absf x) (broadcastInDim S2x4x14336 ![] bcast_S_S2x4x14336 (constant S_ .f32 0x7F800000#32)))
    (constantI S_ 1 1#1) reducesTo_S2x4x14336_S_d0_1_2 h_S_
/-- and every element of q_new is finite. -/
def qB (x : FVec F S2x4x8192 .f32) : IVec S_ 1 :=
  Host.reduce IntOp.andi (cmpf .olt (Host.absf x) (broadcastInDim S2x4x8192 ![] bcast_S_S2x4x8192 (constant S_ .f32 0x7F800000#32)))
    (constantI S_ 1 1#1) reducesTo_S2x4x8192_S_d0_1_2 h_S_

theorem fn_eq (a0 : IVec S2x14336x8192 8) (a1 : FVec F S2x112x64 .f32) (a2 : IVec S2x14336x8192 8) (a3 : FVec F S2x112x64 .f32)
    (a4 : FVec F S2x4x14336 .f32) (a5 : FVec F S2x4x8192 .f32) : fn (F := F) a0 a1 a2 a3 a4 a5 = (pB a4, qB a5) := rfl

end Terms

theorem fin_of (x : EReal) (h : ∃ r : ℝ, x = (r : EReal)) : x ≠ ⊤ ∧ x ≠ ⊥ := by
  obtain ⟨r, rfl⟩ := h
  exact ⟨EReal.coe_ne_top r, EReal.coe_ne_bot r⟩

theorem pB_apply (x : FVec Ideal S2x4x14336 .f32) (h : pB x = fun _ => 1#1) (b : Fin 2) (k : Fin 4) (s : Fin 14336) :
    x (ix3 b k s) ≠ (⊤ : EReal) ∧ x (ix3 b k s) ≠ (⊥ : EReal) :=
  fin_of _ (Cert.Pre_full_rank.Gen.cmp_lt_top _ (Host.reduce_andi_all _ _ _ _ ix0 (congrFun h ix0) (ix3 b k s)))

theorem qB_apply (x : FVec Ideal S2x4x8192 .f32) (h : qB x = fun _ => 1#1) (b : Fin 2) (k : Fin 4) (s : Fin 8192) :
    x (ix3 b k s) ≠ (⊤ : EReal) ∧ x (ix3 b k s) ≠ (⊥ : EReal) :=
  fin_of _ (Cert.Pre_full_rank.Gen.cmp_lt_top _ (Host.reduce_andi_all _ _ _ _ ix0 (congrFun h ix0) (ix3 b k s)))

end Cert.Pre_finite_factors.Gen

namespace Cert.RqAgree

open Idealize.ShloMosaic Idealize.ShloMosaic.TcCoe Idealize.ShloMosaic.Tactic Idealize.SL.Sem

/-- The kernel's memory, -/
abbrev MemK := (ℓ : Loc Cert.RequantIdeal.nD Cert.RequantIdeal.τ Cert.RequantIdeal.sig) → Buf (Elt Ideal) ℓ
/-- and the reference's. -/
abbrev MemR := (ℓ : Loc Cert.RequantReferenceIdeal.nD Cert.RequantReferenceIdeal.τ Cert.RequantReferenceIdeal.sig) → Buf (Elt Ideal) ℓ

variable (m : MemK) (m' : MemR) (c : Dev Cert.RequantIdeal.nD)

/-! ## What the host operations leave in the arrays of codes -/

theorem kernel_g : Cert.RequantIdeal.Gen.V m c Cert.RequantIdeal.main_v0
    = bitcastToFloat (F := Ideal) .fp8e5m2 (m ((c.tc : Thread Cert.RequantIdeal.nD Cert.RequantIdeal.τ).loc Cert.RequantIdeal.main_arg0)) := by
  show StableHlo.after Cert.RequantIdeal.Gen.hostOps0 _ (Proc.devRef .tc Cert.RequantIdeal.main_v0) = _
  after_results

theorem kernel_e : Cert.RequantIdeal.Gen.V m c Cert.RequantIdeal.main_v1
    = bitcastToFloat (F := Ideal) .fp8e4m3 (m ((c.tc : Thread Cert.RequantIdeal.nD Cert.RequantIdeal.τ).loc Cert.RequantIdeal.main_arg2)) := by
  show StableHlo.after Cert.RequantIdeal.Gen.hostOps0 _ (Proc.devRef .tc Cert.RequantIdeal.main_v1) = _
  after_results

theorem reference_g : Cert.RequantReferenceIdeal.Gen.V m' c Cert.RequantReferenceIdeal.main_v0
    = bitcastToFloat (F := Ideal) .fp8e5m2 (m' ((c.tc : Thread Cert.RequantReferenceIdeal.nD Cert.RequantReferenceIdeal.τ).loc Cert.RequantReferenceIdeal.main_arg0)) := by
  show StableHlo.after Cert.RequantReferenceIdeal.Gen.hostOps0 _ (Proc.devRef .tc Cert.RequantReferenceIdeal.main_v0) = _
  after_results

theorem reference_e : Cert.RequantReferenceIdeal.Gen.V m' c Cert.RequantReferenceIdeal.main_v1
    = bitcastToFloat (F := Ideal) .fp8e4m3 (m' ((c.tc : Thread Cert.RequantReferenceIdeal.nD Cert.RequantReferenceIdeal.τ).loc Cert.RequantReferenceIdeal.main_arg2)) := by
  show StableHlo.after Cert.RequantReferenceIdeal.Gen.hostOps0 _ (Proc.devRef .tc Cert.RequantReferenceIdeal.main_v1) = _
  after_results

/-- The arrays the two regions read are the same. -/
structure Same : Prop where
  g : Cert.RequantReferenceIdeal.Gen.V m' c Cert.RequantReferenceIdeal.main_v0 = Cert.RequantIdeal.Gen.V m c Cert.RequantIdeal.main_v0
  gs : Cert.RequantReferenceIdeal.Gen.V m' c Cert.RequantReferenceIdeal.main_arg1 = Cert.RequantIdeal.Gen.V m c Cert.RequantIdeal.main_arg1
  e : Cert.RequantReferenceIdeal.Gen.V m' c Cert.RequantReferenceIdeal.main_v1 = Cert.RequantIdeal.Gen.V m c Cert.RequantIdeal.main_v1
  es : Cert.RequantReferenceIdeal.Gen.V m' c Cert.RequantReferenceIdeal.main_arg3 = Cert.RequantIdeal.Gen.V m c Cert.RequantIdeal.main_arg3
  p : Cert.RequantReferenceIdeal.Gen.V m' c Cert.RequantReferenceIdeal.main_arg4 = Cert.RequantIdeal.Gen.V m c Cert.RequantIdeal.main_arg4
  q : Cert.RequantReferenceIdeal.Gen.V m' c Cert.RequantReferenceIdeal.main_arg5 = Cert.RequantIdeal.Gen.V m c Cert.RequantIdeal.main_arg5

theorem codes_eq (h : Same m m' c) : Cert.RequantReferenceIdeal.Gen.finalC m' c = Cert.RequantIdeal.Gen.finalC m c := by
  refine funext fun y => ?_
  obtain ⟨b, s, d, rfl⟩ : ∃ (b : Fin 2) (s : Fin 14336) (d : Fin 8192), y = ix3 b s d := ⟨y 0, y 1, y 2, eq_ix3 y⟩
  have e1 : s = Quant.at128 (N := 112) (by decide) ⟨s.val / 128, by omega⟩ ⟨s.val % 128, by omega⟩ :=
    Fin.ext (by show s.val = s.val / 128 * 128 + s.val % 128; omega)
  have e2 : d = Quant.at128 (N := 64) (by decide) ⟨d.val / 128, by omega⟩ ⟨d.val % 128, by omega⟩ :=
    Fin.ext (by show d.val = d.val / 128 * 128 + d.val % 128; omega)
  have hk : Cert.RequantIdeal.Gen.finalC m c (ix3 b s d)
      = Cert.RequantIdeal.Gen.codeOf m c b ⟨s.val / 128, by omega⟩ ⟨d.val / 128, by omega⟩ ⟨s.val % 128, by omega⟩ ⟨d.val % 128, by omega⟩ := rfl
  have hr : Cert.RequantReferenceIdeal.Gen.finalC m' c (ix3 b s d) = _ :=
    (congrArg₂ (fun s d => Cert.RequantReferenceIdeal.Gen.finalC m' c (ix3 b s d)) e1 e2).trans
      (Cert.RequantReferenceIdeal.Gen.pay2_apply _ _ _ _ _ _ b ⟨s.val / 128, by omega⟩ ⟨s.val % 128, by omega⟩ ⟨d.val / 128, by omega⟩ ⟨d.val % 128, by omega⟩)
  rw [hk, hr, h.g, h.gs, h.e, h.es, h.p, h.q]
  rfl

theorem scales_eq (h : Same m m' c) : Cert.RequantReferenceIdeal.Gen.finalS m' c = Cert.RequantIdeal.Gen.finalS m c := by
  refine funext fun y => ?_
  obtain ⟨b, i, r, n, rfl⟩ : ∃ (b : Fin 2) (i : Fin 56) (r : Fin 2) (n : Fin 64), y = ix4 b i r n := ⟨y 0, y 1, y 2, y 3, eq_ix4 y⟩
  have hk : Cert.RequantIdeal.Gen.finalS m c (ix4 b i r n) = Cert.RequantIdeal.Gen.scaleAt m c b ⟨i.val * 2 + r.val, by omega⟩ n := rfl
  have hr : Cert.RequantReferenceIdeal.Gen.finalS m' c (ix4 b i r n) = _ := Cert.RequantReferenceIdeal.Gen.pay3_apply _ _ _ _ _ _ b i r n
  rw [hk, hr, h.g, h.gs, h.e, h.es, h.p, h.q]
  rfl

/-- The claim: both programs run, with the kernel's results in both memories and their arguments unchanged. -/
theorem algebraic : Cert.algebraic_RequantIdeal_RequantReferenceIdeal_pre_finite_factors := by
  intro m g m' g' hp hs
  have hF : ∀ c, Cert.RequantIdeal.Gen.Fin4 m c := fun c => by
    obtain ⟨h0, h1⟩ := hp c
    rw [Cert.Pre_finite_factors.Gen.fn_eq] at h0 h1
    dsimp only at h0 h1
    exact ⟨fun b k s => by rw [Cert.RequantIdeal.Gen.V_main_arg4]; exact Cert.Pre_finite_factors.Gen.pB_apply _ h0 b k s,
      fun b k d => by rw [Cert.RequantIdeal.Gen.V_main_arg5]; exact Cert.Pre_finite_factors.Gen.qB_apply _ h1 b k d⟩
  have hS : ∀ c, Same m m' c := fun c => by
    obtain ⟨s0, s1, s2, s3, s4, s5⟩ := hs c
    exact ⟨(reference_g m' c).trans ((congrArg _ s0).trans (kernel_g m c).symm),
      (Cert.RequantReferenceIdeal.Gen.V_main_arg1 m' c).trans (s1.trans (Cert.RequantIdeal.Gen.V_main_arg1 m c).symm),
      (reference_e m' c).trans ((congrArg _ s2).trans (kernel_e m c).symm),
      (Cert.RequantReferenceIdeal.Gen.V_main_arg3 m' c).trans (s3.trans (Cert.RequantIdeal.Gen.V_main_arg3 m c).symm),
      (Cert.RequantReferenceIdeal.Gen.V_main_arg4 m' c).trans (s4.trans (Cert.RequantIdeal.Gen.V_main_arg4 m c).symm),
      (Cert.RequantReferenceIdeal.Gen.V_main_arg5 m' c).trans (s5.trans (Cert.RequantIdeal.Gen.V_main_arg5 m c).symm)⟩
  refine ⟨fun c => Cert.RequantIdeal.Gen.finalC m c, fun c => Cert.RequantIdeal.Gen.finalS m c, ?_, ?_⟩
  · exact (θ_run _ _ _).mono (fun r h c => ⟨(h c).1.trans (Cert.RequantIdeal.Gen.arr6 m c (hF c)),
      (h c).2.1.trans (Cert.RequantIdeal.Gen.arr7 m c (hF c)), (h c).2.2⟩) (Cert.RequantIdeal.Value.run_blocks m g)
  · exact (θ_run _ _ _).mono (fun r h c => ⟨(h.1 c).1.trans (codes_eq m m' c (hS c)), (h.1 c).2.trans (scales_eq m m' c (hS c)), h.2.1 c⟩)
      (θ_run_and (Cert.RequantReferenceIdeal.Gen.run_arrays m' g') (Cert.RequantReferenceIdeal.Gen.frame m' g'))

end Cert.RqAgree

end
-- ==== Proof.lean ====
/- The certificate's proof. -/
module

public import proofs.«01_k».proof.Defs
public import proofs.«01_k».proof.Proof.Twin
public import proofs.«01_k».proof.Proof.KValue
public import proofs.«01_k».proof.Proof.Agree
public import proofs.«01_k».proof.Proof.RqAgree
public import proofs.«01_k».proof.Proof.Gen.ReferenceIdeal.Frame
public import proofs.«01_k».proof.Proof.Gen.Requant.Frame
public import proofs.«01_k».proof.Proof.Gen.RequantIdeal.Value
public import proofs.«01_k».proof.Proof.Gen.RequantReferenceIdeal.Frame
public import proofs.«01_k».proof.Proof.Gen.Pre_finite_factors

@[expose] public section

noncomputable section

namespace Cert.Proof

open Idealize.ShloMosaic Idealize.SL.Sem

/-- The certificate: the programs run and keep their arguments, each ideal kernel is its kernel's own text, and under its
    precondition each ideal kernel and its ideal reference have equal results. -/
theorem claim : Cert.Claim :=
  ⟨Cert.Kernel.Gen.facts, Cert.KernelIdeal.Gen.facts, Cert.ReferenceIdeal.Gen.facts, Cert.Requant.Gen.facts, Cert.RequantIdeal.Gen.facts,
    Cert.RequantReferenceIdeal.Gen.facts, Cert.Pre_full_rank.Gen.facts, Cert.Pre_finite_factors.Gen.facts,
    fun m g _ => (Cert.Twin.frame_eq (F := Bits)).mpr (fun m g => Cert.KernelIdeal.Gen.frame m g) m g,
    fun m g _ => Cert.KernelIdeal.Gen.frame m g, fun m g _ => Cert.KernelIdeal.Gen.frame m g,
    fun m g _ => Cert.ReferenceIdeal.Gen.frame m g, fun m g _ => Cert.ReferenceIdeal.Gen.frame m g,
    fun m g _ => Cert.Requant.Gen.frame m g,
    fun m g _ => Cert.RequantIdeal.Gen.frame m g, fun m g _ => Cert.RequantIdeal.Gen.frame m g,
    fun m g _ => Cert.RequantReferenceIdeal.Gen.frame m g, fun m g _ => Cert.RequantReferenceIdeal.Gen.frame m g,
    trivial, Cert.Agree.algebraic, trivial, Cert.RqAgree.algebraic⟩

end Cert.Proof

end
